-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_expert_tables : Cert.Pre_expert_tables.Facts] (m : (ℓ : Loc Cert.Kernel2.nD Cert.Kernel2.τ Cert.Kernel2.sig) → Buf (Elt Bits) ℓ) : Prop :=
  ∀ c : Dev Cert.Kernel2.nD,
    (Cert.Pre_expert_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_expert_tables : Cert.Pre_expert_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Kernel2Ideal_expert_inputs [hPre_expert_inputs : Cert.Pre_expert_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_inputs [hPre_expert_inputs : Cert.Pre_expert_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_expert_tables : Cert.Pre_expert_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_expert_tables : Cert.Pre_expert_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_expert_inputs [hKernel2Ideal : Cert.Kernel2Ideal.Facts] [hPre_expert_inputs : Cert.Pre_expert_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_expert_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_expert_inputs [hReference2Ideal : Cert.Reference2Ideal.Facts] [hPre_expert_inputs : Cert.Pre_expert_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_expert_inputs [hKernel2Ideal : Cert.Kernel2Ideal.Facts] [hReference2Ideal : Cert.Reference2Ideal.Facts] [hPre_expert_inputs : Cert.Pre_expert_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_expert_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v0_1)) (v1 : (c : Dev Cert.Kernel6Ideal.nD) → Buf (Elt Ideal) ((c.tc : Thread Cert.Kernel6Ideal.nD Cert.Kernel6Ideal.τ).loc Cert.Kernel6Ideal.main_v0_4)) (v2 : (c : Dev Cert.Kernel6Ideal.nD) → Buf (Elt Ideal) ((c.tc : Thread Cert.Kernel6Ideal.nD Cert.Kernel6Ideal.τ).loc Cert.Kernel6Ideal.main_v0_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_v0_4) = v1 c
          ∧ r.2.mem ((c.tc : Thread Cert.Kernel6Ideal.nD Cert.Kernel6Ideal.τ).loc Cert.Kernel6Ideal.main_v0_5) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v0_1)) (v1 : (c : Dev Cert.Kernel7Ideal.nD) → Buf (Elt Ideal) ((c.tc : Thread Cert.Kernel7Ideal.nD Cert.Kernel7Ideal.τ).loc Cert.Kernel7Ideal.main_v0_4)) (v2 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_v0_4) = v1 c
          ∧ r.2.mem ((c.tc : Thread Cert.Kernel7Ideal.nD Cert.Kernel7Ideal.τ).loc Cert.Kernel7Ideal.main_v0_5) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_expert_tables : Cert.Pre_expert_tables.Facts) (hPre_expert_inputs : Cert.Pre_expert_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_expert_tables := hPre_expert_tables)
    ∧ quiescent_Kernel2Ideal (hKernel2Ideal := hKernel2Ideal) (hPre_expert_tables := hPre_expert_tables)
    ∧ quiescent_Kernel2Ideal_pre_expert_inputs (hKernel2Ideal := hKernel2Ideal) (hPre_expert_inputs := hPre_expert_inputs)
    ∧ quiescent_Reference2Ideal (hReference2Ideal := hReference2Ideal)
    ∧ quiescent_Reference2Ideal_pre_expert_inputs (hReference2Ideal := hReference2Ideal) (hPre_expert_inputs := hPre_expert_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_expert_inputs (hKernel2Ideal := hKernel2Ideal) (hReference2Ideal := hReference2Ideal) (hPre_expert_inputs := hPre_expert_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_expert_inputs.lean ====
abbrev S80 : Shape := ⟨1, ![80]⟩
abbrev S1 : Shape := ⟨1, ![1]⟩
abbrev S40960x1152 : Shape := ⟨2, ![40960, 1152]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_
  bcast_S_S40960x1152 : S_.BroadcastsInDim S40960x1152 (![] : Fin 0 → Fin S40960x1152.rank)
  reducesTo_S40960x1152_S_d0_1 : S40960x1152.ReducesTo [0, 1] S_
  bcast_S_S8x1024x3584 : S_.BroadcastsInDim S8x1024x3584 (![] : Fin 0 → Fin S8x1024x3584.rank)
  reducesTo_S8x1024x3584_S_d0_1_2 : S8x1024x3584.ReducesTo [0, 1, 2] S_
  bcast_S_S8x3584x1024 : S_.BroadcastsInDim S8x3584x1024 (![] : Fin 0 → Fin S8x3584x1024.rank)
  reducesTo_S8x3584x1024_S_d0_1_2 : S8x3584x1024.ReducesTo [0, 1, 2] S_

variable [Facts]

def fn_part1 {F : FTy → Type} [FloatOps F] (main_arg4 : FVec F S8x1024x3584 .bf16) (main_arg5 : FVec F S8x3584x1024 .bf16) (main_v14 : IVec S_ 1) (main_v15 : FVec F S8x1024x3584 .bf16) (main_cst_5 : FVec F S_ .bf16) : IVec S_ 1 :=
  let main_v16 : FVec F S8x1024x3584 .bf16 := broadcastInDim S8x1024x3584 ![] bcast_S_S8x1024x3584 main_cst_5
  let main_v17 : IVec S8x1024x3584 1 := cmpf .olt main_v15 main_v16
  let main_c_6 : IVec S_ 1 := constantI S_ 1 1#1
  let main_v18 : IVec S_ 1 := (fun x v => Host.reduce IntOp.andi x v reducesTo_S8x1024x3584_S_d0_1_2 h_S_) main_v17 main_c_6
  let main_v19 : IVec S_ 1 := andi main_v14 main_v18
  let main_v20 : FVec F S8x1024x3584 .bf16 := Host.absf main_arg4
  let main_cst_7 : FVec F S_ .bf16 := constant S_ .bf16 0x7F80#16
  let main_v21 : FVec F S8x1024x3584 .bf16 := broadcastInDim S8x1024x3584 ![] bcast_S_S8x1024x3584 main_cst_7
  let main_v22 : IVec S8x1024x3584 1 := cmpf .olt main_v20 main_v21
  let main_c_8 : IVec S_ 1 := constantI S_ 1 1#1
  let main_v23 : IVec S_ 1 := (fun x v => Host.reduce IntOp.andi x v reducesTo_S8x1024x3584_S_d0_1_2 h_S_) main_v22 main_c_8
  let main_v24 : IVec S_ 1 := andi main_v19 main_v23
  let main_v25 : FVec F S8x3584x1024 .bf16 := Host.absf main_arg5
  let main_cst_9 : FVec F S_ .bf16 := constant S_ .bf16 0x7F80#16
  let main_v26 : FVec F S8x3584x1024 .bf16 := broadcastInDim S8x3584x1024 ![] bcast_S_S8x3584x1024 main_cst_9
  let main_v27 : IVec S8x3584x1024 1 := cmpf .olt main_v25 main_v26
  let main_c_10 : IVec S_ 1 := constantI S_ 1 1#1
  let main_v28 : IVec S_ 1 := (fun x v => Host.reduce IntOp.andi x v reducesTo_S8x3584x1024_S_d0_1_2 h_S_) main_v27 main_c_10
  let main_v29 : IVec S_ 1 := andi main_v24 main_v28
  main_v29

def fn {F : FTy → Type} [FloatOps F] (main_arg0 : IVec S80 32) (main_arg1 : IVec S1 32) (main_arg2 : FVec F S40960x1152 .bf16) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 8#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  let main_v10 : FVec F S40960x1152 .bf16 := Host.absf main_arg2
  let main_cst : FVec F S_ .bf16 := constant S_ .bf16 0x7F80#16
  let main_v11 : FVec F S40960x1152 .bf16 := broadcastInDim S40960x1152 ![] bcast_S_S40960x1152 main_cst
  let main_v12 : IVec S40960x1152 1 := cmpf .olt main_v10 main_v11
  let main_c_4 : IVec S_ 1 := constantI S_ 1 1#1
  let main_v13 : IVec S_ 1 := (fun x v => Host.reduce IntOp.andi x v reducesTo_S40960x1152_S_d0_1 h_S_) main_v12 main_c_4
  let main_v14 : IVec S_ 1 := andi main_v9 main_v13
  let main_v15 : FVec F S8x1024x3584 .bf16 := Host.absf main_arg3
  let main_cst_5 : FVec F S_ .bf16 := constant S_ .bf16 0x7F80#16
  fn_part1 (F := F) main_arg4 main_arg5 main_v14 main_v15 main_cst_5
-- ==== Pre_expert_tables.lean ====
abbrev S80 : Shape := ⟨1, ![80]⟩
abbrev S1 : Shape := ⟨1, ![1]⟩
abbrev S40960x1152 : Shape := ⟨2, ![40960, 1152]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S80 32) (main_arg1 : IVec S1 32) (main_arg2 : FVec F S40960x1152 .bf16) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 8#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_finite_inputs.lean ====
abbrev S1x1 : Shape := ⟨2, ![1, 1]⟩
abbrev S18432x1024 : Shape := ⟨2, ![18432, 1024]⟩
abbrev S18432x512 : Shape := ⟨2, ![18432, 512]⟩
abbrev S1x128 : Shape := ⟨2, ![1, 128]⟩
abbrev S_ : Shape := ⟨0, ![]⟩

class Facts : Prop where
  bcast_S_S1x1 : S_.BroadcastsInDim S1x1 (![] : Fin 0 → Fin S1x1.rank)
  reducesTo_S1x1_S_d0_1 : S1x1.ReducesTo [0, 1] S_
  h_S_ : 0 < S_.numel
  bcast_S_S18432x1024 : S_.BroadcastsInDim S18432x1024 (![] : Fin 0 → Fin S18432x1024.rank)
  reducesTo_S18432x1024_S_d0_1 : S18432x1024.ReducesTo [0, 1] S_
  bcast_S_S18432x512 : S_.BroadcastsInDim S18432x512 (![] : Fin 0 → Fin S18432x512.rank)
  reducesTo_S18432x512_S_d0_1 : S18432x512.ReducesTo [0, 1] S_

variable [Facts]

def fn {F : FTy → Type} [FloatOps F] (main_arg0 : FVec F S1x1 .f32) (main_arg1 : FVec F S18432x1024 .bf16) (main_arg2 : FVec F S18432x512 .bf16) (main_arg3 : FVec F S1x128 .f32) : IVec S_ 1 :=
  let main_v0 : FVec F S1x1 .f32 := Host.absf main_arg0
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_c : IVec S_ 1 := constantI S_ 1 1#1
  let main_v3 : IVec S_ 1 := (fun x v => Host.reduce IntOp.andi x v reducesTo_S1x1_S_d0_1 h_S_) main_v2 main_c
  let main_v4 : FVec F S18432x1024 .bf16 := Host.absf main_arg1
  let main_cst_0 : FVec F S_ .bf16 := constant S_ .bf16 0x7F80#16
  let main_v5 : FVec F S18432x1024 .bf16 := broadcastInDim S18432x1024 ![] bcast_S_S18432x1024 main_cst_0
  let main_v6 : IVec S18432x1024 1 := cmpf .olt main_v4 main_v5
  let main_c_1 : IVec S_ 1 := constantI S_ 1 1#1
  let main_v7 : IVec S_ 1 := (fun x v => Host.reduce IntOp.andi x v reducesTo_S18432x1024_S_d0_1 h_S_) main_v6 main_c_1
  let main_v8 : IVec S_ 1 := andi main_v3 main_v7
  let main_v9 : FVec F S18432x512 .bf16 := Host.absf main_arg2
  let main_cst_2 : FVec F S_ .bf16 := constant S_ .bf16 0x7F80#16
  let main_v10 : FVec F S18432x512 .bf16 := broadcastInDim S18432x512 ![] bcast_S_S18432x512 main_cst_2
  let main_v11 : IVec S18432x512 1 := cmpf .olt main_v9 main_v10
  let main_c_3 : IVec S_ 1 := constantI S_ 1 1#1
  let main_v12 : IVec S_ 1 := (fun x v => Host.reduce IntOp.andi x v reducesTo_S18432x512_S_d0_1 h_S_) main_v11 main_c_3
  let main_v13 : IVec S_ 1 := andi main_v8 main_v12
  main_v13
-- ==== Kernel.lean ====
abbrev S1x1 : Shape := ⟨2, ![1, 1]⟩
abbrev S18432x1024 : Shape := ⟨2, ![18432, 1024]⟩
abbrev S18432x512 : Shape := ⟨2, ![18432, 512]⟩
abbrev S1x128 : Shape := ⟨2, ![1, 128]⟩
abbrev S16384x512 : Shape := ⟨2, ![16384, 512]⟩
abbrev S2048x128 : Shape := ⟨2, ![2048, 128]⟩
abbrev S256x128 : Shape := ⟨2, ![256, 128]⟩
abbrev S2x256x2304 : Shape := ⟨3, ![2, 256, 2304]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 5
  | .vmem => 14
  | .smem => 1
  | _ => 0

abbrev bufTy : (tb : Table) → Fin (tcTables nBuf tb) → BufTy
  | .hbm, ⟨0, _⟩ => ⟨S1x1, .f32⟩
  | .hbm, ⟨1, _⟩ => ⟨S18432x1024, .bf16⟩
  | .hbm, ⟨2, _⟩ => ⟨S18432x512, .bf16⟩
  | .hbm, ⟨3, _⟩ => ⟨S1x128, .f32⟩
  | .hbm, ⟨4, _⟩ => ⟨S16384x512, .bf16⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x128, .f32⟩
  | .local _ .vmem, ⟨11, _⟩ => ⟨S2048x128, .bf16⟩
  | .local _ .vmem, ⟨12, _⟩ => ⟨S2048x128, .bf16⟩
  | .local _ .vmem, ⟨13, _⟩ => ⟨S2x256x2304, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c1_i32_0 : BitVec 32 := 1#32
  let v1 : BitVec 32 := Scalar.addi c1_i32_0 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c4_i32 : BitVec 32 := 4#32
  let v1 : BitVec 32 := Scalar.addi c4_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S1x1 : Shape := ⟨2, ![1, 1]⟩
abbrev S18432x1024 : Shape := ⟨2, ![18432, 1024]⟩
abbrev S18432x512 : Shape := ⟨2, ![18432, 512]⟩
abbrev S1x128 : Shape := ⟨2, ![1, 128]⟩
abbrev S16384x512 : Shape := ⟨2, ![16384, 512]⟩
abbrev S8x2048x4x2x64 : Shape := ⟨5, ![8, 2048, 4, 2, 64]⟩
abbrev S2048x512 : Shape := ⟨2, ![2048, 512]⟩
abbrev S8x256x4x2x64 : Shape := ⟨5, ![8, 256, 4, 2, 64]⟩
abbrev S8x2048x4x128 : Shape := ⟨4, ![8, 2048, 4, 128]⟩
abbrev S8x256x4x128 : Shape := ⟨4, ![8, 256, 4, 128]⟩
abbrev S8x2304x4x2x64 : Shape := ⟨5, ![8, 2304, 4, 2, 64]⟩
abbrev S8x2304x4x128 : Shape := ⟨4, ![8, 2304, 4, 128]⟩
abbrev S8x4x2x2048x2304 : Shape := ⟨5, ![8, 4, 2, 2048, 2304]⟩
abbrev S_ : Shape := ⟨0, ![]⟩
abbrev S8x4x2x2048 : Shape := ⟨4, ![8, 4, 2, 2048]⟩
abbrev S8x4x2x2048x1 : Shape := ⟨5, ![8, 4, 2, 2048, 1]⟩
abbrev S8x4x1x2048x2304 : Shape := ⟨5, ![8, 4, 1, 2048, 2304]⟩
abbrev S8x4x2048x2304 : Shape := ⟨4, ![8, 4, 2048, 2304]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 69
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S18432x1024, .bf16⟩
  | .hbm, ⟨2, _⟩ => ⟨S18432x512, .bf16⟩
  | .hbm, ⟨3, _⟩ => ⟨S1x128, .f32⟩
  | .hbm, ⟨4, _⟩ => ⟨S18432x1024, .f32⟩
  | .hbm, ⟨5, _⟩ => ⟨S18432x512, .f32⟩
  | .hbm, ⟨6, _⟩ => ⟨S16384x512, .f32⟩
  | .hbm, ⟨7, _⟩ => ⟨S8x2048x4x2x64, .f32⟩
  | .hbm, ⟨8, _⟩ => ⟨S16384x512, .f32⟩
  | .hbm, ⟨9, _⟩ => ⟨S8x2048x4x2x64, .f32⟩
  | .hbm, ⟨10, _⟩ => ⟨S2048x512, .f32⟩
  | .hbm, ⟨11, _⟩ => ⟨S8x256x4x2x64, .f32⟩
  | .hbm, ⟨12, _⟩ => ⟨S16384x512, .f32⟩
  | .hbm, ⟨13, _⟩ => ⟨S8x2048x4x128, .f32⟩
  | .hbm, ⟨14, _⟩ => ⟨S2048x512, .f32⟩
  | .hbm, ⟨15, _⟩ => ⟨S8x256x4x128, .f32⟩
  | .hbm, ⟨16, _⟩ => ⟨S8x2304x4x2x64, .f32⟩
  | .hbm, ⟨17, _⟩ => ⟨S8x2304x4x128, .f32⟩
  | .hbm, ⟨18, _⟩ => ⟨S8x4x2x2048x2304, .f32⟩
  | .hbm, ⟨19, _⟩ => ⟨S_, .f32⟩
  | .hbm, ⟨20, _⟩ => ⟨S_, .f32⟩
  | .hbm, ⟨21, _⟩ => ⟨S8x4x2x2048x2304, .f32⟩
  | .hbm, ⟨22, _⟩ => ⟨S8x4x2x2048x2304, .f32⟩
  | .hbm, ⟨23, _⟩ => ⟨S_, .f32⟩
  | .hbm, ⟨24, _⟩ => ⟨S8x4x2x2048, .f32⟩
  | .hbm, ⟨25, _⟩ => ⟨S_, .f32⟩
  | .hbm, ⟨26, _⟩ => ⟨S8x4x2x2048, .f32⟩
  | .hbm, ⟨27, _⟩ => ⟨S8x4x2x2048, .f32⟩
  | .hbm, ⟨28, _⟩ => ⟨S8x4x2x2048x1, .f32⟩
  | .hbm, ⟨29, _⟩ => ⟨S8x4x2x2048x2304, .f32⟩
  | .hbm, ⟨30, _⟩ => ⟨S8x4x2x2048x2304, .f32⟩
  | .hbm, ⟨31, _⟩ => ⟨S8x4x2x2048x2304, .f32⟩
  | .hbm, ⟨32, _⟩ => ⟨S_, .f32⟩
  | .hbm, ⟨33, _⟩ => ⟨S8x4x2x2048, .f32⟩
  | .hbm, ⟨34, _⟩ => ⟨S8x4x2x2048x1, .f32⟩
  | .hbm, ⟨35, _⟩ => ⟨S8x4x2x2048x2304, .f32⟩
  | .hbm, ⟨36, _⟩ => ⟨S8x4x2x2048x2304, .f32⟩
  | .hbm, ⟨37, _⟩ => ⟨S8x4x1x2048x2304, .f32⟩
  | .hbm, ⟨38, _⟩ => ⟨S8x4x2048x2304, .f32⟩
  | .hbm, ⟨39, _⟩ => ⟨S_, .f32⟩
  | .hbm, ⟨40, _⟩ => ⟨S8x4x1x2048x2304, .f32⟩
  | .hbm, ⟨41, _⟩ => ⟨S8x4x2048x2304, .f32⟩
  | .hbm, ⟨42, _⟩ => ⟨S8x4x2048x2304, .f32⟩
  | .hbm, ⟨43, _⟩ => ⟨S8x4x2048x2304, .f32⟩
  | .hbm, ⟨44, _⟩ => ⟨S8x4x2048x2304, .f32⟩
  | .hbm, ⟨45, _⟩ => ⟨S8x4x128x2048, .f32⟩
  | .hbm, ⟨46, _⟩ => ⟨S8x2048x4x128, .f32⟩
  | .hbm, ⟨47, _⟩ => ⟨S8x2048x4x128, .f32⟩
  | .hbm, ⟨48, _⟩ => ⟨S_, .f32⟩
  | .hbm, ⟨49, _⟩ => ⟨S8x2048x4, .f32⟩
  | .hbm, ⟨50, _⟩ => ⟨S8x2048x4x1, .f32⟩
  | .hbm, ⟨51, _⟩ => ⟨S_, .f32⟩
  | .hbm, ⟨52, _⟩ => ⟨S8x2048x4x1, .f32⟩
  | .hbm, ⟨53, _⟩ => ⟨S8x2048x4x1, .f32⟩
  | .hbm, ⟨54, _⟩ => ⟨S_, .f32⟩
  | .hbm, ⟨55, _⟩ => ⟨S8x2048x4x1, .f32⟩
  | .hbm, ⟨56, _⟩ => ⟨S8x2048x4x1, .f32⟩
  | .hbm, ⟨57, _⟩ => ⟨S8x2048x4x1, .f32⟩
  | .hbm, ⟨58, _⟩ => ⟨S8x2048x4x128, .f32⟩
  | .hbm, ⟨59, _⟩ => ⟨S8x2048x4x128, .f32⟩
  | .hbm, ⟨60, _⟩ => ⟨S128, .f32⟩
  | .hbm, ⟨61, _⟩ => ⟨S1x1x1x128, .f32⟩
  | .hbm, ⟨62, _⟩ => ⟨S8x2048x4x128, .f32⟩
  | .hbm, ⟨63, _⟩ => ⟨S8x2048x4x128, .f32⟩
  | .hbm, ⟨64, _⟩ => ⟨S_, .f32⟩
  | .hbm, ⟨65, _⟩ => ⟨S8x2048x4x128, .f32⟩
  | .hbm, ⟨66, _⟩ => ⟨S8x2048x4x128, .f32⟩
  | .hbm, ⟨67, _⟩ => ⟨S16384x512, .f32⟩
  | .hbm, ⟨68, _⟩ => ⟨S16384x512, .bf16⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel2.lean ====
abbrev S80 : Shape := ⟨1, ![80]⟩
abbrev S1 : Shape := ⟨1, ![1]⟩
abbrev S40960x1152 : Shape := ⟨2, ![40960, 1152]⟩
abbrev S8x1024x3584 : Shape := ⟨3, ![8, 1024, 3584]⟩
abbrev S8x3584x1024 : Shape := ⟨3, ![8, 3584, 1024]⟩
abbrev S40960x1024 : Shape := ⟨2, ![40960, 1024]⟩
abbrev S512x1152 : Shape := ⟨2, ![512, 1152]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1152, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S40960x1024, .bf16⟩
  | .local _ .vmem, ⟨0, _⟩ => ⟨S512x1152, .bf16⟩
  | .local _ .vmem, ⟨1, _⟩ => ⟨S512x1152, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S80, .i32⟩
  | .local _ .smem, ⟨1, _⟩ => ⟨S1, .i32⟩
  | _, _ => ⟨S40960x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![80, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v19 : Index := Scalar.indexCast arg0
  ![v19.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32 : BitVec 32 := 1#32
  let v50 : BitVec 1 := Scalar.cmpi .eq arg1 c1_i32
  let v51 : BitVec 32 := Scalar.extui v50
  let c0_i32_25 : BitVec 32 := 0#32
  let v52 : BitVec 1 := Scalar.cmpi .ne v51 c0_i32_25
  v52

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S80.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S80.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S80 : Shape := ⟨1, ![80]⟩
abbrev S1 : Shape := ⟨1, ![1]⟩
abbrev S40960x1152 : Shape := ⟨2, ![40960, 1152]⟩
abbrev S8x1024x3584 : Shape := ⟨3, ![8, 1024, 3584]⟩
abbrev S8x3584x1024 : Shape := ⟨3, ![8, 3584, 1024]⟩
abbrev S40960x1024 : Shape := ⟨2, ![40960, 1024]⟩
abbrev S40960x8 : Shape := ⟨2, ![40960, 8]⟩
abbrev S80x1 : Shape := ⟨2, ![80, 1]⟩
abbrev S80x512 : Shape := ⟨2, ![80, 512]⟩
abbrev S40960 : Shape := ⟨1, ![40960]⟩
abbrev S40960x1 : Shape := ⟨2, ![40960, 1]⟩
abbrev S8 : Shape := ⟨1, ![8]⟩
abbrev S1x8 : Shape := ⟨2, ![1, 8]⟩
abbrev S_ : Shape := ⟨0, ![]⟩
abbrev S8x3584x40960 : Shape := ⟨3, ![8, 3584, 40960]⟩
abbrev S8x40960x3584 : Shape := ⟨3, ![8, 40960, 3584]⟩
abbrev S8x40960x1024 : Shape := ⟨3, ![8, 40960, 1024]⟩
abbrev S8x40960 : Shape := ⟨2, ![8, 40960]⟩
abbrev S8x40960x1 : Shape := ⟨3, ![8, 40960, 1]⟩

abbrev nBuf : Space → Nat
  | .hbm => 60
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S40960x1152, .bf16⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S40960x1152, .f32⟩
  | .hbm, ⟨7, _⟩ => ⟨S8x1024x3584, .f32⟩
  | .hbm, ⟨8, _⟩ => ⟨S8x1024x3584, .f32⟩
  | .hbm, ⟨9, _⟩ => ⟨S8x3584x1024, .f32⟩
  | .hbm, ⟨10, _⟩ => ⟨S40960x1024, .f32⟩
  | .hbm, ⟨11, _⟩ => ⟨S40960x8, .f32⟩
  | .hbm, ⟨12, _⟩ => ⟨S40960x8, .f32⟩
  | .hbm, ⟨13, _⟩ => ⟨S40960x8, .f32⟩
  | .hbm, ⟨14, _⟩ => ⟨S40960x8, .f32⟩
  | .hbm, ⟨15, _⟩ => ⟨S40960x8, .f32⟩
  | .hbm, ⟨16, _⟩ => ⟨S80x1, .i32⟩
  | .hbm, ⟨17, _⟩ => ⟨S80x512, .i32⟩
  | .hbm, ⟨18, _⟩ => ⟨S40960, .i32⟩
  | .hbm, ⟨19, _⟩ => ⟨S80, .i32⟩
  | .hbm, ⟨20, _⟩ => ⟨S80x1, .i32⟩
  | .hbm, ⟨21, _⟩ => ⟨S80x512, .i32⟩
  | .hbm, ⟨22, _⟩ => ⟨S40960, .i32⟩
  | .hbm, ⟨23, _⟩ => ⟨S40960x1, .i32⟩
  | .hbm, ⟨24, _⟩ => ⟨S8, .i32⟩
  | .hbm, ⟨25, _⟩ => ⟨S1x8, .i32⟩
  | .hbm, ⟨26, _⟩ => ⟨S40960x8, .i32⟩
  | .hbm, ⟨27, _⟩ => ⟨S40960x8, .i32⟩
  | .hbm, ⟨28, _⟩ => ⟨S40960x8, .i1⟩
  | .hbm, ⟨29, _⟩ => ⟨S_, .i32⟩
  | .hbm, ⟨30, _⟩ => ⟨S40960, .i32⟩
  | .hbm, ⟨31, _⟩ => ⟨S40960, .i1⟩
  | .hbm, ⟨32, _⟩ => ⟨S40960x1, .i1⟩
  | .hbm, ⟨33, _⟩ => ⟨S40960x8, .i1⟩
  | .hbm, ⟨34, _⟩ => ⟨S40960x8, .i1⟩
  | .hbm, ⟨35, _⟩ => ⟨S_, .f32⟩
  | .hbm, ⟨36, _⟩ => ⟨S40960x8, .f32⟩
  | .hbm, ⟨37, _⟩ => ⟨S40960x8, .f32⟩
  | .hbm, ⟨38, _⟩ => ⟨S8x3584x40960, .f32⟩
  | .hbm, ⟨39, _⟩ => ⟨S8x40960x3584, .f32⟩
  | .hbm, ⟨40, _⟩ => ⟨S8x3584x40960, .f32⟩
  | .hbm, ⟨41, _⟩ => ⟨S8x40960x3584, .f32⟩
  | .hbm, ⟨42, _⟩ => ⟨S8x40960x3584, .f32⟩
  | .hbm, ⟨43, _⟩ => ⟨S8x40960x3584, .f32⟩
  | .hbm, ⟨44, _⟩ => ⟨S_, .f32⟩
  | .hbm, ⟨45, _⟩ => ⟨S8x40960x3584, .f32⟩
  | .hbm, ⟨46, _⟩ => ⟨S8x40960x3584, .f32⟩
  | .hbm, ⟨47, _⟩ => ⟨S_, .f32⟩
  | .hbm, ⟨48, _⟩ => ⟨S8x40960x3584, .f32⟩
  | .hbm, ⟨49, _⟩ => ⟨S8x40960x3584, .f32⟩
  | .hbm, ⟨50, _⟩ => ⟨S8x40960x3584, .f32⟩
  | .hbm, ⟨51, _⟩ => ⟨S8x40960x3584, .f32⟩
  | .hbm, ⟨52, _⟩ => ⟨S8x40960x1024, .f32⟩
  | .hbm, ⟨53, _⟩ => ⟨S8x40960, .f32⟩
  | .hbm, ⟨54, _⟩ => ⟨S8x40960x1, .f32⟩
  | .hbm, ⟨55, _⟩ => ⟨S8x40960x1024, .f32⟩
  | .hbm, ⟨56, _⟩ => ⟨S8x40960x1024, .f32⟩
  | .hbm, ⟨57, _⟩ => ⟨S_, .f32⟩
  | .hbm, ⟨58, _⟩ => ⟨S40960x1024, .f32⟩
  | .hbm, ⟨59, _⟩ => ⟨S40960x1024, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_0 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel3.lean ====
abbrev S16384x512 : Shape := ⟨2, ![16384, 512]⟩
abbrev S2048x512 : Shape := ⟨2, ![2048, 512]⟩
abbrev S1024x1024 : Shape := ⟨2, ![1024, 1024]⟩
abbrev S2048x1024 : Shape := ⟨2, ![2048, 1024]⟩
abbrev S16384x1024 : Shape := ⟨2, ![16384, 1024]⟩
abbrev S9x6x1024 : Shape := ⟨3, ![9, 6, 1024]⟩
abbrev S1x1024 : Shape := ⟨2, ![1, 1024]⟩
abbrev S1024x2816 : Shape := ⟨2, ![1024, 2816]⟩
abbrev S2816x1024 : Shape := ⟨2, ![2816, 1024]⟩
abbrev S18432x1024 : Shape := ⟨2, ![18432, 1024]⟩
abbrev S512x512 : Shape := ⟨2, ![512, 512]⟩
abbrev S512x1024 : Shape := ⟨2, ![512, 1024]⟩
abbrev S1x6x1024 : Shape := ⟨3, ![1, 6, 1024]⟩
abbrev S1024x1408 : Shape := ⟨2, ![1024, 1408]⟩
abbrev S1408x1024 : Shape := ⟨2, ![1408, 1024]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 13
  | .vmem => 27
  | .smem => 0
  | _ => 0

abbrev bufTy : (tb : Table) → Fin (tcTables nBuf tb) → BufTy
  | .hbm, ⟨0, _⟩ => ⟨S16384x512, .bf16⟩
  | .hbm, ⟨1, _⟩ => ⟨S2048x512, .bf16⟩
  | .hbm, ⟨2, _⟩ => ⟨S16384x512, .bf16⟩
  | .hbm, ⟨3, _⟩ => ⟨S2048x512, .bf16⟩
  | .hbm, ⟨4, _⟩ => ⟨S1024x1024, .bf16⟩
  | .hbm, ⟨5, _⟩ => ⟨S2048x1024, .f32⟩
  | .hbm, ⟨6, _⟩ => ⟨S16384x1024, .f32⟩
  | .hbm, ⟨7, _⟩ => ⟨S9x6x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S18432x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x6x1024, .f32⟩
  | .local _ .vmem, ⟨14, _⟩ => ⟨S1x6x1024, .f32⟩
  | .local _ .vmem, ⟨15, _⟩ => ⟨S1x1024, .f32⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1408x1024, .bf16⟩
  | .local _ .vmem, ⟨21, _⟩ => ⟨S1408x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![36, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1408x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S16384x512 : Shape := ⟨2, ![16384, 512]⟩
abbrev S2048x512 : Shape := ⟨2, ![2048, 512]⟩
abbrev S1024x1024 : Shape := ⟨2, ![1024, 1024]⟩
abbrev S2048x1024 : Shape := ⟨2, ![2048, 1024]⟩
abbrev S16384x1024 : Shape := ⟨2, ![16384, 1024]⟩
abbrev S9x6x1024 : Shape := ⟨3, ![9, 6, 1024]⟩
abbrev S1x1024 : Shape := ⟨2, ![1, 1024]⟩
abbrev S1024x2816 : Shape := ⟨2, ![1024, 2816]⟩
abbrev S2816x1024 : Shape := ⟨2, ![2816, 1024]⟩
abbrev S18432x512 : Shape := ⟨2, ![18432, 512]⟩
abbrev S18432x1024 : Shape := ⟨2, ![18432, 1024]⟩
abbrev S1x6x1024 : Shape := ⟨3, ![1, 6, 1024]⟩
abbrev S6x1024 : Shape := ⟨2, ![6, 1024]⟩
abbrev S2048x6x1024 : Shape := ⟨3, ![2048, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S18432x6x1024 : Shape := ⟨3, ![18432, 6, 1024]⟩
abbrev S18432x1x1024 : Shape := ⟨3, ![18432, 1, 1024]⟩
abbrev S_ : Shape := ⟨0, ![]⟩
abbrev S18432 : Shape := ⟨1, ![18432]⟩
abbrev S18432x1 : Shape := ⟨2, ![18432, 1]⟩
abbrev S1024 : Shape := ⟨1, ![1024]⟩
abbrev S18432x2816 : Shape := ⟨2, ![18432, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S2048x512, .bf16⟩
  | .hbm, ⟨2, _⟩ => ⟨S16384x512, .bf16⟩
  | .hbm, ⟨3, _⟩ => ⟨S2048x512, .bf16⟩
  | .hbm, ⟨4, _⟩ => ⟨S1024x1024, .bf16⟩
  | .hbm, ⟨5, _⟩ => ⟨S2048x1024, .f32⟩
  | .hbm, ⟨6, _⟩ => ⟨S16384x1024, .f32⟩
  | .hbm, ⟨7, _⟩ => ⟨S9x6x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S18432x512, .bf16⟩
  | .hbm, ⟨13, _⟩ => ⟨S18432x512, .f32⟩
  | .hbm, ⟨14, _⟩ => ⟨S18432x512, .bf16⟩
  | .hbm, ⟨15, _⟩ => ⟨S18432x512, .f32⟩
  | .hbm, ⟨16, _⟩ => ⟨S18432x1024, .f32⟩
  | .hbm, ⟨17, _⟩ => ⟨S1024x1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S1x6x1024, .f32⟩
  | .hbm, ⟨22, _⟩ => ⟨S6x1024, .f32⟩
  | .hbm, ⟨23, _⟩ => ⟨S2048x6x1024, .f32⟩
  | .hbm, ⟨24, _⟩ => ⟨S8x6x1024, .f32⟩
  | .hbm, ⟨25, _⟩ => ⟨S8x1x6x1024, .f32⟩
  | .hbm, ⟨26, _⟩ => ⟨S8x2048x6x1024, .f32⟩
  | .hbm, ⟨27, _⟩ => ⟨S16384x6x1024, .f32⟩
  | .hbm, ⟨28, _⟩ => ⟨S18432x6x1024, .f32⟩
  | .hbm, ⟨29, _⟩ => ⟨S18432x1x1024, .f32⟩
  | .hbm, ⟨30, _⟩ => ⟨S18432x1024, .f32⟩
  | .hbm, ⟨31, _⟩ => ⟨S18432x1024, .f32⟩
  | .hbm, ⟨32, _⟩ => ⟨S18432x1024, .f32⟩
  | .hbm, ⟨33, _⟩ => ⟨S18432x1024, .f32⟩
  | .hbm, ⟨34, _⟩ => ⟨S18432x1024, .f32⟩
  | .hbm, ⟨35, _⟩ => ⟨S18432x1024, .f32⟩
  | .hbm, ⟨36, _⟩ => ⟨S_, .f32⟩
  | .hbm, ⟨37, _⟩ => ⟨S18432, .f32⟩
  | .hbm, ⟨38, _⟩ => ⟨S18432x1, .f32⟩
  | .hbm, ⟨39, _⟩ => ⟨S_, .f32⟩
  | .hbm, ⟨40, _⟩ => ⟨S18432x1, .f32⟩
  | .hbm, ⟨41, _⟩ => ⟨S18432x1, .f32⟩
  | .hbm, ⟨42, _⟩ => ⟨S_, .f32⟩
  | .hbm, ⟨43, _⟩ => ⟨S18432x1, .f32⟩
  | .hbm, ⟨44, _⟩ => ⟨S18432x1, .f32⟩
  | .hbm, ⟨45, _⟩ => ⟨S18432x1, .f32⟩
  | .hbm, ⟨46, _⟩ => ⟨S18432x1024, .f32⟩
  | .hbm, ⟨47, _⟩ => ⟨S18432x1024, .f32⟩
  | .hbm, ⟨48, _⟩ => ⟨S1024, .f32⟩
  | .hbm, ⟨49, _⟩ => ⟨S1x1024, .f32⟩
  | .hbm, ⟨50, _⟩ => ⟨S18432x1024, .f32⟩
  | .hbm, ⟨51, _⟩ => ⟨S18432x1024, .f32⟩
  | .hbm, ⟨52, _⟩ => ⟨S18432x1x1024, .f32⟩
  | .hbm, ⟨53, _⟩ => ⟨S18432x1024, .f32⟩
  | .hbm, ⟨54, _⟩ => ⟨S_, .f32⟩
  | .hbm, ⟨55, _⟩ => ⟨S18432x1024, .f32⟩
  | .hbm, ⟨56, _⟩ => ⟨S18432x1024, .f32⟩
  | .hbm, ⟨57, _⟩ => ⟨S18432x1024, .f32⟩
  | .hbm, ⟨58, _⟩ => ⟨S18432x1x1024, .f32⟩
  | .hbm, ⟨59, _⟩ => ⟨S18432x1024, .f32⟩
  | .hbm, ⟨60, _⟩ => ⟨S18432x1024, .f32⟩
  | .hbm, ⟨61, _⟩ => ⟨S18432x2816, .f32⟩
  | .hbm, ⟨62, _⟩ => ⟨S18432x1x1024, .f32⟩
  | .hbm, ⟨63, _⟩ => ⟨S18432x1024, .f32⟩
  | .hbm, ⟨64, _⟩ => ⟨S18432x2816, .f32⟩
  | .hbm, ⟨65, _⟩ => ⟨S18432x2816, .f32⟩
  | .hbm, ⟨66, _⟩ => ⟨S_, .f32⟩
  | .hbm, ⟨67, _⟩ => ⟨S18432x2816, .f32⟩
  | .hbm, ⟨68, _⟩ => ⟨S18432x2816, .f32⟩
  | .hbm, ⟨69, _⟩ => ⟨S_, .f32⟩
  | .hbm, ⟨70, _⟩ => ⟨S18432x2816, .f32⟩
  | .hbm, ⟨71, _⟩ => ⟨S18432x2816, .f32⟩
  | .hbm, ⟨72, _⟩ => ⟨S18432x2816, .f32⟩
  | .hbm, ⟨73, _⟩ => ⟨S18432x2816, .f32⟩
  | .hbm, ⟨74, _⟩ => ⟨S18432x2816, .f32⟩
  | .hbm, ⟨75, _⟩ => ⟨S18432x1024, .f32⟩
  | .hbm, ⟨76, _⟩ => ⟨S18432x1024, .f32⟩
  | .hbm, ⟨77, _⟩ => ⟨S18432x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel4.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S16384x512 : Shape := ⟨2, ![16384, 512]⟩
abbrev S1024x1024 : Shape := ⟨2, ![1024, 1024]⟩
abbrev S18432x1024 : Shape := ⟨2, ![18432, 1024]⟩
abbrev S9x6x1024 : Shape := ⟨3, ![9, 6, 1024]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S16384x1024 : Shape := ⟨2, ![16384, 1024]⟩
abbrev S16384x128 : Shape := ⟨2, ![16384, 128]⟩
abbrev S32x1x128 : Shape := ⟨3, ![32, 1, 128]⟩
abbrev S512x512 : Shape := ⟨2, ![512, 512]⟩
abbrev S512x1024 : Shape := ⟨2, ![512, 1024]⟩
abbrev S1x6x1024 : Shape := ⟨3, ![1, 6, 1024]⟩
abbrev S512x128 : Shape := ⟨2, ![512, 128]⟩
abbrev S1x1x128 : Shape := ⟨3, ![1, 1, 128]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩
abbrev S128 : Shape := ⟨1, ![128]⟩
abbrev S1x128 : Shape := ⟨2, ![1, 128]⟩

abbrev nBuf : Space → Nat
  | .hbm => 23
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S18432x1024, .f32⟩
  | .hbm, ⟨4, _⟩ => ⟨S9x6x1024, .f32⟩
  | .hbm, ⟨5, _⟩ => ⟨S1x1024, .f32⟩
  | .hbm, ⟨6, _⟩ => ⟨S1024x8, .f32⟩
  | .hbm, ⟨7, _⟩ => ⟨S1024x8, .bf16⟩
  | .hbm, ⟨8, _⟩ => ⟨S1024x8, .f32⟩
  | .hbm, ⟨9, _⟩ => ⟨S1024x8, .f32⟩
  | .hbm, ⟨10, _⟩ => ⟨S1024x8, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S1024x256, .bf16⟩
  | .hbm, ⟨18, _⟩ => ⟨S16384x1024, .f32⟩
  | .hbm, ⟨19, _⟩ => ⟨S16384x1024, .bf16⟩
  | .hbm, ⟨20, _⟩ => ⟨S16384x128, .bf16⟩
  | .hbm, ⟨21, _⟩ => ⟨S16384x128, .bf16⟩
  | .hbm, ⟨22, _⟩ => ⟨S32x1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1024x256, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S1x1x128, .f32⟩
  | .local _ .vmem, ⟨20, _⟩ => ⟨S1x1x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x512 : Shape := ⟨2, ![16384, 512]⟩
abbrev S1024x1024 : Shape := ⟨2, ![1024, 1024]⟩
abbrev S18432x1024 : Shape := ⟨2, ![18432, 1024]⟩
abbrev S9x6x1024 : Shape := ⟨3, ![9, 6, 1024]⟩
abbrev S1x1024 : Shape := ⟨2, ![1, 1024]⟩
abbrev S1024x8 : Shape := ⟨2, ![1024, 8]⟩
abbrev S16384x1024 : Shape := ⟨2, ![16384, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S16384x1x1024 : Shape := ⟨3, ![16384, 1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S18432x1024, .f32⟩
  | .hbm, ⟨4, _⟩ => ⟨S9x6x1024, .f32⟩
  | .hbm, ⟨5, _⟩ => ⟨S1x1024, .f32⟩
  | .hbm, ⟨6, _⟩ => ⟨S1024x8, .f32⟩
  | .hbm, ⟨7, _⟩ => ⟨S16384x1024, .bf16⟩
  | .hbm, ⟨8, _⟩ => ⟨S16384x1024, .f32⟩
  | .hbm, ⟨9, _⟩ => ⟨S8x6x1024, .f32⟩
  | .hbm, ⟨10, _⟩ => ⟨S8x1x6x1024, .f32⟩
  | .hbm, ⟨11, _⟩ => ⟨S8x2048x6x1024, .f32⟩
  | .hbm, ⟨12, _⟩ => ⟨S16384x6x1024, .f32⟩
  | .hbm, ⟨13, _⟩ => ⟨S16384x1024, .f32⟩
  | .hbm, ⟨14, _⟩ => ⟨S16384x1x1024, .f32⟩
  | .hbm, ⟨15, _⟩ => ⟨S16384x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1x1024, .f32⟩
  | .hbm, ⟨44, _⟩ => ⟨S16384x1024, .f32⟩
  | .hbm, ⟨45, _⟩ => ⟨S16384x1024, .f32⟩
  | .hbm, ⟨46, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel6.lean ====
abbrev S18432x1024 : Shape := ⟨2, ![18432, 1024]⟩
abbrev S9x6x1024 : Shape := ⟨3, ![9, 6, 1024]⟩
abbrev S1x1024 : Shape := ⟨2, ![1, 1024]⟩
abbrev S2x1024x3600 : Shape := ⟨3, ![2, 1024, 3600]⟩
abbrev S5x1024 : Shape := ⟨2, ![5, 1024]⟩
abbrev S2304x128 : Shape := ⟨2, ![2304, 128]⟩
abbrev S1x128 : Shape := ⟨2, ![1, 128]⟩
abbrev S18432x512 : Shape := ⟨2, ![18432, 512]⟩
abbrev S144x512x128 : Shape := ⟨3, ![144, 512, 128]⟩
abbrev S16x18432 : Shape := ⟨2, ![16, 18432]⟩
abbrev S256x1024 : Shape := ⟨2, ![256, 1024]⟩
abbrev S8x1024 : Shape := ⟨2, ![8, 1024]⟩
abbrev S1x6x1024 : Shape := ⟨3, ![1, 6, 1024]⟩
abbrev S1x1024x3600 : Shape := ⟨3, ![1, 1024, 3600]⟩
abbrev S256x128 : Shape := ⟨2, ![256, 128]⟩
abbrev S256x512 : Shape := ⟨2, ![256, 512]⟩
abbrev S2x512x128 : Shape := ⟨3, ![2, 512, 128]⟩
abbrev S16x256 : Shape := ⟨2, ![16, 256]⟩
abbrev S272x1024 : Shape := ⟨2, ![272, 1024]⟩
abbrev S1024x3840 : Shape := ⟨2, ![1024, 3840]⟩
abbrev S1x1024x3584 : Shape := ⟨3, ![1, 1024, 3584]⟩
abbrev S1024x3584 : Shape := ⟨2, ![1024, 3584]⟩
abbrev S1024x256 : Shape := ⟨2, ![1024, 256]⟩
abbrev S1x1024x16 : Shape := ⟨3, ![1, 1024, 16]⟩
abbrev S1024x16 : Shape := ⟨2, ![1024, 16]⟩
abbrev S272 : Shape := ⟨1, ![272]⟩
abbrev S272x1 : Shape := ⟨2, ![272, 1]⟩
abbrev S1x1x1024 : Shape := ⟨3, ![1, 1, 1024]⟩
abbrev S1024x1024 : Shape := ⟨2, ![1024, 1024]⟩
abbrev S128x128 : Shape := ⟨2, ![128, 128]⟩
abbrev S1024x512 : Shape := ⟨2, ![1024, 512]⟩
abbrev S256x256 : Shape := ⟨2, ![256, 256]⟩
abbrev S1x256 : Shape := ⟨2, ![1, 256]⟩
abbrev S128x256 : Shape := ⟨2, ![128, 256]⟩
abbrev S1x256x128 : Shape := ⟨3, ![1, 256, 128]⟩
abbrev S1024x128 : Shape := ⟨2, ![1024, 128]⟩

abbrev nBuf : Space → Nat
  | .hbm => 17
  | .vmem => 36
  | .smem => 0
  | _ => 0

abbrev bufTy : (tb : Table) → Fin (tcTables nBuf tb) → BufTy
  | .hbm, ⟨0, _⟩ => ⟨S18432x1024, .f32⟩
  | .hbm, ⟨1, _⟩ => ⟨S9x6x1024, .f32⟩
  | .hbm, ⟨2, _⟩ => ⟨S1x1024, .f32⟩
  | .hbm, ⟨3, _⟩ => ⟨S2x1024x3600, .f32⟩
  | .hbm, ⟨4, _⟩ => ⟨S5x1024, .f32⟩
  | .hbm, ⟨5, _⟩ => ⟨S1x1024, .f32⟩
  | .hbm, ⟨6, _⟩ => ⟨S2304x128, .f32⟩
  | .hbm, ⟨7, _⟩ => ⟨S2304x128, .f32⟩
  | .hbm, ⟨8, _⟩ => ⟨S1x128, .f32⟩
  | .hbm, ⟨9, _⟩ => ⟨S1x128, .f32⟩
  | .hbm, ⟨10, _⟩ => ⟨S18432x1024, .bf16⟩
  | .hbm, ⟨11, _⟩ => ⟨S18432x512, .bf16⟩
  | .hbm, ⟨12, _⟩ => ⟨S18432x512, .bf16⟩
  | .hbm, ⟨13, _⟩ => ⟨S144x512x128, .bf16⟩
  | .hbm, ⟨14, _⟩ => ⟨S18432x512, .bf16⟩
  | .hbm, ⟨15, _⟩ => ⟨S18432x512, .f32⟩
  | .hbm, ⟨16, _⟩ => ⟨S16x18432, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024x3600, .f32⟩
  | .local _ .vmem, ⟨12, _⟩ => ⟨S5x1024, .f32⟩
  | .local _ .vmem, ⟨13, _⟩ => ⟨S1x1024, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x128, .f32⟩
  | .local _ .vmem, ⟨19, _⟩ => ⟨S1x128, .f32⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S2x512x128, .bf16⟩
  | .local _ .vmem, ⟨27, _⟩ => ⟨S2x512x128, .bf16⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S16x256, .f32⟩
  | .local _ .vmem, ⟨33, _⟩ => ⟨S16x256, .f32⟩
  | .local _ .vmem, ⟨34, _⟩ => ⟨S272x1024, .f32⟩
  | .local _ .vmem, ⟨35, _⟩ => ⟨S1024x3840, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.addi v1 c8_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c32_i32 : BitVec 32 := 32#32
  let v2 : BitVec 32 := Scalar.muli v1 c32_i32
  let c1_i32 : BitVec 32 := 1#32
  let v3 : BitVec 32 := Scalar.subi v2 c1_i32
  let c0_i32_0 : BitVec 32 := 0#32
  let v4 : BitVec 32 := Scalar.maxsi v3 c0_i32_0
  let c256_i32 : BitVec 32 := 256#32
  let v5 : BitVec 32 := Scalar.addi v4 c256_i32
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c1_i32 : BitVec 32 := 1#32
  let v2 : BitVec 32 := Scalar.addi v1 c1_i32
  let c32_i32 : BitVec 32 := 32#32
  let v3 : BitVec 32 := Scalar.muli v2 c32_i32
  let c2047_i32 : BitVec 32 := 2047#32
  let v4 : BitVec 32 := Scalar.minsi v3 c2047_i32
  let c256_i32 : BitVec 32 := 256#32
  let v5 : BitVec 32 := Scalar.addi v4 c256_i32
  let c0_i32_0 : BitVec 32 := 0#32
  let c0_i32_1 : BitVec 32 := 0#32
  ![v5.toNat, c0_i32_0.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_10 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S18432x1024 : Shape := ⟨2, ![18432, 1024]⟩
abbrev S9x6x1024 : Shape := ⟨3, ![9, 6, 1024]⟩
abbrev S1x1024 : Shape := ⟨2, ![1, 1024]⟩
abbrev S2x1024x3600 : Shape := ⟨3, ![2, 1024, 3600]⟩
abbrev S5x1024 : Shape := ⟨2, ![5, 1024]⟩
abbrev S2304x128 : Shape := ⟨2, ![2304, 128]⟩
abbrev S1x128 : Shape := ⟨2, ![1, 128]⟩
abbrev S1x6x1024 : Shape := ⟨3, ![1, 6, 1024]⟩
abbrev S6x1024 : Shape := ⟨2, ![6, 1024]⟩
abbrev S2048x6x1024 : Shape := ⟨3, ![2048, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S18432x6x1024 : Shape := ⟨3, ![18432, 6, 1024]⟩
abbrev S_ : Shape := ⟨0, ![]⟩
abbrev S18432 : Shape := ⟨1, ![18432]⟩
abbrev S18432x1 : Shape := ⟨2, ![18432, 1]⟩
abbrev S1024 : Shape := ⟨1, ![1024]⟩
abbrev S18432x1x1024 : Shape := ⟨3, ![18432, 1, 1024]⟩
abbrev S1x1024x3600 : Shape := ⟨3, ![1, 1024, 3600]⟩
abbrev S1024x3600 : Shape := ⟨2, ![1024, 3600]⟩
abbrev S18432x3600 : Shape := ⟨2, ![18432, 3600]⟩
abbrev S18432x512 : Shape := ⟨2, ![18432, 512]⟩

abbrev nBuf : Space → Nat
  | .hbm => 52
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S9x6x1024, .f32⟩
  | .hbm, ⟨2, _⟩ => ⟨S1x1024, .f32⟩
  | .hbm, ⟨3, _⟩ => ⟨S2x1024x3600, .f32⟩
  | .hbm, ⟨4, _⟩ => ⟨S5x1024, .f32⟩
  | .hbm, ⟨5, _⟩ => ⟨S1x1024, .f32⟩
  | .hbm, ⟨6, _⟩ => ⟨S2304x128, .f32⟩
  | .hbm, ⟨7, _⟩ => ⟨S2304x128, .f32⟩
  | .hbm, ⟨8, _⟩ => ⟨S1x128, .f32⟩
  | .hbm, ⟨9, _⟩ => ⟨S1x128, .f32⟩
  | .hbm, ⟨10, _⟩ => ⟨S1x6x1024, .f32⟩
  | .hbm, ⟨11, _⟩ => ⟨S6x1024, .f32⟩
  | .hbm, ⟨12, _⟩ => ⟨S2048x6x1024, .f32⟩
  | .hbm, ⟨13, _⟩ => ⟨S8x6x1024, .f32⟩
  | .hbm, ⟨14, _⟩ => ⟨S8x1x6x1024, .f32⟩
  | .hbm, ⟨15, _⟩ => ⟨S8x2048x6x1024, .f32⟩
  | .hbm, ⟨16, _⟩ => ⟨S16384x6x1024, .f32⟩
  | .hbm, ⟨17, _⟩ => ⟨S18432x6x1024, .f32⟩
  | .hbm, ⟨18, _⟩ => ⟨S18432x1024, .f32⟩
  | .hbm, ⟨19, _⟩ => ⟨S_, .f32⟩
  | .hbm, ⟨20, _⟩ => ⟨S18432, .f32⟩
  | .hbm, ⟨21, _⟩ => ⟨S18432x1, .f32⟩
  | .hbm, ⟨22, _⟩ => ⟨S_, .f32⟩
  | .hbm, ⟨23, _⟩ => ⟨S18432x1, .f32⟩
  | .hbm, ⟨24, _⟩ => ⟨S18432x1, .f32⟩
  | .hbm, ⟨25, _⟩ => ⟨S_, .f32⟩
  | .hbm, ⟨26, _⟩ => ⟨S18432x1, .f32⟩
  | .hbm, ⟨27, _⟩ => ⟨S18432x1, .f32⟩
  | .hbm, ⟨28, _⟩ => ⟨S18432x1, .f32⟩
  | .hbm, ⟨29, _⟩ => ⟨S18432x1024, .f32⟩
  | .hbm, ⟨30, _⟩ => ⟨S18432x1024, .f32⟩
  | .hbm, ⟨31, _⟩ => ⟨S1024, .f32⟩
  | .hbm, ⟨32, _⟩ => ⟨S1x1024, .f32⟩
  | .hbm, ⟨33, _⟩ => ⟨S18432x1024, .f32⟩
  | .hbm, ⟨34, _⟩ => ⟨S18432x1024, .f32⟩
  | .hbm, ⟨35, _⟩ => ⟨S18432x1x1024, .f32⟩
  | .hbm, ⟨36, _⟩ => ⟨S18432x1024, .f32⟩
  | .hbm, ⟨37, _⟩ => ⟨S_, .f32⟩
  | .hbm, ⟨38, _⟩ => ⟨S18432x1024, .f32⟩
  | .hbm, ⟨39, _⟩ => ⟨S18432x1024, .f32⟩
  | .hbm, ⟨40, _⟩ => ⟨S18432x1024, .f32⟩
  | .hbm, ⟨41, _⟩ => ⟨S18432x1x1024, .f32⟩
  | .hbm, ⟨42, _⟩ => ⟨S18432x1024, .f32⟩
  | .hbm, ⟨43, _⟩ => ⟨S18432x1024, .f32⟩
  | .hbm, ⟨44, _⟩ => ⟨S1x1024x3600, .f32⟩
  | .hbm, ⟨45, _⟩ => ⟨S1024x3600, .f32⟩
  | .hbm, ⟨46, _⟩ => ⟨S18432x3600, .f32⟩
  | .hbm, ⟨47, _⟩ => ⟨S18432x512, .f32⟩
  | .hbm, ⟨48, _⟩ => ⟨S18432x512, .bf16⟩
  | .hbm, ⟨49, _⟩ => ⟨S18432x512, .f32⟩
  | .hbm, ⟨50, _⟩ => ⟨S18432x512, .bf16⟩
  | .hbm, ⟨51, _⟩ => ⟨S18432x512, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel7.lean ====
abbrev S2048x1024 : Shape := ⟨2, ![2048, 1024]⟩
abbrev S16384x1024 : Shape := ⟨2, ![16384, 1024]⟩
abbrev S9x6x1024 : Shape := ⟨3, ![9, 6, 1024]⟩
abbrev S1x1024 : Shape := ⟨2, ![1, 1024]⟩
abbrev S2x1024x3600 : Shape := ⟨3, ![2, 1024, 3600]⟩
abbrev S5x1024 : Shape := ⟨2, ![5, 1024]⟩
abbrev S2304x128 : Shape := ⟨2, ![2304, 128]⟩
abbrev S1x128 : Shape := ⟨2, ![1, 128]⟩
abbrev S18432x1024 : Shape := ⟨2, ![18432, 1024]⟩
abbrev S18432x512 : Shape := ⟨2, ![18432, 512]⟩
abbrev S144x512x128 : Shape := ⟨3, ![144, 512, 128]⟩
abbrev S16x18432 : Shape := ⟨2, ![16, 18432]⟩
abbrev S256x1024 : Shape := ⟨2, ![256, 1024]⟩
abbrev S8x1024 : Shape := ⟨2, ![8, 1024]⟩
abbrev S1x6x1024 : Shape := ⟨3, ![1, 6, 1024]⟩
abbrev S1x1024x3600 : Shape := ⟨3, ![1, 1024, 3600]⟩
abbrev S256x128 : Shape := ⟨2, ![256, 128]⟩
abbrev S256x512 : Shape := ⟨2, ![256, 512]⟩
abbrev S2x512x128 : Shape := ⟨3, ![2, 512, 128]⟩
abbrev S16x256 : Shape := ⟨2, ![16, 256]⟩
abbrev S272x1024 : Shape := ⟨2, ![272, 1024]⟩
abbrev S1024x3840 : Shape := ⟨2, ![1024, 3840]⟩
abbrev S1x1024x3584 : Shape := ⟨3, ![1, 1024, 3584]⟩
abbrev S1024x3584 : Shape := ⟨2, ![1024, 3584]⟩
abbrev S1024x256 : Shape := ⟨2, ![1024, 256]⟩
abbrev S1x1024x16 : Shape := ⟨3, ![1, 1024, 16]⟩
abbrev S1024x16 : Shape := ⟨2, ![1024, 16]⟩
abbrev S272 : Shape := ⟨1, ![272]⟩
abbrev S272x1 : Shape := ⟨2, ![272, 1]⟩
abbrev S1x1x1024 : Shape := ⟨3, ![1, 1, 1024]⟩
abbrev S1024x1024 : Shape := ⟨2, ![1024, 1024]⟩
abbrev S128x128 : Shape := ⟨2, ![128, 128]⟩
abbrev S1024x512 : Shape := ⟨2, ![1024, 512]⟩
abbrev S256x256 : Shape := ⟨2, ![256, 256]⟩
abbrev S1x256 : Shape := ⟨2, ![1, 256]⟩
abbrev S128x256 : Shape := ⟨2, ![128, 256]⟩
abbrev S1x256x128 : Shape := ⟨3, ![1, 256, 128]⟩
abbrev S1024x128 : Shape := ⟨2, ![1024, 128]⟩

abbrev nBuf : Space → Nat
  | .hbm => 18
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S9x6x1024, .f32⟩
  | .hbm, ⟨3, _⟩ => ⟨S1x1024, .f32⟩
  | .hbm, ⟨4, _⟩ => ⟨S2x1024x3600, .f32⟩
  | .hbm, ⟨5, _⟩ => ⟨S5x1024, .f32⟩
  | .hbm, ⟨6, _⟩ => ⟨S1x1024, .f32⟩
  | .hbm, ⟨7, _⟩ => ⟨S2304x128, .f32⟩
  | .hbm, ⟨8, _⟩ => ⟨S2304x128, .f32⟩
  | .hbm, ⟨9, _⟩ => ⟨S1x128, .f32⟩
  | .hbm, ⟨10, _⟩ => ⟨S1x128, .f32⟩
  | .hbm, ⟨11, _⟩ => ⟨S18432x1024, .bf16⟩
  | .hbm, ⟨12, _⟩ => ⟨S18432x512, .bf16⟩
  | .hbm, ⟨13, _⟩ => ⟨S18432x512, .bf16⟩
  | .hbm, ⟨14, _⟩ => ⟨S144x512x128, .bf16⟩
  | .hbm, ⟨15, _⟩ => ⟨S18432x512, .bf16⟩
  | .hbm, ⟨16, _⟩ => ⟨S18432x512, .f32⟩
  | .hbm, ⟨17, _⟩ => ⟨S16x18432, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024x3600, .f32⟩
  | .local _ .vmem, ⟨12, _⟩ => ⟨S5x1024, .f32⟩
  | .local _ .vmem, ⟨13, _⟩ => ⟨S1x1024, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x128, .f32⟩
  | .local _ .vmem, ⟨19, _⟩ => ⟨S1x128, .f32⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S2x512x128, .bf16⟩
  | .local _ .vmem, ⟨27, _⟩ => ⟨S2x512x128, .bf16⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S16x256, .f32⟩
  | .local _ .vmem, ⟨33, _⟩ => ⟨S16x256, .f32⟩
  | .local _ .vmem, ⟨34, _⟩ => ⟨S272x1024, .f32⟩
  | .local _ .vmem, ⟨35, _⟩ => ⟨S1024x3840, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c32_i32 : BitVec 32 := 32#32
  let v2 : BitVec 32 := Scalar.muli v1 c32_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let v5 : BitVec 32 := Scalar.addi v4 c0_i32_1
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c1_i32 : BitVec 32 := 1#32
  let v2 : BitVec 32 := Scalar.addi v1 c1_i32
  let c32_i32 : BitVec 32 := 32#32
  let v3 : BitVec 32 := Scalar.muli v2 c32_i32
  let c2047_i32 : BitVec 32 := 2047#32
  let v4 : BitVec 32 := Scalar.minsi v3 c2047_i32
  let c0_i32_0 : BitVec 32 := 0#32
  let v5 : BitVec 32 := Scalar.addi v4 c0_i32_0
  let c0_i32_1 : BitVec 32 := 0#32
  let c0_i32_2 : BitVec 32 := 0#32
  ![v5.toNat, c0_i32_1.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_10 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference7Ideal.lean ====
abbrev S2048x1024 : Shape := ⟨2, ![2048, 1024]⟩
abbrev S16384x1024 : Shape := ⟨2, ![16384, 1024]⟩
abbrev S9x6x1024 : Shape := ⟨3, ![9, 6, 1024]⟩
abbrev S1x1024 : Shape := ⟨2, ![1, 1024]⟩
abbrev S2x1024x3600 : Shape := ⟨3, ![2, 1024, 3600]⟩
abbrev S5x1024 : Shape := ⟨2, ![5, 1024]⟩
abbrev S2304x128 : Shape := ⟨2, ![2304, 128]⟩
abbrev S1x128 : Shape := ⟨2, ![1, 128]⟩
abbrev S18432x1024 : Shape := ⟨2, ![18432, 1024]⟩
abbrev S1x6x1024 : Shape := ⟨3, ![1, 6, 1024]⟩
abbrev S6x1024 : Shape := ⟨2, ![6, 1024]⟩
abbrev S2048x6x1024 : Shape := ⟨3, ![2048, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S16384x6x1024 : Shape := ⟨3, ![16384, 6, 1024]⟩
abbrev S18432x6x1024 : Shape := ⟨3, ![18432, 6, 1024]⟩
abbrev S_ : Shape := ⟨0, ![]⟩
abbrev S18432 : Shape := ⟨1, ![18432]⟩
abbrev S18432x1 : Shape := ⟨2, ![18432, 1]⟩
abbrev S1024 : Shape := ⟨1, ![1024]⟩
abbrev S18432x1x1024 : Shape := ⟨3, ![18432, 1, 1024]⟩
abbrev S1x1024x3600 : Shape := ⟨3, ![1, 1024, 3600]⟩
abbrev S1024x3600 : Shape := ⟨2, ![1024, 3600]⟩
abbrev S18432x3600 : Shape := ⟨2, ![18432, 3600]⟩
abbrev S18432x512 : Shape := ⟨2, ![18432, 512]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S9x6x1024, .f32⟩
  | .hbm, ⟨3, _⟩ => ⟨S1x1024, .f32⟩
  | .hbm, ⟨4, _⟩ => ⟨S2x1024x3600, .f32⟩
  | .hbm, ⟨5, _⟩ => ⟨S5x1024, .f32⟩
  | .hbm, ⟨6, _⟩ => ⟨S1x1024, .f32⟩
  | .hbm, ⟨7, _⟩ => ⟨S2304x128, .f32⟩
  | .hbm, ⟨8, _⟩ => ⟨S2304x128, .f32⟩
  | .hbm, ⟨9, _⟩ => ⟨S1x128, .f32⟩
  | .hbm, ⟨10, _⟩ => ⟨S1x128, .f32⟩
  | .hbm, ⟨11, _⟩ => ⟨S18432x1024, .f32⟩
  | .hbm, ⟨12, _⟩ => ⟨S1x6x1024, .f32⟩
  | .hbm, ⟨13, _⟩ => ⟨S6x1024, .f32⟩
  | .hbm, ⟨14, _⟩ => ⟨S2048x6x1024, .f32⟩
  | .hbm, ⟨15, _⟩ => ⟨S8x6x1024, .f32⟩
  | .hbm, ⟨16, _⟩ => ⟨S8x1x6x1024, .f32⟩
  | .hbm, ⟨17, _⟩ => ⟨S8x2048x6x1024, .f32⟩
  | .hbm, ⟨18, _⟩ => ⟨S16384x6x1024, .f32⟩
  | .hbm, ⟨19, _⟩ => ⟨S18432x6x1024, .f32⟩
  | .hbm, ⟨20, _⟩ => ⟨S18432x1024, .f32⟩
  | .hbm, ⟨21, _⟩ => ⟨S_, .f32⟩
  | .hbm, ⟨22, _⟩ => ⟨S18432, .f32⟩
  | .hbm, ⟨23, _⟩ => ⟨S18432x1, .f32⟩
  | .hbm, ⟨24, _⟩ => ⟨S_, .f32⟩
  | .hbm, ⟨25, _⟩ => ⟨S18432x1, .f32⟩
  | .hbm, ⟨26, _⟩ => ⟨S18432x1, .f32⟩
  | .hbm, ⟨27, _⟩ => ⟨S_, .f32⟩
  | .hbm, ⟨28, _⟩ => ⟨S18432x1, .f32⟩
  | .hbm, ⟨29, _⟩ => ⟨S18432x1, .f32⟩
  | .hbm, ⟨30, _⟩ => ⟨S18432x1, .f32⟩
  | .hbm, ⟨31, _⟩ => ⟨S18432x1024, .f32⟩
  | .hbm, ⟨32, _⟩ => ⟨S18432x1024, .f32⟩
  | .hbm, ⟨33, _⟩ => ⟨S1024, .f32⟩
  | .hbm, ⟨34, _⟩ => ⟨S1x1024, .f32⟩
  | .hbm, ⟨35, _⟩ => ⟨S18432x1024, .f32⟩
  | .hbm, ⟨36, _⟩ => ⟨S18432x1024, .f32⟩
  | .hbm, ⟨37, _⟩ => ⟨S18432x1x1024, .f32⟩
  | .hbm, ⟨38, _⟩ => ⟨S18432x1024, .f32⟩
  | .hbm, ⟨39, _⟩ => ⟨S_, .f32⟩
  | .hbm, ⟨40, _⟩ => ⟨S18432x1024, .f32⟩
  | .hbm, ⟨41, _⟩ => ⟨S18432x1024, .f32⟩
  | .hbm, ⟨42, _⟩ => ⟨S18432x1024, .f32⟩
  | .hbm, ⟨43, _⟩ => ⟨S18432x1x1024, .f32⟩
  | .hbm, ⟨44, _⟩ => ⟨S18432x1024, .f32⟩
  | .hbm, ⟨45, _⟩ => ⟨S18432x1024, .f32⟩
  | .hbm, ⟨46, _⟩ => ⟨S1x1024x3600, .f32⟩
  | .hbm, ⟨47, _⟩ => ⟨S1024x3600, .f32⟩
  | .hbm, ⟨48, _⟩ => ⟨S18432x3600, .f32⟩
  | .hbm, ⟨49, _⟩ => ⟨S18432x512, .f32⟩
  | .hbm, ⟨50, _⟩ => ⟨S18432x512, .bf16⟩
  | .hbm, ⟨51, _⟩ => ⟨S18432x512, .f32⟩
  | .hbm, ⟨52, _⟩ => ⟨S18432x512, .bf16⟩
  | .hbm, ⟨53, _⟩ => ⟨S18432x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Unit.lean ====
/- What the attention kernel computes for one tile of 256 queries, as functions of arrays: the scores of the two maps against each key block, the
   running maximum, the weighted values beside the sum of weights, and the normalized difference of the two maps. -/
module

public import proofs.«01_k».proof.Proof.Gen.KernelIdeal.Value
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

theorem inb_rows (n : ℕ) : ∀ a, (![256 * (n % 8), 0] : Fin S2048x128.rank → ℕ) a + S256x128.size a ≤ S2048x128.size a
  | ⟨0, _⟩ => by show 256 * (n % 8) + 256 ≤ 2048; omega
  | ⟨1, _⟩ => by show 0 + 128 ≤ 128; omega

/-- The 256 rows of a 2048-row block that begin at row `256 n` (`n` below 8). -/
abbrev rowRect (n : ℕ) : Rect S2048x128 := Rect.unit ![256 * (n % 8), 0] S256x128.size (inb_rows n)

/-- Those rows' contents. -/
def rowsOf (X : Vec F S2048x128 .bf16) (n : ℕ) : Vec F S256x128 .bf16 := View.ld X (rowRect n)

/-- The 256 keys (or values) of block `j`: the context's for `j = 0`, then the latents' in order. -/
def blockAt (C : Vec F S256x128 .bf16) (X : Vec F S2048x128 .bf16) : ℕ → Vec F S256x128 .bf16
  | 0 => View.ld C (Rect.unit ![0, 0] S256x128.size inb_S256x128_S256x128_0_0)
  | j + 1 => rowsOf X j

/-- The queries of the first map: the lanes below 64, zero elsewhere. -/
def lowHalf (q : Vec F S256x128 .bf16) : Vec F S256x128 .bf16 :=
  select (broadcastTo S256x128 (shapeCast S1x128 (cmpi .slt (iota .tc S1x128 32 [1] iota_S1x128_d1_w32) (broadcast S1x128 64#32)) shapeCasts_S1x128_S1x128)
    broadcasts_S1x128_S256x128) q (broadcast S256x128 (Scalar.ofBits .bf16 0x0000#16))

/-- The queries of the second map: the lanes from 64 on, zero elsewhere. -/
def highHalf (q : Vec F S256x128 .bf16) : Vec F S256x128 .bf16 :=
  select (broadcastTo S256x128 (shapeCast S1x128 (cmpi .sge (iota .tc S1x128 32 [1] iota_S1x128_d1_w32) (broadcast S1x128 64#32)) shapeCasts_S1x128_S1x128)
    broadcasts_S1x128_S256x128) q (broadcast S256x128 (Scalar.ofBits .bf16 0x0000#16))

/-- The scores of 256 queries against 256 keys. -/
def scores (q k : Vec F S256x128 .bf16) : FVec F S256x256 .f32 :=
  matmul dot_S256x128_S256x128_S256x256_1_1_0_0_n_n none q k (constant S256x256 .f32 0x00000000#32)

/-- The running maximum, lane by lane, of the first `n` key blocks' scores. -/
def laneMax (q : Vec F S256x128 .bf16) (K : ℕ → Vec F S256x128 .bf16) : ℕ → FVec F S256x128 .f32
  | 0 => broadcast S256x128 (Scalar.ofBits .f32 0xFF800000#32)
  | n + 1 => maximumf (maximumf (laneMax q K n) (extractStridedSlice S256x128 ![0, 0] (scores q (K n)) slices_S256x256_o0_0_S256x128))
      (extractStridedSlice S256x128 ![0, 128] (scores q (K n)) slices_S256x256_o0_128_S256x128)

/-- Each row's maximum, along the row. -/
def rowMax (M : FVec F S256x128 .f32) : FVec F S256x256 .f32 :=
  broadcastTo S256x256 (shapeCast S256x1 (shapeCast S256x1 (multiReduction .maximumf [1] S256 M 0xFF800000#32 reduces_S256x128_S256 (.inl rfl) rfl)
    shapeCasts_S256_S256x1) shapeCasts_S256x1_S256x1) broadcasts_S256x1_S256x256

/-- The weights of one key block, from its scores as stored, times its values beside a block of ones. -/
def weighted (M : FVec F S256x128 .f32) (s : FVec F S1x256x256 .f32) (v : Vec F S256x128 .bf16) : FVec F S256x256 .f32 :=
  matmul dot_S256x256_S256x256_S256x256_1_0_0_1_n_n none
    (truncf .bf16 (exp2 (subf (shapeCast S256x256 s shapeCasts_S1x256x256_S256x256) (rowMax M))) bitsLt_bf16_f32)
    (concatenate S256x256 1 [⟨S256x128, v⟩, ⟨S256x128, broadcast S256x128 (Scalar.ofBits .bf16 0x3F80#16)⟩] concatenates_S256x128_S256x128_S256x256_d1)
    (constant S256x256 .f32 0x00000000#32)

/-- The sum of that over the first `n` key blocks. -/
def total (q : Vec F S256x128 .bf16) (K V : ℕ → Vec F S256x128 .bf16) : ℕ → FVec F S256x256 .f32
  | 0 => broadcast S256x256 (Scalar.ofBits .f32 0x00000000#32)
  | n + 1 => addf (total q K V n)
      (weighted (laneMax q K 9) (shapeCast S1x256x256 (scores q (K n)) shapeCasts_S256x256_S1x256x256) (V n))

/-- The difference of the two maps' averages, `lam` times the second taken from the first. -/
def difference (lam : Elt F .f32) (a b : FVec F S256x256 .f32) : FVec F S256x128 .f32 :=
  subf (divf (extractStridedSlice S256x128 ![0, 0] a slices_S256x256_o0_0_S256x128) (extractStridedSlice S256x128 ![0, 128] a slices_S256x256_o0_128_S256x128))
    (mulf (extractStridedSlice S256x128 ![0, 0] b slices_S256x256_o0_0_S256x128)
      (divf (broadcast S256x128 lam) (extractStridedSlice S256x128 ![0, 128] b slices_S256x256_o0_128_S256x128)))

/-- Rows divided by their root mean square, times the gains and the fixed scale. -/
def normed (d : FVec F S256x128 .f32) (g : Vec F S1x128 .f32) : FVec F S256x128 .bf16 :=
  truncf .bf16 (mulf (mulf (mulf d (broadcastTo S256x128 (rsqrt (addf (divf
      (shapeCast S256x1 (multiReduction .add [1] S256 (mulf d d) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
      (broadcastTo S256x128 g broadcasts_S1x128_S256x128)) (broadcast S256x128 (Scalar.ofBits .f32 0x3F24FD5C#32))) bitsLt_bf16_f32

/-- What the kernel stores for a tile of 256 queries. -/
def tile (lam : Elt F .f32) (q : Vec F S256x128 .bf16) (K V : ℕ → Vec F S256x128 .bf16) (g : Vec F S1x128 .f32) : FVec F S256x128 .bf16 :=
  normed (difference lam (total (lowHalf q) K V 9) (total (highHalf q) K V 9)) g

/-- The store of tile `u`. -/
def tilePiece (x0 : Vec F S1x1 .f32) (x1 : Vec F S2048x128 .bf16) (x2 x3 : Vec F S256x128 .bf16) (x4 x5 : Vec F S2048x128 .bf16) (x6 : Vec F S1x128 .f32)
    (u : ℕ) : View.Piece (Elt F) S2048x128 .bf16 :=
  ⟨rowRect u, tile (View.ld x0 (Rect.unit ![0, 0] S1x1.size inb_S1x1_S1x1_0_0) (Shape.Idx.first (by decide))) (rowsOf x1 u) (blockAt x2 x4) (blockAt x3 x5)
    (View.ld x6 (Rect.unit ![0, 0] S1x128.size inb_S1x128_S1x128_0_0))⟩

set_option maxHeartbeats 0 in
/-- The stores of a grid point are its eight tiles. -/
theorem pieces_eq (c : Dev nD) (i : grid0.Coords) (arg3 : Memref sig .tc .smem S1x1 .f32) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2x256x2304 .f32) (harg11 : arg11.IsWhole)
    (x0 : Vec F S1x1 .f32) (x1 : Vec F S2048x128 .bf16) (x2 : Vec F S256x128 .bf16) (x3 : Vec F S256x128 .bf16) (x4 : Vec F S2048x128 .bf16) (x5 : Vec F S2048x128 .bf16) (x6 : Vec F S1x128 .f32) :
    (kernelRun0_A c i arg3 harg3 arg4 harg4 arg5 harg5 arg6 harg6 arg7 harg7 arg8 harg8 arg9 harg9 arg10 harg10 arg11 harg11 x0 x1 x2 x3 x4 x5 x6).1
      = [tilePiece x0 x1 x2 x3 x4 x5 x6 7, tilePiece x0 x1 x2 x3 x4 x5 x6 6, tilePiece x0 x1 x2 x3 x4 x5 x6 5, tilePiece x0 x1 x2 x3 x4 x5 x6 4,
         tilePiece x0 x1 x2 x3 x4 x5 x6 3, tilePiece x0 x1 x2 x3 x4 x5 x6 2, tilePiece x0 x1 x2 x3 x4 x5 x6 1, tilePiece x0 x1 x2 x3 x4 x5 x6 0] := by
  unfold kernelRun0_A
  dsimp only
  sl_unfold_words
  simp (disch := decide +kernel) only [↓View.readCov_skip, ↓View.readCov_cons_toLoadRect, View.readAt_eq_ld, harg3.read_unread, harg4.read_unread, harg5.read_unread,
    harg6.read_unread, harg7.read_unread, harg8.read_unread, harg9.read_unread]
  rfl

end Cert.Attn

end
-- ==== Proof.Real.lean ====
/- Facts of the extended reals the attention needs: sums, maxima, powers and quotients of real numbers stay real, and a softmax does not depend on
   the number subtracted from its scores nor on the base its powers are taken to. -/
module

public import Idealize.ShloMosaic.PureOps.Ideal.Laws
public import Idealize.ShloMosaic.Lib.Pointwise
public import Mathlib.Analysis.SpecialFunctions.Pow.Real

@[expose] public section

noncomputable section

namespace Cert.Attn

open Idealize.ShloMosaic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum of finitely many reals (at least one), begun from `⊥`, is a real. -/
theorem fold_max_real {ι : Type} [Fintype ι] [Nonempty ι] (f : ι → EReal) (h : ∀ i, ∃ r : ℝ, f i = r) :
    ∃ r : ℝ, Finset.univ.fold max ⊥ f = r := by
  have hsup : Finset.univ.fold max ⊥ f = Finset.univ.sup f := rfl
  rw [hsup]
  obtain ⟨i, -, hi⟩ := Finset.exists_mem_eq_sup Finset.univ Finset.univ_nonempty f
  obtain ⟨r, hr⟩ := h i
  exact ⟨r, hi.trans hr⟩

theorem max_real {x y : EReal} (hx : ∃ r : ℝ, x = r) (hy : ∃ r : ℝ, y = r) : ∃ r : ℝ, max x y = r := by
  rcases max_choice x y with h | h <;> rw [h] <;> assumption

theorem exp2_coe (r : ℝ) : Ideal.exp2 (r : EReal) = ((2 ^ r : ℝ) : EReal) := rfl

theorem exp_coe (r : ℝ) : Ideal.exp (r : EReal) = ((Real.exp r : ℝ) : EReal) := rfl

theorem div_coe (x y : ℝ) (hy : y ≠ 0) : Ideal.div (x : EReal) (y : EReal) = ((x / y : ℝ) : EReal) := by
  have h : (y : EReal) ≠ 0 := by exact_mod_cast hy
  rw [Ideal.div, if_neg h, div_eq_mul_inv, EReal.coe_mul, EReal.coe_inv]

/-- The average of `v` under weights proportional to `2 ^ s`. -/
def avg {ι : Type} [Fintype ι] (s v : ι → ℝ) : ℝ := (∑ j, 2 ^ s j * v j) / ∑ j, (2 : ℝ) ^ s j

theorem avg_shift {ι : Type} [Fintype ι] (s v : ι → ℝ) (M : ℝ) :
    (∑ j, (2 : ℝ) ^ (s j - M) * v j) / (∑ j, (2 : ℝ) ^ (s j - M)) = avg s v := by
  have e : ∀ j, (2 : ℝ) ^ (s j - M) = 2 ^ s j * (2 ^ M)⁻¹ := fun j => by rw [Real.rpow_sub two_pos, div_eq_mul_inv]
  have hp : ((2 : ℝ) ^ M)⁻¹ ≠ 0 := inv_ne_zero (Real.rpow_pos_of_pos two_pos M).ne'
  simp only [e, avg]
  rw [← Finset.sum_mul, show (∑ j, (2 : ℝ) ^ s j * (2 ^ M)⁻¹ * v j) = (∑ j, 2 ^ s j * v j) * (2 ^ M)⁻¹ by
    rw [Finset.sum_mul]; exact Finset.sum_congr rfl fun j _ => by ring]
  exact mul_div_mul_right _ _ hp

theorem exp_log_two (s M : ℝ) : Real.exp (s * Real.log 2 - M) = 2 ^ (s - M / Real.log 2) := by
  have h2 : Real.log 2 ≠ 0 := (Real.log_pos one_lt_two).ne'
  rw [Real.rpow_def_of_pos two_pos, mul_sub, mul_div_cancel₀ _ h2, mul_comm]

/-- The softmax of the natural exponential, its scores scaled by `log 2`, gives the same average. -/
theorem softmax_avg {ι : Type} [Fintype ι] (s v : ι → ℝ) (M : ℝ) :
    ∑ j, Real.exp (s j * Real.log 2 - M) / (∑ k, Real.exp (s k * Real.log 2 - M)) * v j = avg s v := by
  rw [← avg_shift s v (M / Real.log 2), Finset.sum_div]
  simp only [exp_log_two]
  exact Finset.sum_congr rfl fun j _ => by ring

theorem sum_exp_pos {ι : Type} [Fintype ι] [Nonempty ι] (s : ι → ℝ) : 0 < ∑ j, Real.exp (s j) :=
  Finset.sum_pos (fun j _ => Real.exp_pos _) Finset.univ_nonempty

theorem sum_two_pos {ι : Type} [Fintype ι] [Nonempty ι] (s : ι → ℝ) : 0 < ∑ j, (2 : ℝ) ^ s j :=
  Finset.sum_pos (fun j _ => Real.rpow_pos_of_pos two_pos _) Finset.univ_nonempty

/-- A sum over 256 context keys and eight blocks of 256 latents, as one over 256 and one over 2048. -/
theorem sum_blocks (f : ℕ → ℕ → ℝ) (g : ℕ → ℝ) (h : ∀ n j, j < 256 → f (n + 1) j = g (256 * n + j)) :
    (∑ n ∈ Finset.range 9, ∑ j : Fin 256, f n j) = (∑ k : Fin 2048, g k) + ∑ j : Fin 256, f 0 j := by
  rw [Finset.sum_range_succ' _ 8]
  congr 1
  have : ∀ m, (∑ n ∈ Finset.range m, ∑ j : Fin 256, f (n + 1) j) = ∑ k ∈ Finset.range (256 * m), g k := by
    intro m
    induction m with
    | zero => simp
    | succ m ih =>
      rw [Finset.sum_range_succ, ih, Nat.mul_succ, Finset.sum_range_add, ← Fin.sum_univ_eq_sum_range (fun j => g (256 * m + j)) 256]
      congr 1
      exact Finset.sum_congr rfl fun j _ => h m j j.isLt
  rw [this 8, ← Fin.sum_univ_eq_sum_range]

/-- The row of the arrays that holds key `j` of block `n` of batch `b`: the context's rows come first, then the latents'. -/
def keyRow (b : ℕ) : ℕ → ℕ → ℕ
  | 0, j => 256 * b + j
  | n + 1, j => 2048 + 2048 * b + (256 * n + j)

/-- The row that holds key `k` of batch `b` where the latents come before the context. -/
def keyRow' (b k : ℕ) : ℕ := if k < 2048 then 2048 + 2048 * b + k else 256 * b + (k - 2048)

theorem sum_keys (b : ℕ) (g : ℕ → ℝ) :
    (∑ p : Fin 9 × Fin 256, g (keyRow b p.1 p.2)) = ∑ k : Fin 2304, g (keyRow' b k) := by
  rw [Fintype.sum_prod_type, ← Finset.sum_range (fun n => ∑ j : Fin 256, g (keyRow b n j)),
    sum_blocks (fun n j => g (keyRow b n j)) (fun k => g (2048 + 2048 * b + k)) (fun n j _ => rfl), Fin.sum_univ_add (a := 2048) (b := 256)]
  refine congrArg₂ (· + ·) (Finset.sum_congr rfl fun k _ => ?_) (Finset.sum_congr rfl fun k _ => ?_)
  · rw [keyRow', Fin.val_castAdd, if_pos k.isLt]
  · rw [keyRow', Fin.val_natAdd, if_neg (by omega), Nat.add_sub_cancel_left, keyRow]

/-- Averages do not depend on the order of the keys. -/
theorem avg_keys (b : ℕ) (s v : ℕ → ℝ) :
    avg (fun p : Fin 9 × Fin 256 => s (keyRow b p.1 p.2)) (fun p => v (keyRow b p.1 p.2))
      = avg (fun k : Fin 2304 => s (keyRow' b k)) (fun k => v (keyRow' b k)) := by
  rw [avg, avg, sum_keys b (fun r => 2 ^ s r * v r), sum_keys b (fun r => 2 ^ s r)]

/-- An entry of a matrix of extended reals, as a number. -/
def entry {R C : ℕ} (X : (⟨2, ![R, C]⟩ : Shape).Idx → EReal) (r c : ℕ) : ℝ :=
  if h : r < R ∧ c < C then (X (ix2 ⟨r, h.1⟩ ⟨c, h.2⟩)).toReal else 0

/-- Every entry is a real number. -/
def AllReal {s : Shape} (X : s.Idx → EReal) : Prop := ∀ i, ∃ r : ℝ, X i = r

theorem AllReal.entry_eq {R C : ℕ} {X : (⟨2, ![R, C]⟩ : Shape).Idx → EReal} (hX : AllReal X) {r c : ℕ} (hr : r < R) (hc : c < C) :
    X (ix2 ⟨r, hr⟩ ⟨c, hc⟩) = entry X r c := by
  obtain ⟨x, hx⟩ := hX (ix2 ⟨r, hr⟩ ⟨c, hc⟩)
  rw [entry, dif_pos ⟨hr, hc⟩, hx, EReal.toReal_coe]

theorem AllReal.read {R C : ℕ} {X : (⟨2, ![R, C]⟩ : Shape).Idx → EReal} (hX : AllReal X) (i : (⟨2, ![R, C]⟩ : Shape).Idx) {r c : ℕ}
    (hr : (i 0).val = r) (hc : (i 1).val = c) : X i = entry X r c := by
  subst hr hc
  rw [← hX.entry_eq (i 0).isLt (i 1).isLt]
  exact congrArg X (eq_ix2 i)

end Cert.Attn

end
-- ==== Proof.TileValue.lean ====
/- What the attention kernel stores for a tile, entry by entry over the extended reals. -/
module

public import proofs.«01_k».proof.Proof.Unit
public import proofs.«01_k».proof.Proof.Real

@[expose] public section

set_option maxRecDepth 16384

noncomputable section

namespace Cert.Attn

open Cert.KernelIdeal Cert.KernelIdeal.Gen Idealize.ShloMosaic Idealize.ShloMosaic.TcCoe Idealize.SL.Sem

theorem slt_lane (d : Fin 128) : IntOp.cmpi .slt (BitVec.ofNat 32 d) 64#32 = if d.val < 64 then 1#1 else 0#1 := by
  revert d; decide +kernel

theorem sge_lane (d : Fin 128) : IntOp.cmpi .sge (BitVec.ofNat 32 d) 64#32 = if d.val < 64 then 0#1 else 1#1 := by
  revert d; decide +kernel

theorem scores_apply (q k : Vec Ideal S256x128 .bf16) (i j : Fin 256) :
    scores q k (ix2 i j) = ∑ d : Fin 128, q (ix2 i d) * k (ix2 j d) := by
  pointwise [scores]

theorem lowHalf_apply (q : Vec Ideal S256x128 .bf16) (i : Fin 256) (d : Fin 128) :
    lowHalf q (ix2 i d) = if d.val < 64 then q (ix2 i d) else 0 := by
  pointwise [lowHalf]
  rw [slt_lane]
  split <;> rfl

theorem highHalf_apply (q : Vec Ideal S256x128 .bf16) (i : Fin 256) (d : Fin 128) :
    highHalf q (ix2 i d) = if d.val < 64 then 0 else q (ix2 i d) := by
  pointwise [highHalf]
  rw [sge_lane]
  split <;> rfl

theorem scores_low (q k : Vec Ideal S256x128 .bf16) (qr kr : ℕ → ℕ → ℝ) (hq : ∀ (i : Fin 256) (d : Fin 128), q (ix2 i d) = qr i d)
    (hk : ∀ (i : Fin 256) (d : Fin 128), k (ix2 i d) = kr i d) (i j : Fin 256) :
    scores (lowHalf q) k (ix2 i j) = ((∑ d : Fin 64, qr i (64 * 0 + d) * kr j (64 * 0 + d) : ℝ) : EReal) := by
  rw [scores_apply, ← coe_sum, Fin.sum_univ_add (a := 64) (b := 64)]
  simp only [lowHalf_apply, hq, hk]
  rw [Finset.sum_eq_zero (s := Finset.univ) (f := fun d : Fin 64 => (if (Fin.natAdd 64 d : Fin 128).val < 64 then _ else _) * _)
    (fun d _ => by rw [if_neg (by simp), zero_mul]), add_zero]
  exact Finset.sum_congr rfl fun d _ => by rw [if_pos (by simp), EReal.coe_mul]; simp

theorem scores_high (q k : Vec Ideal S256x128 .bf16) (qr kr : ℕ → ℕ → ℝ) (hq : ∀ (i : Fin 256) (d : Fin 128), q (ix2 i d) = qr i d)
    (hk : ∀ (i : Fin 256) (d : Fin 128), k (ix2 i d) = kr i d) (i j : Fin 256) :
    scores (highHalf q) k (ix2 i j) = ((∑ d : Fin 64, qr i (64 * 1 + d) * kr j (64 * 1 + d) : ℝ) : EReal) := by
  rw [scores_apply, ← coe_sum, Fin.sum_univ_add (a := 64) (b := 64)]
  simp only [highHalf_apply, hq, hk]
  rw [Finset.sum_eq_zero (s := Finset.univ) (f := fun d : Fin 64 => (if (Fin.castAdd 64 d : Fin 128).val < 64 then _ else _) * _)
    (fun d _ => by rw [if_pos (by simp), zero_mul]), zero_add]
  exact Finset.sum_congr rfl fun d _ => by rw [if_neg (by simp), EReal.coe_mul]; simp [add_comm]

theorem laneMax_succ_apply (q : Vec Ideal S256x128 .bf16) (K : ℕ → Vec Ideal S256x128 .bf16) (n : ℕ) (i : Fin 256) (l : Fin 128) :
    laneMax q K (n + 1) (ix2 i l) = max (max (laneMax q K n (ix2 i l)) (scores q (K n) (ix2 i ⟨l.val, by omega⟩)))
      (scores q (K n) (ix2 i ⟨128 + l.val, by omega⟩)) := by
  rw [laneMax]
  generalize laneMax q K n = L
  generalize scores q (K n) = s
  pointwise

theorem ofBits_neg_inf : Ideal.ofBits .f32 0xFF800000#32 = ⊥ := by simp [Ideal.ofBits, Ideal.ieee]

theorem rowMax_apply (M : FVec Ideal S256x128 .f32) (i j : Fin 256) :
    rowMax M (ix2 i j) = Finset.univ.fold max ⊥ fun l : Fin 128 => M (ix2 i l) := by
  pointwise [rowMax]
  rw [ofBits_neg_inf]

theorem weighted_apply (M : FVec Ideal S256x128 .f32) (s : FVec Ideal S256x256 .f32) (v : Vec Ideal S256x128 .bf16) (i c : Fin 256) :
    weighted M (shapeCast S1x256x256 s shapeCasts_S256x256_S1x256x256) v (ix2 i c) = ∑ j : Fin 256, Ideal.exp2 (s (ix2 i j) - rowMax M (ix2 i j)) *
      (if h : c.val < 128 then v (ix2 j ⟨c.val, h⟩) else 1) := by
  rw [weighted]
  generalize rowMax M = R
  pointwise
  rfl

theorem laneMax_zero_apply (q : Vec Ideal S256x128 .bf16) (K : ℕ → Vec Ideal S256x128 .bf16) (i : Fin 256) (l : Fin 128) :
    laneMax q K 0 (ix2 i l) = ⊥ := by
  rw [laneMax]
  pointwise
  rw [ofBits_neg_inf]

theorem laneMax_real (q : Vec Ideal S256x128 .bf16) (K : ℕ → Vec Ideal S256x128 .bf16) (i : Fin 256)
    (hs : ∀ n (j : Fin 256), ∃ r : ℝ, scores q (K n) (ix2 i j) = r) (l : Fin 128) (n : ℕ) : ∃ r : ℝ, laneMax q K (n + 1) (ix2 i l) = r := by
  induction n with
  | zero =>
    rw [laneMax_succ_apply, laneMax_zero_apply, max_bot_left]
    exact max_real (hs _ _) (hs _ _)
  | succ n ih =>
    rw [laneMax_succ_apply]
    exact max_real (max_real ih (hs _ _)) (hs _ _)

theorem rowMax_real (M : FVec Ideal S256x128 .f32) (i : Fin 256) (h : ∀ l : Fin 128, ∃ r : ℝ, M (ix2 i l) = r) :
    ∃ r : ℝ, ∀ j : Fin 256, rowMax M (ix2 i j) = r := by
  obtain ⟨r, hr⟩ := fold_max_real _ h
  exact ⟨r, fun j => (rowMax_apply M i j).trans hr⟩

/-- The sums over the first `n` key blocks: the weighted values in the lanes below 128, the sum of the weights in the others. -/
theorem total_apply (q : Vec Ideal S256x128 .bf16) (K V : ℕ → Vec Ideal S256x128 .bf16) (i : Fin 256) (s : ℕ → ℕ → ℝ) (v : ℕ → ℕ → ℕ → ℝ)
    (hs : ∀ n (j : Fin 256), scores q (K n) (ix2 i j) = s n j) (hv : ∀ n (j : Fin 256) (c : Fin 128), V n (ix2 j c) = v n j c) :
    ∃ M : ℝ, ∀ n, (∀ c : Fin 128, total q K V n (ix2 i ⟨c.val, by omega⟩)
        = ((∑ m ∈ Finset.range n, ∑ j : Fin 256, (2 : ℝ) ^ (s m j - M) * v m j c : ℝ) : EReal))
      ∧ ∀ c : Fin 128, total q K V n (ix2 i ⟨128 + c.val, by omega⟩)
        = ((∑ m ∈ Finset.range n, ∑ j : Fin 256, (2 : ℝ) ^ (s m j - M) : ℝ) : EReal) := by
  obtain ⟨M, hM⟩ := rowMax_real (laneMax q K 9) i (fun l => laneMax_real q K i (fun n j => ⟨_, hs n j⟩) l 8)
  refine ⟨M, fun n => ?_⟩
  have hz : ∀ c, total q K V 0 (ix2 i c) = 0 := fun c => by
    rw [total]; pointwise
  have hstep : ∀ n (c : Fin 256), total q K V (n + 1) (ix2 i c) = total q K V n (ix2 i c)
      + ∑ j : Fin 256, (((2 : ℝ) ^ (s n j - M) : ℝ) : EReal) * (if h : c.val < 128 then V n (ix2 j ⟨c.val, h⟩) else 1) := fun n c => by
    rw [total]
    refine congrArg (total q K V n (ix2 i c) + ·) ?_
    rw [weighted_apply]
    refine Finset.sum_congr rfl fun j _ => ?_
    rw [hs, hM, ← EReal.coe_sub, exp2_coe]
  induction n with
  | zero => exact ⟨fun c => by rw [hz]; simp, fun c => by rw [hz]; simp⟩
  | succ n ih =>
    constructor
    · intro c
      rw [hstep, ih.1, Finset.sum_range_succ, EReal.coe_add, ← coe_sum Finset.univ (fun j : Fin 256 => (2 : ℝ) ^ (s n j - M) * v n j c)]
      exact congrArg _ (Finset.sum_congr rfl fun j _ => by rw [dif_pos c.isLt, hv, EReal.coe_mul])
    · intro c
      rw [hstep, ih.2, Finset.sum_range_succ, EReal.coe_add, ← coe_sum Finset.univ (fun j : Fin 256 => (2 : ℝ) ^ (s n j - M))]
      exact congrArg _ (Finset.sum_congr rfl fun j _ => by rw [dif_neg (by simp), mul_one])

theorem sum_pairs (f : ℕ → ℕ → ℝ) : (∑ m ∈ Finset.range 9, ∑ j : Fin 256, f m j) = ∑ p : Fin 9 × Fin 256, f p.1 p.2 := by
  rw [Fintype.sum_prod_type, ← Finset.sum_range (fun n => ∑ j : Fin 256, f n j)]

theorem difference_apply (lam : Elt Ideal .f32) (a b : FVec Ideal S256x256 .f32) (i : Fin 256) (l : Fin 128) :
    difference lam a b (ix2 i l) = Ideal.div (a (ix2 i ⟨l.val, by omega⟩)) (a (ix2 i ⟨128 + l.val, by omega⟩))
      - b (ix2 i ⟨l.val, by omega⟩) * Ideal.div lam (b (ix2 i ⟨128 + l.val, by omega⟩)) := by
  pointwise [difference]

/-- The difference of the two maps' averages. -/
theorem difference_total (lam : ℝ) (q₀ q₁ : Vec Ideal S256x128 .bf16) (K V : ℕ → Vec Ideal S256x128 .bf16) (i : Fin 256) (s₀ s₁ : ℕ → ℕ → ℝ)
    (v : ℕ → ℕ → ℕ → ℝ) (hs₀ : ∀ n (j : Fin 256), scores q₀ (K n) (ix2 i j) = s₀ n j) (hs₁ : ∀ n (j : Fin 256), scores q₁ (K n) (ix2 i j) = s₁ n j)
    (hv : ∀ n (j : Fin 256) (c : Fin 128), V n (ix2 j c) = v n j c) (c : Fin 128) :
    difference (F := Ideal) (lam : EReal) (total q₀ K V 9) (total q₁ K V 9) (ix2 i c)
      = ((avg (fun p : Fin 9 × Fin 256 => s₀ p.1 p.2) (fun p => v p.1 p.2 c)
          - lam * avg (fun p : Fin 9 × Fin 256 => s₁ p.1 p.2) (fun p => v p.1 p.2 c) : ℝ) : EReal) := by
  obtain ⟨M₀, h₀⟩ := total_apply q₀ K V i s₀ v hs₀ hv
  obtain ⟨M₁, h₁⟩ := total_apply q₁ K V i s₁ v hs₁ hv
  rw [difference_apply, (h₀ 9).1, (h₀ 9).2, (h₁ 9).1, (h₁ 9).2, sum_pairs (fun m j => (2 : ℝ) ^ (s₀ m j - M₀) * v m j c),
    sum_pairs (fun m j => (2 : ℝ) ^ (s₀ m j - M₀)), sum_pairs (fun m j => (2 : ℝ) ^ (s₁ m j - M₁) * v m j c),
    sum_pairs (fun m j => (2 : ℝ) ^ (s₁ m j - M₁)), div_coe _ _ (sum_two_pos _).ne', div_coe _ _ (sum_two_pos _).ne', ← EReal.coe_mul, ← EReal.coe_sub,
    avg_shift, ← avg_shift (fun p : Fin 9 × Fin 256 => s₁ p.1 p.2) _ M₁]
  congr 2
  ring

/-- A row divided by its root mean square, times the gains and the fixed scale. -/
def rmsRow (d g : Fin 128 → EReal) (l : Fin 128) : EReal :=
  d l * Ideal.rsqrt (Ideal.div (∑ x, d x * d x) (Ideal.ofBits .f32 0x43000000#32) + Ideal.ofBits .f32 0x358637BD#32) * g l * Ideal.ofBits .f32 0x3F24FD5C#32

theorem normed_apply (d : FVec Ideal S256x128 .f32) (g : Vec Ideal S1x128 .f32) (i : Fin 256) (l : Fin 128) :
    normed d g (ix2 i l) = rmsRow (fun x => d (ix2 i x)) (fun x => g (ix2 0 x)) l := by
  pointwise [normed, rmsRow]

/-- What a tile's entry is, from the entries of the queries, keys and values as numbers. -/
theorem tile_apply (lam : ℝ) (q : Vec Ideal S256x128 .bf16) (K V : ℕ → Vec Ideal S256x128 .bf16) (g : Vec Ideal S1x128 .f32)
    (qr : ℕ → ℕ → ℝ) (kr v : ℕ → ℕ → ℕ → ℝ) (hq : ∀ (i : Fin 256) (d : Fin 128), q (ix2 i d) = qr i d)
    (hK : ∀ n (j : Fin 256) (d : Fin 128), K n (ix2 j d) = kr n j d) (hV : ∀ n (j : Fin 256) (c : Fin 128), V n (ix2 j c) = v n j c)
    (i : Fin 256) (l : Fin 128) :
    tile (F := Ideal) (lam : EReal) q K V g (ix2 i l) = rmsRow (fun c =>
      ((avg (fun p : Fin 9 × Fin 256 => ∑ d : Fin 64, qr i (64 * 0 + d) * kr p.1 p.2 (64 * 0 + d)) (fun p => v p.1 p.2 c)
          - lam * avg (fun p : Fin 9 × Fin 256 => ∑ d : Fin 64, qr i (64 * 1 + d) * kr p.1 p.2 (64 * 1 + d)) (fun p => v p.1 p.2 c) : ℝ) : EReal))
      (fun c => g (ix2 0 c)) l := by
  rw [tile, normed_apply]
  refine congrArg (rmsRow · _ l) (funext fun c => ?_)
  exact difference_total lam _ _ K V i (fun n j => ∑ d : Fin 64, qr i (64 * 0 + d) * kr n j (64 * 0 + d))
    (fun n j => ∑ d : Fin 64, qr i (64 * 1 + d) * kr n j (64 * 1 + d)) v (fun n j => scores_low q (K n) qr (kr n) hq (hK n) i j)
    (fun n j => scores_high q (K n) qr (kr n) hq (hK n) i j) hV c

end Cert.Attn

end
-- ==== Proof.RefValue.lean ====
/- What the reference computes, entry by entry over the extended reals. -/
module

public import proofs.«01_k».proof.Proof.Gen.ReferenceIdeal.Read
public import proofs.«01_k».proof.Proof.TileValue

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

variable (x0 : FVec Ideal S1x1 .f32) (x1 : FVec Ideal S18432x1024 .bf16) (x2 : FVec Ideal S18432x512 .bf16) (x3 : FVec Ideal S1x128 .f32)

theorem query_apply (hx : AllReal x1) (b : Fin 8) (r : Fin 2048) (h : Fin 4) (m : Fin 2) (d : Fin 64) :
    val_main_v3 (F := Ideal) x1 (ix5 b r h m d) = entry x1 (2048 + 2048 * b + r) (128 * h + (64 * m + d)) := by
  pointwise [val_main_v3, val_main_v2, val_main_v0]
  exact hx.read _ (by simp; omega) (by simp; omega)

theorem key_apply (hx : AllReal x1) (b : Fin 8) (k : Fin 2304) (h : Fin 4) (m : Fin 2) (d : Fin 64) :
    val_main_v12 (F := Ideal) x1 (ix5 b k h m d) = entry x1 (keyRow' b k) (512 + (128 * h + (64 * m + d))) := by
  pointwise [val_main_v12, val_main_v5, val_main_v4, val_main_v7, val_main_v6, val_main_v0]
  split <;> rename_i hk
  · exact hx.read _ (by simp [keyRow', hk]; omega) (by simp; omega)
  · exact hx.read _ (by simp [keyRow', hk]; omega) (by simp; omega)

theorem value_apply (hx : AllReal x2) (b : Fin 8) (k : Fin 2304) (h : Fin 4) (c : Fin 128) :
    val_main_v13 (F := Ideal) x2 (ix4 b k h c) = entry x2 (keyRow' b k) (128 * h + c) := by
  pointwise [val_main_v13, val_main_v9, val_main_v8, val_main_v11, val_main_v10, val_main_v1]
  split <;> rename_i hk
  · exact hx.read _ (by simp [keyRow', hk]; omega) (by simp; omega)
  · exact hx.read _ (by simp [keyRow', hk]; omega) (by simp; omega)

theorem ofBits_two : Ideal.ofBits .f32 0x40000000#32 = ((2 : ℝ) : EReal) := by
  simp [Ideal.ofBits, Ideal.ieee]
  rw [← EReal.coe_mul]
  norm_num

theorem log_two (i : S_.Idx) : val_main_v15 (F := Ideal) i = ((Real.log 2 : ℝ) : EReal) := by
  pointwise [val_main_v15, val_main_cst]
  rw [ofBits_two]
  exact if_neg (by norm_num)

/-- The score of a query against a key, for one map: the products of their 64 entries, summed. -/
def score (b r h m κ : ℕ) : ℝ :=
  ∑ d : Fin 64, entry x1 (2048 + 2048 * b + r) (128 * h + (64 * m + d)) * entry x1 κ (512 + (128 * h + (64 * m + d)))

theorem score_apply (hx : AllReal x1) (b : Fin 8) (h : Fin 4) (m : Fin 2) (r : Fin 2048) (k : Fin 2304) :
    val_main_v17 (F := Ideal) x1 (ix5 b h m r k) = ((score x1 b r h m (keyRow' b k) * Real.log 2 : ℝ) : EReal) := by
  pointwise [val_main_v17, val_main_v16, log_two, val_main_v14]
  simp only [query_apply x1 hx, key_apply x1 hx, ← EReal.coe_mul, coe_sum]
  rfl

theorem lift_score (b : Fin 8) (h : Fin 4) (m : Fin 2) (r : Fin 2048) (hr : S8x4x2x2048x2304.Reduces [4] S8x4x2x2048) (k : Fin 2304) :
    hr.lift (ix4 b h m r) k = ix5 b h m r k := by
  funext c; apply Fin.ext
  fin_cases c <;> rfl

theorem max_apply (hx : AllReal x1) (b : Fin 8) (h : Fin 4) (m : Fin 2) (r : Fin 2048) :
    ∃ M : ℝ, val_main_v18 (F := Ideal) x1 (ix4 b h m r) = M := by
  have hs := score_apply x1 hx b h m r
  unfold val_main_v18
  generalize val_main_v17 (F := Ideal) x1 = y at hs
  rw [Host.reduce_eq_fold_single (FloatOps.maximumf (F := Ideal) (φ := .f32)) y _ reducesTo_S8x4x2x2048x2304_S8x4x2x2048_d4 (by decide) h_S_,
    val_main_cst_0_apply]
  rw [show (FloatOps.ofBits .f32 0xFF800000#32 : Ideal .f32) = (⊥ : EReal) from ofBits_neg_inf]
  haveI : Nonempty (Fin (S8x4x2x2048x2304.size 4)) := ⟨(⟨0, by decide⟩ : Fin 2304)⟩
  exact fold_max_real _ fun k => ⟨_, (congrArg y (lift_score b h m r _ k)).trans (hs k)⟩

theorem shift_real (hx : AllReal x1) (b : Fin 8) (h : Fin 4) (m : Fin 2) (r : Fin 2048) :
    ∃ M : ℝ, ∀ k : Fin 2304, val_main_v22 (F := Ideal) x1 (ix5 b h m r k) = M := by
  obtain ⟨M, hM⟩ := max_apply x1 hx b h m r
  refine ⟨M, fun k => ?_⟩
  have e : idx_main_v21 (idx_main_v22 (ix5 b h m r k)) = ix4 b h m r := by
    funext a; apply Fin.ext
    fin_cases a <;> rfl
  rw [val_main_v22_apply, val_main_v21_apply, e, val_main_v20_apply, hM, val_main_v19_apply, val_main_cst_1_apply]
  rw [show (FloatOps.ofBits .f32 0xFF800000#32 : Ideal .f32) = (⊥ : EReal) from ofBits_neg_inf]
  exact max_bot_left _

/-- The probabilities: powers of `e` over their sum. -/
theorem prob_apply (hx : AllReal x1) (b : Fin 8) (h : Fin 4) (m : Fin 2) (r : Fin 2048) :
    ∃ M : ℝ, ∀ k : Fin 2304, val_main_v28 (F := Ideal) x1 (ix5 b h m r k)
      = ((Real.exp (score x1 b r h m (keyRow' b k) * Real.log 2 - M)
          / ∑ j : Fin 2304, Real.exp (score x1 b r h m (keyRow' b j) * Real.log 2 - M) : ℝ) : EReal) := by
  obtain ⟨M, hM⟩ := shift_real x1 hx b h m r
  refine ⟨M, fun k => ?_⟩
  have hexp : ∀ k : Fin 2304, val_main_v24 (F := Ideal) x1 (ix5 b h m r k)
      = ((Real.exp (score x1 b r h m (keyRow' b k) * Real.log 2 - M) : ℝ) : EReal) := fun k => by
    rw [val_main_v24_apply, val_main_v23_apply, hM, score_apply x1 hx]
    rfl
  have e : idx_main_v26 (idx_main_v27 (ix5 b h m r k)) = ix4 b h m r := by
    funext a; apply Fin.ext
    fin_cases a <;> rfl
  have e' : ∀ j : Fin 2304, idx_main_v25 (ix4 b h m r) j = ix5 b h m r j := fun j => by
    funext a; apply Fin.ext
    fin_cases a <;> rfl
  have hsum : val_main_v27 (F := Ideal) x1 (ix5 b h m r k)
      = ((∑ j : Fin 2304, Real.exp (score x1 b r h m (keyRow' b j) * Real.log 2 - M) : ℝ) : EReal) := by
    rw [val_main_v27_apply, val_main_v26_apply, e, val_main_v25_apply, val_main_cst_2_apply, ← coe_sum]
    rw [show (FloatOps.ofBits .f32 0x00000000#32 : Ideal .f32) = (0 : EReal) from Ideal.ofBits_zero_f32, zero_add]
    exact Finset.sum_congr rfl fun j _ => by rw [e', hexp]
  rw [val_main_v28_apply, hexp, hsum]
  exact div_coe _ _ (sum_exp_pos _).ne'

/-- The difference of the two maps' averages of the values, for a query and a lane. -/
def averaged (lam : ℝ) (b r h c : ℕ) : ℝ :=
  avg (fun k : Fin 2304 => score x1 b r h 0 (keyRow' b k)) (fun k => entry x2 (keyRow' b k) (128 * h + c))
    - lam * avg (fun k : Fin 2304 => score x1 b r h 1 (keyRow' b k)) (fun k => entry x2 (keyRow' b k) (128 * h + c))

theorem first_idx (b : Fin 8) (h : Fin 4) (r : Fin 2048) (k : Fin 2304) : idx_main_v29 (idx_main_v30 (ix4 b h r k)) = ix5 b h 0 r k := by
  have h0 := b.isLt; have h1 := h.isLt; have h2 := r.isLt; have h3 := k.isLt
  funext a; apply Fin.ext
  match a with
  | ⟨0, _⟩ => show (((b.val * 4 + h.val) * 2048 + r.val) * 2304 + k.val) / 18874368 = b.val; omega
  | ⟨1, _⟩ => show (((b.val * 4 + h.val) * 2048 + r.val) * 2304 + k.val) / 4718592 % 4 = h.val; omega
  | ⟨2, _⟩ => rfl
  | ⟨3, _⟩ => show (((b.val * 4 + h.val) * 2048 + r.val) * 2304 + k.val) / 2304 % 2048 = r.val; omega
  | ⟨4, _⟩ => show (((b.val * 4 + h.val) * 2048 + r.val) * 2304 + k.val) % 2304 = k.val; omega

theorem second_idx (b : Fin 8) (h : Fin 4) (r : Fin 2048) (k : Fin 2304) : idx_main_v32 (idx_main_v33 (ix4 b h r k)) = ix5 b h 1 r k := by
  have h0 := b.isLt; have h1 := h.isLt; have h2 := r.isLt; have h3 := k.isLt
  funext a; apply Fin.ext
  match a with
  | ⟨0, _⟩ => show (((b.val * 4 + h.val) * 2048 + r.val) * 2304 + k.val) / 18874368 = b.val; omega
  | ⟨1, _⟩ => show (((b.val * 4 + h.val) * 2048 + r.val) * 2304 + k.val) / 4718592 % 4 = h.val; omega
  | ⟨2, _⟩ => rfl
  | ⟨3, _⟩ => show (((b.val * 4 + h.val) * 2048 + r.val) * 2304 + k.val) / 2304 % 2048 = r.val; omega
  | ⟨4, _⟩ => show (((b.val * 4 + h.val) * 2048 + r.val) * 2304 + k.val) % 2304 = k.val; omega

theorem scalar_apply (i : S_.Idx) : val_main_v31 (F := Ideal) x0 i = x0 (ix2 0 0) := by
  pointwise [val_main_v31]

theorem averaged_apply (hx : AllReal x1) (hv : AllReal x2) (lam : ℝ) (hl : x0 (ix2 0 0) = lam) (b : Fin 8) (r : Fin 2048) (h : Fin 4) (c : Fin 128) :
    val_main_v38 (F := Ideal) x0 x1 x2 (ix4 b r h c) = averaged x1 x2 lam b r h c := by
  obtain ⟨M₀, h₀⟩ := prob_apply x1 hx b h 0 r
  obtain ⟨M₁, h₁⟩ := prob_apply x1 hx b h 1 r
  have hd : ∀ k : Fin 2304, val_main_v36 (F := Ideal) x0 x1 (ix4 b h r k) = (((Real.exp (score x1 b r h 0 (keyRow' b k) * Real.log 2 - M₀)
          / ∑ j : Fin 2304, Real.exp (score x1 b r h 0 (keyRow' b j) * Real.log 2 - M₀))
        - lam * (Real.exp (score x1 b r h 1 (keyRow' b k) * Real.log 2 - M₁)
          / ∑ j : Fin 2304, Real.exp (score x1 b r h 1 (keyRow' b j) * Real.log 2 - M₁)) : ℝ) : EReal) := fun k => by
    rw [val_main_v36_apply, val_main_v30_apply, val_main_v29_apply, first_idx, h₀, val_main_v35_apply, val_main_v34_apply, val_main_v33_apply,
      val_main_v32_apply, second_idx, h₁, scalar_apply, hl]
    rfl
  have e : idx_main_v38 (ix4 b r h c) = ix4 b h c r := by
    funext a; apply Fin.ext
    fin_cases a <;> rfl
  have el : ∀ k : Fin 2304, lidx_main_v37 (ix4 b h c r) k = ix4 b k h c := fun k => by
    funext a; apply Fin.ext
    fin_cases a <;> rfl
  have er : ∀ k : Fin 2304, ridx_main_v37 (ix4 b h c r) k = ix4 b h r k := fun k => by
    funext a; apply Fin.ext
    fin_cases a <;> rfl
  rw [val_main_v38_apply, e, val_main_v37_apply]
  simp only [el, er, hd, value_apply x2 hv, ← EReal.coe_mul, coe_sum]
  refine congrArg _ ?_
  rw [averaged, ← softmax_avg _ _ M₀, ← softmax_avg _ _ M₁, Finset.mul_sum, ← Finset.sum_sub_distrib]
  exact Finset.sum_congr rfl fun k _ => by ring

/-- The reference's result at a row and a column. -/
theorem ref_apply (hx : AllReal x1) (hv : AllReal x2) (lam : ℝ) (hl : x0 (ix2 0 0) = lam) (b : Fin 8) (r : Fin 2048) (h : Fin 4) (c : Fin 128)
    (i : S16384x512.Idx) (h0 : (i 0).val = 2048 * b + r) (h1 : (i 1).val = 128 * h + c) :
    val_main_v56 (F := Ideal) x0 x1 x2 x3 i
      = rmsRow (fun l => (averaged x1 x2 lam b r h l : EReal)) (fun l => x3 (ix2 0 l)) c := by
  have e : idx_main_v55 i = ix4 b r h c := by
    funext a; apply Fin.ext
    fin_cases a <;> simp [idx_main_v55, h0, h1] <;> omega
  rw [val_main_v56_apply, val_main_v55_apply, e]
  have ha := averaged_apply x0 x1 x2 hx hv lam hl b r h
  pointwise [val_main_v54, val_main_v53, val_main_cst_6, val_main_v52, val_main_v51, val_main_v50, val_main_v49, val_main_v48, val_main_v47, val_main_v46,
    val_main_v45, val_main_v44, val_main_cst_5, val_main_v43, val_main_v42, val_main_cst_4, val_main_v41, val_main_v40, val_main_cst_3, val_main_v39, rmsRow, ha]

end Cert.Attn

end
-- ==== Proof.Array.lean ====
/- The attention's result array after the run, entry by entry. -/
module

public import proofs.«01_k».proof.Proof.RefValue
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- The block indices of the windows at grid point `t`: batch `t / 4`, head `t % 4`. -/
theorem index_at : ∀ t : Fin grid0.N, (win0_0.index t = ![0, 0] ∧ win0_1.index t = ![1 + t.val / 4, t.val % 4] ∧ win0_2.index t = ![t.val / 4, 4 + t.val % 4]
    ∧ win0_3.index t = ![t.val / 4, t.val % 4] ∧ win0_4.index t = ![1 + t.val / 4, 4 + t.val % 4] ∧ win0_5.index t = ![1 + t.val / 4, t.val % 4]
    ∧ win0_6.index t = ![0, 0] ∧ win0_7.index t = ![t.val / 4, t.val % 4]) := by
  decide +kernel

/-- The result at an index, from the arrays. -/
def result (x0 : FVec Ideal S1x1 .f32) (x1 : FVec Ideal S18432x1024 .bf16) (x2 : FVec Ideal S18432x512 .bf16) (x3 : FVec Ideal S1x128 .f32) :
    FVec Ideal S16384x512 .bf16 := fun i =>
  rmsRow (fun l => (averaged x1 x2 (entry x0 0 0) ((i 0).val / 2048) ((i 0).val % 2048) ((i 1).val / 128) l : EReal)) (fun l => x3 (ix2 0 l))
    ⟨(i 1).val % 128, Nat.mod_lt _ (by decide)⟩

variable (m : (ℓ : Loc nD τ sig) → Buf (Elt Ideal) ℓ)

/-- An entry of a tile's queries. -/
theorem queries_at (c : Dev nD) (t : Fin cfg0.N) (hx : AllReal (m ((c : Thread nD τ).loc main_arg1))) (u : ℕ) (hu : u < 8) (i : Fin 256) (d : Fin 128) :
    rowsOf (iblk m c 1 t) u (ix2 i d) = entry (m ((c : Thread nD τ).loc main_arg1)) (2048 + 2048 * (t.val / 4) + (256 * u + i)) (128 * (t.val % 4) + d) := by
  have ht := (index_at t).2.1
  refine Eq.trans ?_ (hx.read (((cfg0.win 1).blk t).view.emb ((rowRect u).emb (ix2 i d))) ?_ ?_)
  · rfl
  · blk_simp [ht]
    omega
  · blk_simp [ht]
    omega

/-- The block of latents that a number past the last names. -/
def wrap : ℕ → ℕ
  | 0 => 0
  | n + 1 => n % 8 + 1

theorem wrap_eq (n : Fin 9) : wrap n = n := by revert n; decide

/-- An entry of a block of keys. -/
theorem keys_at (c : Dev nD) (t : Fin cfg0.N) (hx : AllReal (m ((c : Thread nD τ).loc main_arg1))) (n : ℕ) (j : Fin 256) (d : Fin 128) :
    blockAt (iblk m c 2 t) (iblk m c 4 t) n (ix2 j d)
      = entry (m ((c : Thread nD τ).loc main_arg1)) (keyRow (t.val / 4) (wrap n) j) (512 + (128 * (t.val % 4) + d)) := by
  match n with
  | 0 =>
    have ht := (index_at t).2.2.1
    refine Eq.trans ?_ (hx.read (((cfg0.win 2).blk t).view.emb ((Rect.unit ![0, 0] S256x128.size inb_S256x128_S256x128_0_0).emb (ix2 j d))) ?_ ?_)
    · rfl
    · blk_simp [ht, keyRow, wrap]
      omega
    · blk_simp [ht]
      omega
  | n + 1 =>
    have ht := (index_at t).2.2.2.2.1
    refine Eq.trans ?_ (hx.read (((cfg0.win 4).blk t).view.emb ((rowRect n).emb (ix2 j d))) ?_ ?_)
    · rfl
    · blk_simp [ht, keyRow, wrap]
      omega
    · blk_simp [ht]
      omega

/-- An entry of a block of values. -/
theorem values_at (c : Dev nD) (t : Fin cfg0.N) (hx : AllReal (m ((c : Thread nD τ).loc main_arg2))) (n : ℕ) (j : Fin 256) (d : Fin 128) :
    blockAt (iblk m c 3 t) (iblk m c 5 t) n (ix2 j d)
      = entry (m ((c : Thread nD τ).loc main_arg2)) (keyRow (t.val / 4) (wrap n) j) (128 * (t.val % 4) + d) := by
  match n with
  | 0 =>
    have ht := (index_at t).2.2.2.1
    refine Eq.trans ?_ (hx.read (((cfg0.win 3).blk t).view.emb ((Rect.unit ![0, 0] S256x128.size inb_S256x128_S256x128_0_0).emb (ix2 j d))) ?_ ?_)
    · rfl
    · blk_simp [ht, keyRow, wrap]
      omega
    · blk_simp [ht]
      omega
  | n + 1 =>
    have ht := (index_at t).2.2.2.2.2.1
    refine Eq.trans ?_ (hx.read (((cfg0.win 5).blk t).view.emb ((rowRect n).emb (ix2 j d))) ?_ ?_)
    · rfl
    · blk_simp [ht, keyRow, wrap]
      omega
    · blk_simp [ht]
      omega

/-- The factor of the second map. -/
theorem factor_at (c : Dev nD) (t : Fin cfg0.N) (h : 0 < (Rect.unit (s := S1x1) ![0, 0] S1x1.size inb_S1x1_S1x1_0_0).shape.numel) (hx : AllReal (m ((c : Thread nD τ).loc main_arg0))) :
    View.ld (iblk m c 0 t) (Rect.unit ![0, 0] S1x1.size inb_S1x1_S1x1_0_0) (Shape.Idx.first h)
      = ((entry (m ((c : Thread nD τ).loc main_arg0)) 0 0 : ℝ) : EReal) := by
  have ht := (index_at t).1
  refine Eq.trans ?_ (hx.read (((cfg0.win 0).blk t).view.emb ((Rect.unit ![0, 0] S1x1.size inb_S1x1_S1x1_0_0).emb (Shape.Idx.first h))) ?_ ?_)
  · rfl
  · blk_simp [ht]
  · blk_simp [ht]

/-- An entry of the gains. -/
theorem gains_at (c : Dev nD) (t : Fin cfg0.N) (l : Fin 128) :
    View.ld (iblk m c 6 t) (Rect.unit ![0, 0] S1x128.size inb_S1x128_S1x128_0_0) (ix2 0 l) = m ((c : Thread nD τ).loc main_arg3) (ix2 0 l) := by
  have ht := (index_at t).2.2.2.2.2.2.1
  refine Eq.trans (b := m ((c : Thread nD τ).loc main_arg3)
    (((cfg0.win 6).blk t).view.emb ((Rect.unit ![0, 0] S1x128.size inb_S1x128_S1x128_0_0).emb (ix2 0 l)))) rfl (congrArg _ ?_)
  funext a; apply Fin.ext
  match a with
  | ⟨0, _⟩ => blk_simp [ht]
  | ⟨1, _⟩ => blk_simp [ht]

/-- The piece of tile `u` holds the result's entries. -/
theorem piece_at (c : Dev nD) (t : Fin cfg0.N) (h0 : AllReal (m ((c : Thread nD τ).loc main_arg0))) (h1 : AllReal (m ((c : Thread nD τ).loc main_arg1)))
    (h2 : AllReal (m ((c : Thread nD τ).loc main_arg2))) (u : ℕ) (hu : u < 8) (x : S256x128.Idx) :
    (tilePiece (iblk m c 0 t) (iblk m c 1 t) (iblk m c 2 t) (iblk m c 3 t) (iblk m c 4 t) (iblk m c 5 t) (iblk m c 6 t) u).2 x
      = result (m ((c : Thread nD τ).loc main_arg0)) (m ((c : Thread nD τ).loc main_arg1)) (m ((c : Thread nD τ).loc main_arg2))
          (m ((c : Thread nD τ).loc main_arg3)) (((cfg0.win 7).blk t).view.emb ((rowRect u).emb x)) := by
  obtain ⟨i, l, rfl⟩ : ∃ (i : Fin 256) (l : Fin 128), x = ix2 i l := ⟨x 0, x 1, eq_ix2 x⟩
  have ht := (index_at t).2.2.2.2.2.2.2
  have hN : t.val < 32 := t.isLt
  have e0 : ((((cfg0.win 7).blk t).view.emb ((rowRect u).emb (ix2 i l))) 0).val = 2048 * (t.val / 4) + (256 * u + i) := by
    blk_simp [ht]
    omega
  have e1 : ((((cfg0.win 7).blk t).view.emb ((rowRect u).emb (ix2 i l))) 1).val = 128 * (t.val % 4) + l := by
    blk_simp [ht]
    omega
  have hi := i.isLt
  have hl := l.isLt
  rw [result]
  simp only [e0, e1]
  rw [show (2048 * (t.val / 4) + (256 * u + i.val)) / 2048 = t.val / 4 by omega, show (2048 * (t.val / 4) + (256 * u + i.val)) % 2048 = 256 * u + i.val by omega,
    show (128 * (t.val % 4) + l.val) / 128 = t.val % 4 by omega]
  have el : (⟨(128 * (t.val % 4) + l.val) % 128, Nat.mod_lt _ (by decide)⟩ : Fin 128) = l := Fin.ext (by show _ % 128 = l.val; omega)
  rw [el]
  refine (congrArg (fun z : EReal => tile (F := Ideal) z (rowsOf (iblk m c 1 t) u) (blockAt (iblk m c 2 t) (iblk m c 4 t))
    (blockAt (iblk m c 3 t) (iblk m c 5 t)) (View.ld (iblk m c 6 t) (Rect.unit ![0, 0] S1x128.size inb_S1x128_S1x128_0_0)) (ix2 i l))
    (factor_at m c t (by decide) h0)).trans ?_
  refine (tile_apply _ _ _ _ _
    (fun i d => entry (m ((c : Thread nD τ).loc main_arg1)) (2048 + 2048 * (t.val / 4) + (256 * u + i)) (128 * (t.val % 4) + d))
    (fun n j d => entry (m ((c : Thread nD τ).loc main_arg1)) (keyRow (t.val / 4) (wrap n) j) (512 + (128 * (t.val % 4) + d)))
    (fun n j d => entry (m ((c : Thread nD τ).loc main_arg2)) (keyRow (t.val / 4) (wrap n) j) (128 * (t.val % 4) + d))
    (fun i d => queries_at m c t h1 u hu i d) (fun n j d => keys_at m c t h1 n j d) (fun n j d => values_at m c t h2 n j d) i l).trans ?_
  have eg : (fun x : Fin 128 => View.ld (iblk m c 6 t) (Rect.unit ![0, 0] S1x128.size inb_S1x128_S1x128_0_0) (ix2 0 x))
      = fun x => m ((c : Thread nD τ).loc main_arg3) (ix2 0 x) := funext fun x => gains_at m c t x
  rw [eg]
  refine congrArg (rmsRow · _ l) (funext fun x => congrArg Real.toEReal ?_)
  simp only [wrap_eq]
  exact congrArg₂ (fun a b => a - _ * b)
    (avg_keys (t.val / 4) (score (m ((c : Thread nD τ).loc main_arg1)) (t.val / 4) (256 * u + i) (t.val % 4) 0)
      (fun r => entry (m ((c : Thread nD τ).loc main_arg2)) r (128 * (t.val % 4) + x)))
    (avg_keys (t.val / 4) (score (m ((c : Thread nD τ).loc main_arg1)) (t.val / 4) (256 * u + i) (t.val % 4) 1)
      (fun r => entry (m ((c : Thread nD τ).loc main_arg2)) r (128 * (t.val % 4) + x)))

theorem arrAt_eq (c : Dev nD) (h0 : AllReal (m ((c : Thread nD τ).loc main_arg0))) (h1 : AllReal (m ((c : Thread nD τ).loc main_arg1)))
    (h2 : AllReal (m ((c : Thread nD τ).loc main_arg2))) :
    (dats m 0 c).arrAt 7 cfg0.N = result (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t hf y => ?_
  refine (congrFun (Value.flushed7_A m c t) y).trans ?_
  refine Eq.trans (b := out0_A_7 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) (iblk m c 0 t) (iblk m c 1 t) (iblk m c 2 t) (iblk m c 3 t)
    (iblk m c 4 t) (iblk m c 5 t) (iblk m c 6 t) y) rfl ?_
  rw [out0_A_7, View.read_writes_junk_eq_canon, pieces_eq]
  refine View.canon_apply_of_pieces (Val := Elt Ideal) (S := S2048x128) (e := .bf16) (fun y => result (m ((c : Thread nD τ).loc main_arg0)) (m ((c : Thread nD τ).loc main_arg1))
    (m ((c : Thread nD τ).loc main_arg2)) (m ((c : Thread nD τ).loc main_arg3)) (((cfg0.win 7).blk t).view.emb y)) _ ?_ y ?_
  · intro p hp x
    simp only [List.mem_cons, List.not_mem_nil, or_false] at hp
    rcases hp with rfl | rfl | rfl | rfl | rfl | rfl | rfl | rfl <;> exact piece_at m c t h0 h1 h2 _ (by decide) x
  · obtain ⟨i, l, rfl⟩ : ∃ (i : Fin 2048) (l : Fin 128), y = ix2 i l := ⟨y 0, y 1, eq_ix2 y⟩
    have hi := i.isLt
    have hy : ix2 i l = (rowRect (i.val / 256)).emb (ix2 (⟨i.val % 256, by omega⟩ : Fin 256) l) := by
      funext a; apply Fin.ext
      match a with
      | ⟨0, _⟩ => show i.val = 256 * (i.val / 256 % 8) + 1 * (i.val % 256); omega
      | ⟨1, _⟩ => show l.val = 0 + 1 * l.val; omega
    refine ⟨tilePiece (iblk m c 0 t) (iblk m c 1 t) (iblk m c 2 t) (iblk m c 3 t) (iblk m c 4 t) (iblk m c 5 t) (iblk m c 6 t) (i.val / 256), ?_,
      hy ▸ (rowRect (i.val / 256)).idx_mem _⟩
    have hu : i.val / 256 < 8 := by omega
    generalize i.val / 256 = u at hu
    interval_cases u <;> simp

/-- The reference's result is that array. -/
theorem ref_eq_result (x0 : FVec Ideal S1x1 .f32) (x1 : FVec Ideal S18432x1024 .bf16) (x2 : FVec Ideal S18432x512 .bf16) (x3 : FVec Ideal S1x128 .f32)
    (h0 : AllReal x0) (h1 : AllReal x1) (h2 : AllReal x2) : Cert.ReferenceIdeal.Read.val_main_v56 (F := Ideal) x0 x1 x2 x3 = result x0 x1 x2 x3 := by
  funext i
  have hi : (i 0).val < 16384 := (i 0).isLt
  have hj : (i 1).val < 512 := (i 1).isLt
  exact ref_apply x0 x1 x2 x3 h1 h2 (entry x0 0 0) (h0.read _ rfl rfl) ⟨(i 0).val / 2048, by omega⟩ ⟨(i 0).val % 2048, by omega⟩
    ⟨(i 1).val / 128, by omega⟩ ⟨(i 1).val % 128, by omega⟩ i (by show _ = 2048 * ((i 0).val / 2048) + (i 0).val % 2048; omega)
    (by show _ = 128 * ((i 1).val / 128) + (i 1).val % 128; omega)

end Cert.Attn

end
-- ==== Proof.Finite.lean ====
/- What the precondition says: the factor, the queries, the keys and the values are real numbers. -/
module

public import Idealize.ShloMosaic.Lib.WordCmp
public import proofs.«01_k».proof.Pre_finite_inputs
public import proofs.«01_k».proof.Proof.Real
public import Idealize.ShloMosaic.Lib.ReduceAll
public import Idealize.ShloMosaic.Lib.Affine

@[expose] public section

noncomputable section

namespace Cert.Attn

open Idealize.ShloMosaic

/-- The shape relations the precondition's function states. -/
theorem finite_facts : Cert.Pre_finite_inputs.Facts where
  bcast_S_S1x1 := by decide
  reducesTo_S1x1_S_d0_1 := by decide
  h_S_ := by decide
  bcast_S_S18432x1024 := by decide
  reducesTo_S18432x1024_S_d0_1 := by decide
  bcast_S_S18432x512 := by decide
  reducesTo_S18432x512_S_d0_1 := by decide

theorem ofBits_inf : Ideal.ofBits .f32 0x7F800000#32 = ⊤ := by simp [Ideal.ofBits, Ideal.ieee]

theorem ofBits_inf_bf16 : Ideal.ofBits .bf16 0x7F80#16 = ⊤ := by simp [Ideal.ofBits, Ideal.ieee]

/-- A magnitude below infinity is a real number's. -/
theorem real_of_abs_lt (x : EReal) (h : max x (-x) < (⊤ : EReal)) : ∃ r : ℝ, x = (r : EReal) := by
  induction x using EReal.rec with
  | bot => exact absurd h (by simp)
  | coe r => exact ⟨r, rfl⟩
  | top => exact absurd h (by simp)

theorem finite_real (x0 : FVec Ideal ⟨2, ![1, 1]⟩ .f32) (x1 : FVec Ideal ⟨2, ![18432, 1024]⟩ .bf16) (x2 : FVec Ideal ⟨2, ![18432, 512]⟩ .bf16)
    (x3 : FVec Ideal ⟨2, ![1, 128]⟩ .f32) (hf : Cert.Pre_finite_inputs.Facts) (h : Cert.Pre_finite_inputs.fn (F := Ideal) x0 x1 x2 x3 = fun _ => 1#1) :
    AllReal x0 ∧ AllReal x1 ∧ AllReal x2 := by
  have h' := congrFun h (Shape.Idx.first hf.h_S_)
  unfold Cert.Pre_finite_inputs.fn at h'
  dsimp only at h'
  change IntOp.andi (IntOp.andi _ _) _ = 1#1 at h'
  rw [IntOp.andi_eq_one, IntOp.andi_eq_one] at h'
  obtain ⟨⟨h0, h1⟩, h2⟩ := h'
  haveI : Subsingleton (Shape.Idx Cert.Pre_finite_inputs.S_) := ⟨fun a b => funext fun i => i.elim0⟩
  have e0 := Host.reduce_andi_all _ _ _ _ _ h0
  have e1 := Host.reduce_andi_all _ _ _ _ _ h1
  have e2 := Host.reduce_andi_all _ _ _ _ _ h2
  refine ⟨fun i => ?_, fun i => ?_, fun i => ?_⟩
  · have := e0 i
    pointwise at this
    rw [ofBits_inf] at this
    exact real_of_abs_lt _ ((WordCmp.ofBool_decide_eq_one_iff _).1 this)
  · have := e1 i
    pointwise at this
    rw [ofBits_inf_bf16] at this
    exact real_of_abs_lt _ ((WordCmp.ofBool_decide_eq_one_iff _).1 this)
  · have := e2 i
    pointwise at this
    rw [ofBits_inf_bf16] at this
    exact real_of_abs_lt _ ((WordCmp.ofBool_decide_eq_one_iff _).1 this)

end Cert.Attn

end
-- ==== Proof.ExpertFrame.lean ====
/- The expert layer's run at any tables in range: the body at every grid point, by whether the row tile is in use and which
   half of the hidden features the point takes. -/
module

public import proofs.«01_k».proof.Proof.Gen.Kernel2Ideal.Launch
public import proofs.«01_k».proof.Proof.Gen.Kernel2Ideal.Skeleton
public import proofs.«01_k».proof.Proof.Gen.Kernel2Ideal.Flash.Runs
public import Idealize.ShloMosaic.Lib.Pipeline.FrameBody
public import Idealize.ShloMosaic.Lib.Pipeline.Kit
public import Idealize.ShloMosaic.Lib.Pipeline.TableIdle
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp
public import Idealize.ShloMosaic.PureOps.Ideal
public import Idealize.ShloMosaic.Adequacy
public import Idealize.ShloMosaic.Init

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The words the body decides by -/

/-- The number of row tiles in use, as the body reads it off its table. -/
abbrev usedWord (T : S1.Idx → Elt Ideal .i32) : BitVec 32 :=
  View.readAt (Elt Ideal) (tbM0_1).view (Rect.unit (s := S1) ![0] S1.size inb_S1_S1_0).toLoadRect T (Shape.Idx.first (numel1_S1.symm ▸ Nat.one_pos))

/-- The test for the first half of the hidden features. -/
abbrev firstHalf (i : grid0.Coords) : Prop :=
  (Scalar.cmpi .ne (Scalar.extui (Scalar.cmpi .eq (BitVec.ofNat 32 (i 1).val) 0#32)) 0#32) = 1#1

theorem word_true (b : Bool) : (Scalar.cmpi .ne (Scalar.extui (BitVec.ofBool b) : BitVec 32) 0#32 = 1#1) ↔ b = true := by
  cases b <;> decide

theorem firstHalf_iff (i : grid0.Coords) : firstHalf i ↔ (i 1).val = 0 := by
  have h := (i 1).isLt
  have h2 : (i 1).val = 0 ∨ (i 1).val = 1 := by
    have : (i 1).val < 2 := h
    omega
  unfold firstHalf
  rcases h2 with e | e <;> rw [e] <;> decide

theorem secondHalf_iff (i : grid0.Coords) : k0_cond3 i = 1#1 ↔ (i 1).val = 1 := by
  have h2 : (i 1).val = 0 ∨ (i 1).val = 1 := by
    have : (i 1).val < 2 := (i 1).isLt
    omega
  unfold k0_cond3
  rcases h2 with e | e <;> simp only [e] <;> decide

theorem inUse_iff (i : grid0.Coords) (w : BitVec 32) : k0_cond1 i w = 1#1 ↔ (BitVec.ofNat 32 (i 0).val).slt w = true :=
  word_true _

theorem notInUse_iff (i : grid0.Coords) (w : BitVec 32) :
    k0_cond4 i w = 1#1 ↔ (¬ k0_cond1 i w = 1#1) ∧ (i 1).val = 0 := by
  rw [inUse_iff]
  have h2 : (i 1).val = 0 ∨ (i 1).val = 1 := by
    have : (i 1).val < 2 := (i 1).isLt
    omega
  have hs : (Scalar.cmpi .sge (BitVec.ofNat 32 (i 0).val) w : BitVec 1) = BitVec.ofBool (!(BitVec.ofNat 32 (i 0).val).slt w) := by
    show BitVec.ofBool (w.sle (BitVec.ofNat 32 (i 0).val)) = _
    congr 1
    rw [BitVec.sle_eq_decide, BitVec.slt_eq_decide]
    by_cases hc : w.toInt ≤ (BitVec.ofNat 32 (i 0).val).toInt
    · simp [hc]
    · simp [hc, not_le.1 hc]
  unfold k0_cond4
  dsimp only
  rw [hs]
  cases (BitVec.ofNat 32 (i 0).val).slt w <;> rcases h2 with e | e <;> simp only [e] <;> decide

/-! ## The tables and the pipeline at them -/

variable (m : (ℓ : Loc nD τ sig) → Buf (Elt Ideal) ℓ) (ρ : Dev nD → PrngReg)

/-- The tables at launch. -/
def tbl : pre0.Contents (Elt Ideal) := fun j => m (((0 : Dev nD) : Thread nD τ).loc (pre0.ref j))
abbrev T0 : S80.Idx → Elt Ideal .i32 := tbl m 0
abbrev T1 : S1.Idx → Elt Ideal .i32 := tbl m 1

theorem tbl_eq (c : Dev nD) (j : Fin 2) : m ((c : Thread nD τ).loc (pre0.ref j)) = tbl m j := by
  obtain rfl : c = 0 := Subsingleton.elim _ _
  rfl

variable (hO : ok0 (F := Ideal) (tbl m))

def adm : (pcfg0 (F := Ideal)).Adm := ⟨tbl m, hO⟩
abbrev cfgM : Pipeline.Cfg sig Λ₀ := cfg0 (F := Ideal) (adm m hO)
abbrev pcs : Fin 1 → Pipeline.Cfg sig Λ₀ := Pipeline.pin (pcfgs (F := Ideal)) fun _ => adm m hO

abbrev crd (t : Fin (cfgM m hO).N) : (cfgM m hO).grid.Coords := (cfgM m hO).grid.coords t

theorem crd_0 (t : Fin (cfgM m hO).N) : (crd m hO t 0).val = t.val / 2 := by
  have h : (crd m hO t 0).val = t.val / 2 % 80 :=
    (fun t => Pipeline.Grid.coords_val t 0 (by decide) rfl : ∀ t : Fin grid0.N, (grid0.coords t 0).val = t.val / 2 % 80) t
  have ht : t.val < 160 := lt_of_lt_of_eq t.isLt N_0
  refine h.trans (Nat.mod_eq_of_lt (by omega))

theorem crd_1 (t : Fin (cfgM m hO).N) : (crd m hO t 1).val = t.val % 2 := by
  have h : (crd m hO t 1).val = t.val / 1 % 2 :=
    (fun t => Pipeline.Grid.coords_val t 1 (by decide) rfl : ∀ t : Fin grid0.N, (grid0.coords t 1).val = t.val / 1 % 2) t
  rw [Nat.div_one] at h
  exact h

abbrev ms_0 (t : Fin (cfgM m hO).N) : Memref sig .tc .vmem S512x1152 .bf16 := spec0_0.stage ((cfgM m hO).slots t (0 : Fin 5))
abbrev hs_0 (t : Fin (cfgM m hO).N) : (ms_0 m hO t).IsWhole := hstage0_0 (((cfgM m hO).slots t (0 : Fin 5)).cast nbuf0_0)
abbrev ms_1 (t : Fin (cfgM m hO).N) : Memref sig .tc .vmem S1x1024x1792 .bf16 := spec0_1.stage ((cfgM m hO).slots t (1 : Fin 5))
abbrev hs_1 (t : Fin (cfgM m hO).N) : (ms_1 m hO t).IsWhole := hstage0_1 (((cfgM m hO).slots t (1 : Fin 5)).cast nbuf0_1)
abbrev ms_2 (t : Fin (cfgM m hO).N) : Memref sig .tc .vmem S1x1024x1792 .bf16 := spec0_2.stage ((cfgM m hO).slots t (2 : Fin 5))
abbrev hs_2 (t : Fin (cfgM m hO).N) : (ms_2 m hO t).IsWhole := hstage0_2 (((cfgM m hO).slots t (2 : Fin 5)).cast nbuf0_2)
abbrev ms_3 (t : Fin (cfgM m hO).N) : Memref sig .tc .vmem S1x1792x1024 .bf16 := spec0_3.stage ((cfgM m hO).slots t (3 : Fin 5))
abbrev hs_3 (t : Fin (cfgM m hO).N) : (ms_3 m hO t).IsWhole := hstage0_3 (((cfgM m hO).slots t (3 : Fin 5)).cast nbuf0_3)
abbrev ms_4 (t : Fin (cfgM m hO).N) : Memref sig .tc .vmem S512x1024 .bf16 := spec0_4.stage ((cfgM m hO).slots t (4 : Fin 5))
abbrev hs_4 (t : Fin (cfgM m hO).N) : (ms_4 m hO t).IsWhole := hstage0_4 (((cfgM m hO).slots t (4 : Fin 5)).cast nbuf0_4)

/-- Window `w`'s block at point `t`, read off its array at launch. -/
def iblk (c : Dev nD) (w : Fin (cfgM m hO).W) (t : Fin (cfgM m hO).N) : (((cfgM m hO).win w).xblock (crd m hO t)).Idx → Elt Ideal ((cfgM m hO).win w).elt :=
  (((cfgM m hO).win w).blk t).view.read (Elt Ideal) (m (((cfgM m hO).win w).arr.view.loc (c : Thread nD τ)))

/-! ## The four kinds of point -/

/-- Point `t`'s row tile is in use. -/
abbrev Used (t : Fin (cfgM m hO).N) : Prop := k0_cond1 (crd m hO t) (usedWord (T1 m)) = 1#1

theorem used_iff (t : Fin (cfgM m hO).N) : Used m hO t ↔ (BitVec.ofNat 32 (t.val / 2)).slt (usedWord (T1 m)) = true := by
  unfold Used
  rw [inUse_iff, crd_0]

theorem idle_eq (t : Fin (cfgM m hO).N) : (cfgM m hO).idle (4 : Fin 5) ((cfgM m hO).grid.coords t)
    = (!(k0_cond1 (crd m hO t) (usedWord (T1 m)) == 1#1 && k0_cond3 (crd m hO t) == 1#1) && !(k0_cond4 (crd m hO t) (usedWord (T1 m)) == 1#1)) := rfl

theorem flush_iff (t : Fin (cfgM m hO).N) : ((cfgM m hO).win (4 : Fin 5)).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1) t

theorem flush_even (t : Fin (cfgM m hO).N) (h : t.val % 2 = 0) : ((cfgM m hO).win (4 : Fin 5)).flush t = false := by
  rw [Bool.eq_false_iff]; intro hc; have := (flush_iff m hO t).1 hc; omega

theorem flush_odd (t : Fin (cfgM m hO).N) (h : t.val % 2 = 1) : ((cfgM m hO).win (4 : Fin 5)).flush t = true := (flush_iff m hO t).2 h

section
variable (t : Fin (cfgM m hO).N)

theorem first_of_even (h : t.val % 2 = 0) : firstHalf (crd m hO t) := (firstHalf_iff _).2 ((crd_1 m hO t).trans h)
theorem not_first_of_odd (h : t.val % 2 = 1) : ¬ firstHalf (crd m hO t) := fun hc => by
  have := (firstHalf_iff _).1 hc; rw [crd_1] at this; omega
theorem second_of_odd (h : t.val % 2 = 1) : k0_cond3 (crd m hO t) = 1#1 := (secondHalf_iff _).2 ((crd_1 m hO t).trans h)
theorem not_second_of_even (h : t.val % 2 = 0) : ¬ k0_cond3 (crd m hO t) = 1#1 := fun hc => by
  have := (secondHalf_iff _).1 hc; rw [crd_1] at this; omega
theorem not_clear_of_used (h : Used m hO t) : ¬ k0_cond4 (crd m hO t) (usedWord (T1 m)) = 1#1 := fun hc => ((notInUse_iff _ _).1 hc).1 h
theorem not_clear_of_odd (h : t.val % 2 = 1) : ¬ k0_cond4 (crd m hO t) (usedWord (T1 m)) = 1#1 := fun hc => by
  have := ((notInUse_iff _ _).1 hc).2; rw [crd_1] at this; omega
theorem clear_of_unused (h : ¬ Used m hO t) (he : t.val % 2 = 0) : k0_cond4 (crd m hO t) (usedWord (T1 m)) = 1#1 :=
  (notInUse_iff _ _).2 ⟨h, (crd_1 m hO t).trans he⟩

theorem beq_false {a : BitVec 1} (h : ¬ a = 1#1) : (a == 1#1) = false := by simpa using h

theorem idle_A (h : Used m hO t) (he : t.val % 2 = 0) : (cfgM m hO).idle (4 : Fin 5) ((cfgM m hO).grid.coords t) = true := by
  rw [idle_eq, beq_false (not_second_of_even m hO t he), beq_false (not_clear_of_used m hO t h), Bool.and_false]; rfl
theorem idle_B (h : Used m hO t) (ho : t.val % 2 = 1) : (cfgM m hO).idle (4 : Fin 5) ((cfgM m hO).grid.coords t) = false := by
  rw [idle_eq, show k0_cond1 (crd m hO t) (usedWord (T1 m)) = 1#1 from h, second_of_odd m hO t ho]; rfl
theorem idle_C (h : ¬ Used m hO t) (he : t.val % 2 = 0) : (cfgM m hO).idle (4 : Fin 5) ((cfgM m hO).grid.coords t) = false := by
  rw [idle_eq, clear_of_unused m hO t h he]; simp
theorem idle_D (h : ¬ Used m hO t) (ho : t.val % 2 = 1) : (cfgM m hO).idle (4 : Fin 5) ((cfgM m hO).grid.coords t) = true := by
  rw [idle_eq, beq_false h, beq_false (not_clear_of_odd m hO t ho)]; rfl
end

/-! ## What the scratch and the result's buffer hold -/

section
variable (c : Dev nD) (t : Fin (cfgM m hO).N)

/-- What a tile not in use is filled with. -/
def zeroTile : S512x1024.Idx → Elt Ideal .bf16 := k0_pay3 (F := Ideal)

/-- The run at a point of a tile in use, first half. -/
abbrev runA (h : Used m hO t) (he : t.val % 2 = 0) :=
  kernelRun0_A c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    h (first_of_even m hO t he) (not_second_of_even m hO t he) (not_clear_of_used m hO t h)

/-- The run at a point of a tile in use, second half, from the accumulator `a`. -/
abbrev runB (a : Buf (Elt Ideal) ((c : Thread nD τ).loc cc0_scratch0)) (h : Used m hO t) (ho : t.val % 2 = 1) :=
  kernelRun0_B c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (not_first_of_odd m hO t ho) (second_of_odd m hO t ho) (not_clear_of_used m hO t h)

abbrev resB (a : Buf (Elt Ideal) ((c : Thread nD τ).loc cc0_scratch0)) (h : Used m hO t) (ho : t.val % 2 = 1) :=
  out0_B_4 c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (not_first_of_odd m hO t ho) (second_of_odd m hO t ho) (not_clear_of_used m hO t h)

abbrev runC (a : Buf (Elt Ideal) ((c : Thread nD τ).loc cc0_scratch0)) (h : ¬ Used m hO t) (he : t.val % 2 = 0) :=
  kernelRun0_C c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (clear_of_unused m hO t h he)

abbrev resC (a : Buf (Elt Ideal) ((c : Thread nD τ).loc cc0_scratch0)) (h : ¬ Used m hO t) (he : t.val % 2 = 0) :=
  out0_C_4 c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (clear_of_unused m hO t h he)

abbrev runD (a : Buf (Elt Ideal) ((c : Thread nD τ).loc cc0_scratch0)) (h : ¬ Used m hO t) (ho : t.val % 2 = 1) :=
  kernelRun0_D c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (not_clear_of_odd m hO t ho)

/-- The accumulator after the first half of a tile in use. -/
def acc : Buf (Elt Ideal) ((c : Thread nD τ).loc cc0_scratch0) :=
  if h : Used m hO t ∧ t.val % 2 = 0 then (runA m hO c t h.1 h.2).1 else default

/-- The point before `t`. -/
abbrev prevPt : Fin (cfgM m hO).N := ⟨t.val - 1, by omega⟩

/-- The result's buffer after point `t`: the tile's value after the second half of a tile in use, else zeros. -/
def outTile : S512x1024.Idx → Elt Ideal .bf16 :=
  if h : Used m hO t ∧ t.val % 2 = 1 then resB m hO c t (acc m hO c (prevPt m hO t)) h.1 h.2 else zeroTile

end

theorem resC_eq (c : Dev nD) (t : Fin (cfgM m hO).N) (a : Buf (Elt Ideal) ((c : Thread nD τ).loc cc0_scratch0)) (h : ¬ Used m hO t) (he : t.val % 2 = 0) :
    resC m hO c t a h he = zeroTile := by
  funext y
  unfold resC out0_C_4
  have hc := cover0_C_4 c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (clear_of_unused m hO t h he) y
  rw [View.read_writes_apply_eq_canon _ _ _ _ hc]
  refine View.canon_apply_of_pieces zeroTile _ ?_ y hc
  intro p hp x
  unfold kernelRun0_C at hp
  dsimp only at hp
  obtain rfl := List.mem_singleton.1 hp
  rfl

/-! ## The pipeline's proof data -/

/-- Before position `t`: the accumulator is what the point before left, if that was the first half of a tile in use; the
    tables are as at launch. -/
def Phi (c : Dev nD) (t : Fin ((cfgM m hO).N + 1)) : sProp 𝕄 :=
  iprop((∃ a, ⌜∀ s : Fin (cfgM m hO).N, s.val + 1 = t.val → Used m hO s → s.val % 2 = 0 → a = acc m hO c s⌝
      ∗ (scM0_0.view.loc (c : Thread nD τ) ↦{fullShare} a))
    ∗ (tbM0_0.view.loc (c : Thread nD τ) ↦{fullShare.right} T0 m) ∗ (tbM0_1.view.loc (c : Thread nD τ) ↦{fullShare.right} T1 m))

def dats (_ : Fin 1) (c : Dev nD) : Dat τ (Elt Ideal) Unit ℕ (UR sig nD τ) ℕ (cfgM m hO) c where
  A w := m (((cfgM m hO).win w).arr.view.loc (c : Thread nD τ))
  after w t := match w with
    | ⟨0, _⟩ => iblk m hO c (0 : Fin 5) t
    | ⟨1, _⟩ => iblk m hO c (1 : Fin 5) t
    | ⟨2, _⟩ => iblk m hO c (2 : Fin 5) t
    | ⟨3, _⟩ => iblk m hO c (3 : Fin 5) t
    | ⟨4, _⟩ => outTile m hO c t
  Φ t := Phi m hO c t
  q _ := fullShare
  owed _ := 0

section
variable (c : Dev nD) (t : Fin (cfgM m hO).N)

theorem after_0 : (dats m hO 0 c).after (0 : Fin 5) t = iblk m hO c (0 : Fin 5) t := rfl
theorem after_1 : (dats m hO 0 c).after (1 : Fin 5) t = iblk m hO c (1 : Fin 5) t := rfl
theorem after_2 : (dats m hO 0 c).after (2 : Fin 5) t = iblk m hO c (2 : Fin 5) t := rfl
theorem after_3 : (dats m hO 0 c).after (3 : Fin 5) t = iblk m hO c (3 : Fin 5) t := rfl
theorem after_4 : (dats m hO 0 c).after (4 : Fin 5) t = outTile m hO c t := rfl

theorem before_0 (d) : (dats m hO 0 c).before (0 : Fin 5) t d = iblk m hO c (0 : Fin 5) t :=
  ((dats m hO 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (d) : (dats m hO 0 c).before (1 : Fin 5) t d = iblk m hO c (1 : Fin 5) t :=
  ((dats m hO 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (d) : (dats m hO 0 c).before (2 : Fin 5) t d = iblk m hO c (2 : Fin 5) t :=
  ((dats m hO 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (d) : (dats m hO 0 c).before (3 : Fin 5) t d = iblk m hO c (3 : Fin 5) t :=
  ((dats m hO 0 c).before_in_eq_fetched (3 : Fin 5) rfl (fun _ => rfl) (fun _ _ _ => rfl) (fun t => by rw [after_3]; unfold Dat.blockOf iblk; rfl) t d).trans
    (by unfold Dat.fetched Dat.blockOf iblk; rfl)

/-- At the second half of a tile not in use the result's buffer holds the zeros the first half stored. -/
theorem before_4_D (d) (h : ¬ Used m hO t) (ho : t.val % 2 = 1) : (dats m hO 0 c).before (4 : Fin 5) t d = zeroTile := by
  have h0 : t.val ≠ 0 := by omega
  have he : (prevPt m hO t).val % 2 = 0 := by show (t.val - 1) % 2 = 0; omega
  have hu : ¬ Used m hO (prevPt m hO t) := fun hc => h (by
    rw [used_iff] at hc ⊢
    have e : (prevPt m hO t).val / 2 = t.val / 2 := by show (t.val - 1) / 2 = _; omega
    rw [e] at hc
    exact hc)
  rw [(dats m hO 0 c).before_of_pos (4 : Fin 5) t h0 rfl d]
  rw [show ((cfgM m hO).win (4 : Fin 5)).flush ⟨t.val - 1, _⟩ = false from flush_even m hO (prevPt m hO t) he]
  simp only [Bool.false_eq_true, ↓reduceIte]
  unfold Dat.left
  rw [show (cfgM m hO).idle (4 : Fin 5) ((cfgM m hO).grid.coords ⟨t.val - 1, _⟩) = false from idle_C m hO (prevPt m hO t) hu he]
  show (dats m hO 0 c).after (4 : Fin 5) (prevPt m hO t) = _
  rw [after_4]
  unfold outTile
  rw [dif_neg fun hc => hu hc.1]

end

/-! ## The body at every point -/

abbrev bodyAt (t : Fin (cfgM m hO).N) : Prog (TpuEff nD τ sig (Elt Ideal) Λ₀ .tc) PUnit :=
  cc0_moe_experts (crd m hO t) (Memref.whole main_arg0) (Memref.isWhole_whole _) (Memref.whole main_arg1) (Memref.isWhole_whole _) (ms_0 m hO t) (hs_0 m hO t) (ms_1 m hO t) (hs_1 m hO t) (ms_2 m hO t) (hs_2 m hO t) (ms_3 m hO t) (hs_3 m hO t) (ms_4 m hO t) (hs_4 m hO t) (Memref.whole cc0_scratch0) (Memref.isWhole_whole _)

/-- What the body runs from at point `t`. -/
abbrev bodyPre (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before (0 : Fin 5) t d))
    ∗ (∃ d, owns (c : Thread nD τ) (ms_1 m hO t) fullShare ((dats m hO 0 c).before (1 : Fin 5) t d))
    ∗ (∃ d, owns (c : Thread nD τ) (ms_2 m hO t) fullShare ((dats m hO 0 c).before (2 : Fin 5) t d))
    ∗ (∃ d, owns (c : Thread nD τ) (ms_3 m hO t) fullShare ((dats m hO 0 c).before (3 : Fin 5) t d))
    ∗ (∃ d, owns (c : Thread nD τ) (ms_4 m hO t) fullShare ((dats m hO 0 c).before (4 : Fin 5) t d)))

/-- What it ends in, the result's buffer in `X`. -/
abbrev bodyPost (c : Dev nD) (t : Fin (cfgM m hO).N) (X : sProp 𝕄) : sProp 𝕄 :=
  iprop((dats m hO 0 c).Φ t.succ ∗ (dats m hO 0 c).owesAt () t.succ
    ∗ owns (c : Thread nD τ) (ms_0 m hO t) fullShare (iblk m hO c (0 : Fin 5) t)
    ∗ owns (c : Thread nD τ) (ms_1 m hO t) fullShare (iblk m hO c (1 : Fin 5) t)
    ∗ owns (c : Thread nD τ) (ms_2 m hO t) fullShare (iblk m hO c (2 : Fin 5) t)
    ∗ owns (c : Thread nD τ) (ms_3 m hO t) fullShare (iblk m hO c (3 : Fin 5) t)
    ∗ X)

section
variable (c : Dev nD) (t : Fin (cfgM m hO).N)

set_option maxHeartbeats 4000000 in
theorem body_A (h : Used m hO t) (he : t.val % 2 = 0) :
    bodyPre m hO c t ⊢ wp frame (wpE (defs₀ (F := Ideal)) Variants.none c none) Set.univ (bodyAt m hO t) fun _ =>
      bodyPost m hO c t iprop(∃ d, owns (c : Thread nD τ) (ms_4 m hO t) fullShare ((dats m hO 0 c).before (4 : Fin 5) t d)) := by
  unfold bodyPre bodyPost
  simp only [before_0, before_1, before_2, before_3]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩, ⟨%d4, H4⟩⟩
  iapply ((runA m hO c t h he).2 _ a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ _
        obtain rfl : s = t := Fin.ext (Nat.succ.inj hs)
        unfold acc
        rw [dif_pos ⟨h, he⟩]
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

set_option maxHeartbeats 4000000 in
theorem body_B (h : Used m hO t) (ho : t.val % 2 = 1) :
    bodyPre m hO c t ⊢ wp frame (wpE (defs₀ (F := Ideal)) Variants.none c none) Set.univ (bodyAt m hO t) fun _ =>
      bodyPost m hO c t (owns (c : Thread nD τ) (ms_4 m hO t) fullShare (outTile m hO c t)) := by
  unfold bodyPre bodyPost
  simp only [before_0, before_1, before_2, before_3]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi outTile
  rewrite [dif_pos ⟨h, ho⟩]
  have hu : Used m hO (prevPt m hO t) := by
    rw [used_iff] at h ⊢
    have e : (prevPt m hO t).val / 2 = t.val / 2 := by show (t.val - 1) / 2 = _; omega
    rw [e]
    exact h
  iintro ⟨⟨⟨%a0, %ha0, HS0⟩, HT0, HT1⟩, Ho, ⟨%d0, H0⟩, ⟨%d1, H1⟩, ⟨%d2, H2⟩, ⟨%d3, H3⟩, ⟨%d4, H4⟩⟩
  obtain rfl : a0 = acc m hO c (prevPt m hO t) := ha0 (prevPt m hO t) (by show t.val - 1 + 1 = t.val; omega) hu (by show (t.val - 1) % 2 = 0; omega)
  iapply ((runB m hO c t _ h ho).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs _ hse
        have : s.val = t.val := Nat.succ.inj hs
        omega
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_B_4 c _ _ _ _ _ _ _ _ _ _ _ _ _ _ _ _ _ _ _ _ _ _)

set_option maxHeartbeats 4000000 in
theorem body_C (h : ¬ Used m hO t) (he : t.val % 2 = 0) :
    bodyPre m hO c t ⊢ wp frame (wpE (defs₀ (F := Ideal)) Variants.none c none) Set.univ (bodyAt m hO t) fun _ =>
      bodyPost m hO c t (owns (c : Thread nD τ) (ms_4 m hO t) fullShare (outTile m hO c t)) := by
  unfold bodyPre bodyPost
  simp only [before_0, before_1, before_2, before_3]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi outTile
  rewrite [dif_neg fun hc => h hc.1]
  iintro ⟨⟨⟨%a0, %ha0, HS0⟩, HT0, HT1⟩, Ho, ⟨%d0, H0⟩, ⟨%d1, H1⟩, ⟨%d2, H2⟩, ⟨%d3, H3⟩, ⟨%d4, H4⟩⟩
  iapply ((runC m hO c t a0 h he).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs hu _
        obtain rfl : s = t := Fin.ext (Nat.succ.inj hs)
        exact absurd hu h
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    refine Eq.trans ?_ (resC_eq m hO c t a0 h he)
    exact View.read_writes_of_cover _ _ _ _ _ (cover0_C_4 c _ _ _ _ _ _ _ _ _ _ _ _ _ _ _ _ _ _ _ _)

set_option maxHeartbeats 4000000 in
theorem body_D (h : ¬ Used m hO t) (ho : t.val % 2 = 1) :
    bodyPre m hO c t ⊢ wp frame (wpE (defs₀ (F := Ideal)) Variants.none c none) Set.univ (bodyAt m hO t) fun _ =>
      bodyPost m hO c t (owns (c : Thread nD τ) (ms_4 m hO t) fullShare (outTile m hO c t)) := by
  unfold bodyPre bodyPost
  simp only [before_0, before_1, before_2, before_3, before_4_D m hO c t _ h ho]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi outTile
  rewrite [dif_neg fun hc => h hc.1]
  iintro ⟨⟨⟨%a0, %ha0, HS0⟩, HT0, HT1⟩, Ho, ⟨%d0, H0⟩, ⟨%d1, H1⟩, ⟨%d2, H2⟩, ⟨%d3, H3⟩, ⟨%d4, H4⟩⟩
  iapply ((runD m hO c t a0 h ho).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ hse
        have : s.val = t.val := Nat.succ.inj hs
        omega
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem body_all :
    bodyPre m hO c t ⊢ wp frame (wpE (defs₀ (F := Ideal)) Variants.none c none) Set.univ (bodyAt m hO t) fun _ =>
      iprop((dats m hO 0 c).Φ t.succ ∗ (dats m hO 0 c).owesAt () t.succ
        ∗ bigSep Finset.univ fun w : Fin (cfgM m hO).W =>
            match (cfgM m hO).idle w ((cfgM m hO).grid.coords t) with
            | true =>
              match ((cfgM m hO).win w).flush t with
              | false => iprop(∃ d, owns (c : Thread nD τ) (((cfgM m hO).win w).stage ((cfgM m hO).slots t w)) fullShare ((dats m hO 0 c).before w t d))
              | true => owns (c : Thread nD τ) (((cfgM m hO).win w).stage ((cfgM m hO).slots t w)) fullShare ((dats m hO 0 c).after w t)
            | false => owns (c : Thread nD τ) (((cfgM m hO).win w).stage ((cfgM m hO).slots t w)) fullShare ((dats m hO 0 c).after w t)) := by
  rw [bigSep_W0]
  have hp : t.val % 2 = 0 ∨ t.val % 2 = 1 := by omega
  by_cases h : Used m hO t
  · rcases hp with he | ho
    · rewrite [idle_A m hO t h he, flush_even m hO t he]; exact body_A m hO c t h he
    · rewrite [idle_B m hO t h ho]; exact body_B m hO c t h ho
  · rcases hp with he | ho
    · rewrite [idle_C m hO t h he]; exact body_C m hO c t h he
    · rewrite [idle_D m hO t h ho, flush_odd m hO t ho]; exact body_D m hO c t h ho

end

theorem body_obligation (c : Dev nD) : BodyObligation (dats m hO 0 c) (defs₀ (F := Ideal)) Variants.none () Set.univ := fun t => by
  rw [bigSep_W0]
  exact body_all m hO c t

/-! ## The launch -/

/-- The staging cells' element at launch. -/
def u₀ : UR sig nD τ :=
  initOf (Pipeline.cells (pcs m hO) ((launch0 (F := Ideal)).cellOf_inj fun _ => adm m hO))
    (Pipeline.launchToks (pcs m hO) ((launch0 (F := Ideal)).cellOf_inj fun _ => adm m hO))

theorem share_full (c : Dev nD) (w : Fin (cfgM m hO).W) : (dats m hO 0 c).share w = fullShare := by unfold Dat.share; split <;> rfl

theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem phi_first (c : Dev nD) :
    iprop(BI.emp ∗ Pipeline.prefHeld pre0 c (fun _ => fullShare.right) (adm m hO).1 ∗ Pipeline.scopedRest spec0 c) ⊢ (dats m hO 0 c).Φ 0 := by
  rw [tables_held, scopedRest0_eq, show (dats m hO 0 c).Φ 0 = Phi m hO c 0 from rfl]
  unfold Phi
  iintro ⟨-, ⟨HT0, HT1⟩, ⟨%a0, HS0⟩⟩
  isplitl [HS0]
  · iexists a0; isplitr; swap
    · iexact HS0
    · ipureintro; intro s hs; exact absurd hs (Nat.succ_ne_zero _)
  isplitl [HT0]
  · iexact HT0
  iexact HT1

theorem phi_last (c : Dev nD) : (dats m hO 0 c).Φ (Fin.last (cfgM m hO).N) ⊢ iprop(BI.emp ∗ Pipeline.scopedRest spec0 c) := by
  rw [scopedRest0_eq, show (dats m hO 0 c).Φ (Fin.last (cfgM m hO).N) = Phi m hO c (Fin.last _) from rfl]
  unfold Phi
  iintro ⟨⟨%a0, -, HS0⟩, -, -⟩
  isplitr; · iempintro
  iexists a0; iexact HS0

/-- Every array at what the pipeline leaves in it, every table as at launch. -/
def Post : PUnit × MemSt nD τ sig (Elt Ideal) → Prop := fun r =>
  ∀ c : Dev nD, (∀ w : Fin (cfgM m hO).W, r.2.mem (((cfgM m hO).win w).arr.view.loc (c : Thread nD τ)) = (dats m hO 0 c).arrAt w (cfgM m hO).N)
    ∧ ∀ j, r.2.mem ((c : Thread nD τ).loc (pre0.ref j)) = (adm m hO).1 j

set_option backward.isDefEq.respectTransparency.types false in
set_option maxHeartbeats 4000000 in
theorem run_main_quiescent : θ_run (defs (F := Ideal)) (onTc (τ := τ) (main (F := Ideal))) (s₀ m ρ) (fun r => Post m hO r ∧ r.2.sem = fun _ => 0) :=
  Pipeline.θ_run_region_noSem_pf_quiescent pcfgs (fun _ => adm m hO) (dats m hO) () ((launch0 (F := Ideal)).cellOf_inj fun _ => adm m hO) (0 : Fin 1)
    (launch0 (F := Ideal)).win.to₀ (launch0 (F := Ideal)).pre (emb₁ : Emb (UR sig nD τ) 𝕄) defs₀ Variants.none m ρ main
    (hbody := fun c => (body_obligation m hO c).loose) (hne := (launch0 (F := Ideal)).block_pos)
    (harr := (launch0 (F := Ideal)).arr_whole) (hstage := (launch0 (F := Ideal)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := Ideal)).win.arr_inj c (launch0 (F := Ideal)).arr_whole
      (share_full m hO c) _ _ fun _ => rfl)
    (hpf := tbl_eq m)
    (X := fun _ => iprop(emp)) (Y := fun _ => iprop(emp)) (Z := fun _ => iprop(emp))
    (hX := fun c => by rw [unscopedRestP0_eq]; iintro -; isplitr <;> iempintro)
    (hin := phi_first m hO)
    (hout := phi_last m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem unchanged (r : PUnit × MemSt nD τ sig (Elt Ideal)) (h : Post m hO r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 0).trans (tbl_eq m c 0).symm, ((h c).2 1).trans (tbl_eq m c 1).symm,
    ((h c).1 (0 : Fin 5)).trans ((dats m hO 0 c).arrAt_in (0 : Fin 5) rfl _), ((h c).1 (1 : Fin 5)).trans ((dats m hO 0 c).arrAt_in (1 : Fin 5) rfl _),
    ((h c).1 (2 : Fin 5)).trans ((dats m hO 0 c).arrAt_in (2 : Fin 5) rfl _), ((h c).1 (3 : Fin 5)).trans ((dats m hO 0 c).arrAt_in (3 : Fin 5) rfl _)⟩

end Cert.Experts
-- ==== Proof.ExpertReal.lean ====
/- The expert layer's mathematics over the real numbers. -/
module

public import proofs.«01_k».proof.Proof.Real

@[expose] public section

noncomputable section

namespace Cert.Experts

open Idealize.ShloMosaic Cert.Attn

/-- An entry of a stack of matrices of extended reals, as a number. -/
def entry3 {A R C : ℕ} (X : (⟨3, ![A, R, C]⟩ : Shape).Idx → EReal) (a r c : ℕ) : ℝ :=
  if h : a < A ∧ r < R ∧ c < C then (X (ix3 ⟨a, h.1⟩ ⟨r, h.2.1⟩ ⟨c, h.2.2⟩)).toReal else 0

theorem read3 {A R C : ℕ} {X : (⟨3, ![A, R, C]⟩ : Shape).Idx → EReal} (hX : AllReal X) (i : (⟨3, ![A, R, C]⟩ : Shape).Idx) {a r c : ℕ}
    (ha : (i 0).val = a) (hr : (i 1).val = r) (hc : (i 2).val = c) : X i = entry3 X a r c := by
  subst ha hr hc
  obtain ⟨x, hx⟩ := hX i
  have e : (ix3 ⟨(i 0).val, (i 0).isLt⟩ ⟨(i 1).val, (i 1).isLt⟩ ⟨(i 2).val, (i 2).isLt⟩ : (⟨3, ![A, R, C]⟩ : Shape).Idx) = i := (eq_ix3 i).symm
  have h : (i 0).val < A ∧ (i 1).val < R ∧ (i 2).val < C := ⟨(i 0).isLt, (i 1).isLt, (i 2).isLt⟩
  rw [entry3, dif_pos h]
  refine Eq.trans ?_ (congrArg (fun z : EReal => ((z.toReal : ℝ) : EReal)) (congrArg X e).symm)
  rw [hx, EReal.toReal_coe]

/-- `u` times its logistic. -/
def silu (u : ℝ) : ℝ := u * (1 + Real.exp (-u))⁻¹

theorem silu_coe (u : ℝ) : (u : EReal) * Ideal.logistic (u : EReal) = (silu u : EReal) := by
  rw [Ideal.logistic_coe, ← EReal.coe_mul, silu]

variable (xs : (⟨2, ![40960, 1152]⟩ : Shape).Idx → EReal) (w w1 w3 : (⟨3, ![8, 1024, 3584]⟩ : Shape).Idx → EReal)
  (w2 : (⟨3, ![8, 3584, 1024]⟩ : Shape).Idx → EReal)

/-- Hidden feature `f` of expert `e` before the nonlinearity, for row `r`. -/
def up (r e f : ℕ) : ℝ := ∑ d : Fin 1024, entry xs r d * entry3 w e d f

/-- Hidden feature `f` of expert `e`, for row `r`. -/
def hidden (r e f : ℕ) : ℝ := silu (up xs w1 r e f) * up xs w3 r e f

/-- Row `r`'s weight of expert `e`: the sum of its three terms. -/
def weight (r e : ℕ) : ℝ := entry xs r (1024 + e) + entry xs r (1032 + e) + entry xs r (1040 + e)

/-- Half `k` of the hidden features' part in entry `c` of row `r`'s result, weighted. -/
def half (k r e c : ℕ) : ℝ :=
  ∑ f : Fin 1792, hidden xs w1 w3 r e (1792 * k + f) * weight xs r e * entry3 w2 e (1792 * k + f) c

/-- Entry `c` of row `r`'s result of expert `e`, weighted. -/
def mixed (r e c : ℕ) : ℝ := weight xs r e * ∑ f : Fin 3584, hidden xs w1 w3 r e f * entry3 w2 e f c

theorem halves (r e c : ℕ) : half xs w1 w3 w2 0 r e c + half xs w1 w3 w2 1 r e c = mixed xs w1 w3 w2 r e c := by
  rw [mixed, half, half, Fin.sum_univ_add (a := 1792) (b := 1792), mul_add, Finset.mul_sum, Finset.mul_sum]
  refine congrArg₂ (· + ·) (Finset.sum_congr rfl fun f _ => ?_) (Finset.sum_congr rfl fun f _ => ?_)
  · rw [Fin.val_castAdd, Nat.mul_zero, Nat.zero_add]; ring
  · rw [Fin.val_natAdd, Nat.mul_one]; ring

/-- A sum over 128 lanes of which only lanes `e`, `e + 8` and `e + 16` count. -/
theorem sum_lanes (a : Fin 128 → EReal) (e : ℕ) (he : e < 8) :
    (∑ l : Fin 128, if l.val = e ∨ l.val = 8 + e ∨ l.val = 16 + e then a l else 0)
      = a ⟨e, by omega⟩ + a ⟨8 + e, by omega⟩ + a ⟨16 + e, by omega⟩ := by
  have h : ∀ l : Fin 128, (if l.val = e ∨ l.val = 8 + e ∨ l.val = 16 + e then a l else 0)
      = (if l = ⟨e, by omega⟩ then a l else 0) + (if l = ⟨8 + e, by omega⟩ then a l else 0) + (if l = ⟨16 + e, by omega⟩ then a l else 0) := fun l => by
    simp only [Fin.ext_iff]
    by_cases h1 : l.val = e
    · rw [if_pos (.inl h1), if_pos h1, if_neg (by omega), if_neg (by omega), add_zero, add_zero]
    · by_cases h2 : l.val = 8 + e
      · rw [if_pos (.inr (.inl h2)), if_neg h1, if_pos h2, if_neg (by omega), zero_add, add_zero]
      · by_cases h3 : l.val = 16 + e
        · rw [if_pos (.inr (.inr h3)), if_neg h1, if_neg h2, if_pos h3, zero_add, zero_add]
        · rw [if_neg (by tauto), if_neg h1, if_neg h2, if_neg h3, zero_add, zero_add]
  simp only [h, Finset.sum_add_distrib, Finset.sum_ite_eq', Finset.mem_univ, if_true]

end Cert.Experts

end
-- ==== Proof.ExpertWords.lean ====
/- The expert layer's tables: what their ranges give of the words the index maps compute. -/
module

public import Idealize.ShloMosaic.Lib.WordCmp
public import Idealize.ShloMosaic.Lib.Affine
public import Idealize.ShloMosaic.PureOps

@[expose] public section

noncomputable section

namespace Cert.Experts

open Idealize.ShloMosaic

/-- The tables are in range: every row tile's expert is one of the eight, and at least one tile is in use. -/
structure InRange (T : Shape.Idx ⟨1, ![80]⟩ → BitVec 32) (N : Shape.Idx ⟨1, ![1]⟩ → BitVec 32) : Prop where
  expert : ∀ i, (T i).toNat < 8
  one_le : ∀ i, 1 ≤ (N i).toNat
  small : ∀ i, (N i).toNat < 2 ^ 31

theorem select_ite {α : Type} (p : Prop) [Decidable p] (a b : α) : Scalar.select (if p then 1#1 else 0#1) a b = if p then a else b := by
  split
  · rfl
  · rfl

theorem expert_word (w : BitVec 32) (h0 : IntOp.cmpi .sge w 0#32 = 1#1) (h8 : IntOp.cmpi .slt w 8#32 = 1#1) : w.toNat < 8 := by
  rw [WordCmp.cmpi_sge_zero, WordCmp.ofBool_decide_eq_one_iff] at h0
  rw [WordCmp.cmpi_slt_eq, WordCmp.ofBool_decide_eq_one_iff, WordCmp.toInt_eq_toNat_of_lt_half h0] at h8
  have : (8#32).toInt = 8 := by decide
  omega

theorem used_word (w : BitVec 32) (h : IntOp.cmpi .sge w 1#32 = 1#1) : 1 ≤ w.toNat ∧ w.toNat < 2 ^ 31 := by
  rw [WordCmp.cmpi_sge_eq, WordCmp.ofBool_decide_eq_one_iff] at h
  have e : (1#32).toInt = 1 := by decide
  have hw : w.toNat < 2 ^ (32 - 1) := (WordCmp.toInt_nonneg_iff_lt_half w).1 (by omega)
  rw [WordCmp.toInt_eq_toNat_of_lt_half hw] at h
  exact ⟨by omega, hw⟩

theorem slt_used {i : ℕ} (hi : i < 80) {n : BitVec 32} (hn : n.toNat < 2 ^ 31) : (BitVec.ofNat 32 i).slt n = decide (i < n.toNat) := by
  have hb : (BitVec.ofNat 32 i).toNat = i := WordCmp.toNat_ofNat_of_lt (by omega)
  rw [BitVec.slt_eq_decide, WordCmp.toInt_eq_toNat_of_lt_half (show (BitVec.ofNat 32 i).toNat < 2 ^ (32 - 1) by omega),
    WordCmp.toInt_eq_toNat_of_lt_half (show n.toNat < 2 ^ (32 - 1) from hn), hb]
  simp

/-- The row tile the activations' block is of: the point's own, or the last in use. -/
theorem row_word {i : ℕ} (hi : i < 80) {n : BitVec 32} (h1 : 1 ≤ n.toNat) (hn : n.toNat < 2 ^ 31) :
    (Scalar.minsi (BitVec.ofNat 32 i) (Scalar.subi n 1#32)).toNat = min i (n.toNat - 1) := by
  have hb : (BitVec.ofNat 32 i).toNat = i := WordCmp.toNat_ofNat_of_lt (by omega)
  have hs : (n - 1#32).toNat = n.toNat - 1 := by
    rw [BitVec.toNat_sub_of_le (by rw [BitVec.le_def]; exact h1)]; rfl
  show (if (BitVec.ofNat 32 i).slt (n - 1#32) then BitVec.ofNat 32 i else n - 1#32).toNat = _
  rw [slt_used hi (show (n - 1#32).toNat < 2 ^ 31 by omega), hs]
  by_cases h : i < n.toNat - 1
  · rw [if_pos (by simpa using h), hb]; omega
  · rw [if_neg (by simpa using h), hs]; omega

/-- The half of the hidden features the weights' blocks are of: the point's own, or the second. -/
theorem half_word {i f : ℕ} (hi : i < 80) (hf : f < 2) {n : BitVec 32} (hn : n.toNat < 2 ^ 31) :
    (Scalar.select (Scalar.cmpi .slt (BitVec.ofNat 32 i) n) (BitVec.ofNat 32 f) 1#32 : BitVec 32).toNat = if i < n.toNat then f else 1 := by
  show (if BitVec.ofBool ((BitVec.ofNat 32 i).slt n) = 1 then BitVec.ofNat 32 f else 1#32).toNat = _
  rw [slt_used hi hn]
  by_cases h : i < n.toNat
  · rw [if_pos h, if_pos (by simp [h])]; exact WordCmp.toNat_ofNat_of_lt (by omega)
  · rw [if_neg h, if_neg (by simp [h])]; rfl

theorem half_word_lt {i f : ℕ} (hi : i < 80) (hf : f < 2) {n : BitVec 32} (hn : n.toNat < 2 ^ 31) :
    (Scalar.select (Scalar.cmpi .slt (BitVec.ofNat 32 i) n) (BitVec.ofNat 32 f) 1#32 : BitVec 32).toNat < 2 := by
  rw [half_word hi hf hn]; split <;> omega

end Cert.Experts

end
-- ==== Proof.ExpertTile.lean ====
/- What the expert layer's kernel computes of a tile, entry by entry over the extended reals. -/
module

public import proofs.«01_k».proof.Proof.Gen.Kernel2Ideal.Skeleton
public import proofs.«01_k».proof.Proof.ExpertReal
public import proofs.«01_k».proof.Proof.ExpertWords

@[expose] public section

set_option maxRecDepth 16384

noncomputable section

namespace Cert.Experts

open Cert.Kernel2Ideal Cert.Kernel2Ideal.Gen Idealize.ShloMosaic Idealize.ShloMosaic.TcCoe Idealize.SL.Sem Cert.Attn

theorem pay1_apply (a : Vec Ideal S512x1024 .f32) (h : FVec Ideal S512x1792 .bf16) (w : FVec Ideal S1792x1024 .bf16) (i : Fin 512) (j : Fin 1024) :
    k0_pay1 a h w (constant (F := Ideal) S512x1024 .f32 0x00000000#32) (ix2 i j) = a (ix2 i j) + ∑ f : Fin 1792, h (ix2 i f) * w (ix2 f j) := by
  pointwise [k0_pay1]

theorem pay2_apply (a : Vec Ideal S512x1024 .f32) (i : Fin 512) (j : Fin 1024) : k0_pay2 a (ix2 i j) = a (ix2 i j) := by
  pointwise [k0_pay2]

theorem pay3_apply (i : Fin 512) (j : Fin 1024) : k0_pay3 (F := Ideal) (ix2 i j) = 0 := by
  pointwise [k0_pay3]

theorem pay4_apply (i : Fin 512) (j : Fin 1024) : k0_pay4 (F := Ideal) (ix2 i j) = 0 := by
  pointwise [k0_pay4]

theorem pay6_apply (w : Vec Ideal S1x1792x1024 .bf16) (f : Fin 1792) (j : Fin 1024) : k0_pay6 w (ix2 f j) = w (ix3 0 f j) := by
  pointwise [k0_pay6]

/-- The lanes that hold a term of expert `e`'s weight. -/
theorem lane_mine (l : Fin 128) (e : Fin 8) :
    IntOp.andi (IntOp.cmpi .eq (IntOp.andi (BitVec.ofNat 32 l) 7#32) (BitVec.ofNat 32 e)) (IntOp.cmpi .slt (BitVec.ofNat 32 l) 24#32)
      = if l.val = e ∨ l.val = 8 + e ∨ l.val = 16 + e then 1#1 else 0#1 := by
  revert l e; decide +kernel

/-- The weighted hidden features of a tile. -/
theorem pay5_apply (x : Vec Ideal S512x1024 .bf16) (wc : Vec Ideal S512x128 .bf16) (e : BitVec 32) (he : e.toNat < 8) (w1 w3 : Vec Ideal S1x1024x1792 .bf16)
    (i : Fin 512) (f : Fin 1792) {p q : Fin 1024 → ℝ} {s : Fin 1024 → ℝ} {t : Fin 128 → ℝ} (hx : ∀ d, x (ix2 i d) = s d) (hw1 : ∀ d, w1 (ix3 0 d f) = p d)
    (hw3 : ∀ d, w3 (ix3 0 d f) = q d) (hc : ∀ l, wc (ix2 i l) = t l) :
    k0_pay5 x wc e w1 w3 (ix2 i f) = ((silu (∑ d, s d * p d) * (∑ d, s d * q d)
      * (t ⟨e.toNat, by omega⟩ + t ⟨8 + e.toNat, by omega⟩ + t ⟨16 + e.toNat, by omega⟩) : ℝ) : EReal) := by
  have hm : ∀ l : Fin 128, IntOp.andi (IntOp.cmpi .eq (IntOp.andi (BitVec.ofNat 32 l) 7#32) e) (IntOp.cmpi .slt (BitVec.ofNat 32 l) 24#32)
      = if l.val = e.toNat ∨ l.val = 8 + e.toNat ∨ l.val = 16 + e.toNat then 1#1 else 0#1 := fun l => by
    have h := lane_mine l ⟨e.toNat, he⟩
    rw [BitVec.ofNat_toNat, BitVec.setWidth_eq] at h
    exact h
  pointwise [k0_pay5]
  simp only [hm, select_ite]
  rw [sum_lanes _ _ he]
  simp only [hx, hw1, hw3, hc, ← EReal.coe_mul, coe_sum, silu_coe, ← EReal.coe_add]

end Cert.Experts

end
-- ==== Proof.ExpertValue.lean ====
/- What the run leaves in the expert layer's buffers: the tiles that it reads, their hidden layer and the tile that it writes. -/
module

public import proofs.«01_k».proof.Proof.ExpertFrame
public import proofs.«01_k».proof.Proof.ExpertTile
public import proofs.«01_k».proof.Proof.ExpertWords
public import Idealize.ShloMosaic.Lib.Pipeline.ValueKit
public import Idealize.ShloMosaic.Lib.Pipeline.ReadBack

@[expose] public section

set_option maxRecDepth 16384

noncomputable section

namespace Cert.Experts

open Cert.Kernel2Ideal Cert.Kernel2Ideal.Gen Idealize.ShloMosaic Idealize.ShloMosaic.TcCoe Idealize.SL.Sem Cert.Attn

variable (m : (ℓ : Loc nD τ sig) → Buf (Elt Ideal) ℓ) (hO : ok0 (F := Ideal) (tbl m))
variable (c : Dev nD) (t : Fin (cfgM m hO).N)

theorem lt_points : t.val / 2 < 80 := by
  have ht : t.val < 160 := lt_of_lt_of_eq t.isLt N_0
  omega

/-- The number of point `t`'s expert. -/
abbrev expertAt : BitVec 32 := T0 m (ix1 ⟨t.val / 2, lt_points m hO t⟩)

theorem word_at (T : S80.Idx → Elt Ideal .i32) (inb) (h : 0 < (Rect.unit (s := S80) ![BitVec.toNat (Scalar.indexCast (BitVec.ofNat 32 (crd m hO t 0).val))] ![1] inb).shape.numel) :
    View.ld T (Rect.unit (s := S80) ![BitVec.toNat (Scalar.indexCast (BitVec.ofNat 32 (crd m hO t 0).val))] ![1] inb) (Shape.Idx.first h)
      = T (ix1 ⟨t.val / 2, lt_points m hO t⟩) := by
  refine congrArg T (funext fun a => Fin.ext ?_)
  have ht := lt_points m hO t
  have e := crd_0 m hO t
  match a with
  | ⟨0, _⟩ =>
    show (Rect.unit (s := S80) ![(Scalar.indexCast (BitVec.ofNat 32 (crd m hO t 0).val)).toNat] ![1] inb).off 0 + 1 * 0 = t.val / 2
    show (BitVec.ofNat 32 (crd m hO t 0).val).toNat + 1 * 0 = t.val / 2
    rw [e, BitVec.toNat_ofNat]
    omega

/-- The hidden features of point `t`'s half, times the expert's weights. -/
def hiddenTile : FVec Ideal S512x1792 .bf16 :=
  k0_pay5 (View.ld (iblk m hO c (0 : Fin 5) t) (Rect.unit (s := S512x1152) ![0, 0] ![512, 1024] inb_S512x1152_S512x1024_0_0))
    (View.ld (iblk m hO c (0 : Fin 5) t) (Rect.unit (s := S512x1152) ![0, 1024] ![512, 128] inb_S512x1152_S512x128_0_1024))
    (expertAt m hO t) (iblk m hO c (1 : Fin 5) t) (iblk m hO c (2 : Fin 5) t)

/-- A buffer stored over throughout holds the last store's entries. -/
theorem whole_stores {sig : RefSig} {κ : Kind} (r : Ref sig κ) (L : List (View.Piece (Elt Ideal) r.ty.shape r.ty.elt)) :
    (View.whole r).writes (Elt Ideal) (View.whole r).junk L = View.canon L :=
  View.read_writes_junk_eq_canon (View.whole r) L

theorem acc_eq (h : Used m hO t) (he : t.val % 2 = 0) :
    acc m hO c t = k0_pay1 (F := Ideal) (k0_pay4 (F := Ideal)) (hiddenTile m hO c t) (k0_pay6 (iblk m hO c (3 : Fin 5) t)) (constant S512x1024 .f32 0#32) := by
  unfold acc
  rw [dif_pos ⟨h, he⟩]
  unfold runA kernelRun0_A hiddenTile expertAt
  dsimp only
  sl_unfold_words
  simp (disch := decide +kernel) only [↓View.readCov_skip, ↓View.readCov_cons_toLoadRect, View.readAt_eq_ld, View.read_rep, View.ld_unit_lit']
  rw [whole_stores]
  refine (View.canon_cons_unit_lit' _ _ _ (by decide)).trans ?_
  exact congrArg (fun w => k0_pay1 (F := Ideal) (k0_pay4 (F := Ideal)) (k0_pay5 _ _ w _ _) _ _) (word_at m hO t (T0 m) _ _)

theorem res_eq (a) (h : Used m hO t) (ho : t.val % 2 = 1) :
    resB m hO c t a h ho = k0_pay2 (F := Ideal) (k0_pay1 (F := Ideal) a (hiddenTile m hO c t) (k0_pay6 (iblk m hO c (3 : Fin 5) t)) (constant S512x1024 .f32 0#32)) := by
  unfold resB out0_B_4
  rw [View.read_writes_junk_eq_canon]
  unfold kernelRun0_B hiddenTile expertAt
  dsimp only
  sl_unfold_words
  simp (disch := decide +kernel) only [↓View.readCov_skip, ↓View.readCov_cons_toLoadRect, View.readAt_eq_ld, View.read_rep, View.ld_unit_lit']
  refine (View.canon_cons_unit_lit' _ _ _ (by decide)).trans ?_
  exact congrArg (fun w => k0_pay2 (F := Ideal) (k0_pay1 (F := Ideal) a (k0_pay5 _ _ w _ _) _ _)) (word_at m hO t (T0 m) _ _)

/-! ## The blocks a tile in use reads -/

variable (hR : InRange (T0 m) (T1 m))

theorem one_index (x y : S1.Idx) : x = y := by
  funext a
  match a with
  | ⟨0, _⟩ => exact Subsingleton.elim (α := Fin 1) (x 0) (y 0)

theorem used_word_eq : usedWord (T1 m) = T1 m (ix1 0) := congrArg (T1 m) (one_index _ _)

theorem table_used (h : (Rect.unit (s := S1) ![0] S1.size inb_S1_S1_0).shape.numel = 1) : (tbl m).at 1 (Rect.unit (s := S1) ![0] S1.size inb_S1_S1_0) h = T1 m (ix1 0) :=
  congrArg (T1 m) (one_index _ _)

theorem table_expert (inb h) : (tbl m).at 0 (Rect.unit (s := S80) ![(Scalar.indexCast (BitVec.ofNat 32 (crd m hO t 0).val)).toNat] S1.size inb) h
    = expertAt m hO t := word_at m hO t (T0 m) inb (lt_of_lt_of_eq Nat.one_pos h.symm)

include hR in
theorem used_lt (h : Used m hO t) : t.val / 2 < (T1 m (ix1 0)).toNat := by
  rw [used_iff, used_word_eq, slt_used (lt_points m hO t) (hR.small _), decide_eq_true_eq] at h
  exact h

include hR in
theorem index_0 (h : t.val / 2 < (T1 m (ix1 0)).toNat) : ((cfgM m hO).win (0 : Fin 5)).index t = ![t.val / 2, 0] := by
  show cc0_transform_0 inb_S1_S1_0 numel1_S1 (tbl m) (crd m hO t) = _
  unfold cc0_transform_0
  dsimp only
  rw [table_used m numel1_S1, row_word (crd m hO t 0).isLt (hR.one_le _) (hR.small _), crd_0, min_eq_left (by omega)]
  rfl

include hR in
theorem index_1 (h : t.val / 2 < (T1 m (ix1 0)).toNat) :
    ((cfgM m hO).win (1 : Fin 5)).index t = ![(expertAt m hO t).toNat, 0, t.val % 2] := by
  show cc0_transform_1 k0_off1_inb numel1_S1 inb_S1_S1_0 (tbl m) (crd m hO t) = _
  refine congrArg₂ (fun a b : ℕ => (![a, 0, b] : Fin 3 → ℕ)) (congrArg BitVec.toNat (table_expert m hO t _ _)) ?_
  rw [table_used m numel1_S1, half_word (crd m hO t 0).isLt (crd m hO t 1).isLt (hR.small _), crd_0, crd_1, if_pos h]

include hR in
theorem index_2 (h : t.val / 2 < (T1 m (ix1 0)).toNat) :
    ((cfgM m hO).win (2 : Fin 5)).index t = ![(expertAt m hO t).toNat, 0, t.val % 2] := index_1 m hO t hR h

include hR in
theorem index_3 (h : t.val / 2 < (T1 m (ix1 0)).toNat) :
    ((cfgM m hO).win (3 : Fin 5)).index t = ![(expertAt m hO t).toNat, t.val % 2, 0] := by
  show cc0_transform_3 k0_off1_inb numel1_S1 inb_S1_S1_0 (tbl m) (crd m hO t) = _
  refine congrArg₂ (fun a b : ℕ => (![a, b, 0] : Fin 3 → ℕ)) (congrArg BitVec.toNat (table_expert m hO t _ _)) ?_
  rw [table_used m numel1_S1, half_word (crd m hO t 0).isLt (crd m hO t 1).isLt (hR.small _), crd_0, crd_1, if_pos h]

theorem index_4 : ((cfgM m hO).win (4 : Fin 5)).index t = ![t.val / 2, 0] := by
  show cc0_transform_4 (crd m hO t) = _
  unfold cc0_transform_4
  dsimp only
  rw [crd_0, WordCmp.toNat_ofNat_of_lt (by have := lt_points m hO t; omega)]
  rfl

include hR in
/-- A row of the activations. -/
theorem rows_at (h : Used m hO t) (hx : AllReal (m ((c : Thread nD τ).loc main_arg2))) (i : Fin 512) (d : Fin 1024) :
    (View.ld (iblk m hO c (0 : Fin 5) t) (Rect.unit (s := S512x1152) ![0, 0] ![512, 1024] inb_S512x1152_S512x1024_0_0) (ix2 i d) : EReal)
      = ((entry (m ((c : Thread nD τ).loc main_arg2)) (512 * (t.val / 2) + i) d : ℝ) : EReal) := by
  have ht := index_0 m hO t hR (used_lt m hO t hR h)
  refine Eq.trans ?_ (hx.read ((((cfgM m hO).win (0 : Fin 5)).blk t).view.emb
    ((Rect.unit (s := S512x1152) ![0, 0] ![512, 1024] inb_S512x1152_S512x1024_0_0).emb (ix2 i d))) ?_ ?_)
  · rfl
  · blk_simp [ht]
    omega
  · blk_simp [ht]

include hR in
/-- A row of the experts' weights. -/
theorem weights_at (h : Used m hO t) (hx : AllReal (m ((c : Thread nD τ).loc main_arg2))) (i : Fin 512) (l : Fin 128) :
    (View.ld (iblk m hO c (0 : Fin 5) t) (Rect.unit (s := S512x1152) ![0, 1024] ![512, 128] inb_S512x1152_S512x128_0_1024) (ix2 i l) : EReal)
      = ((entry (m ((c : Thread nD τ).loc main_arg2)) (512 * (t.val / 2) + i) (1024 + l) : ℝ) : EReal) := by
  have ht := index_0 m hO t hR (used_lt m hO t hR h)
  refine Eq.trans ?_ (hx.read ((((cfgM m hO).win (0 : Fin 5)).blk t).view.emb
    ((Rect.unit (s := S512x1152) ![0, 1024] ![512, 128] inb_S512x1152_S512x128_0_1024).emb (ix2 i l))) ?_ ?_)
  · rfl
  · blk_simp [ht]
    omega
  · blk_simp [ht]

include hR in
/-- The weights into the hidden features. -/
theorem up_at (h : Used m hO t) (hx : AllReal (m ((c : Thread nD τ).loc main_arg3))) (d : Fin 1024) (f : Fin 1792) :
    (iblk m hO c (1 : Fin 5) t : S1x1024x1792.Idx → EReal) (ix3 0 d f)
      = ((entry3 (m ((c : Thread nD τ).loc main_arg3)) (expertAt m hO t).toNat d (1792 * (t.val % 2) + f) : ℝ) : EReal) := by
  have ht := index_1 m hO t hR (used_lt m hO t hR h)
  refine Eq.trans ?_ (read3 hx ((((cfgM m hO).win (1 : Fin 5)).blk t).view.emb (ix3 0 d f)) ?_ ?_ ?_)
  · rfl
  · blk_simp [ht]
    rfl
  · blk_simp [ht]
  · blk_simp [ht]
    omega

include hR in
/-- The weights into the gate. -/
theorem gate_at (h : Used m hO t) (hx : AllReal (m ((c : Thread nD τ).loc main_arg4))) (d : Fin 1024) (f : Fin 1792) :
    (iblk m hO c (2 : Fin 5) t : S1x1024x1792.Idx → EReal) (ix3 0 d f)
      = ((entry3 (m ((c : Thread nD τ).loc main_arg4)) (expertAt m hO t).toNat d (1792 * (t.val % 2) + f) : ℝ) : EReal) := by
  have ht := index_2 m hO t hR (used_lt m hO t hR h)
  refine Eq.trans ?_ (read3 hx ((((cfgM m hO).win (2 : Fin 5)).blk t).view.emb (ix3 0 d f)) ?_ ?_ ?_)
  · rfl
  · blk_simp [ht]
    rfl
  · blk_simp [ht]
  · blk_simp [ht]
    omega

include hR in
/-- The weights out of the hidden features. -/
theorem down_at (h : Used m hO t) (hx : AllReal (m ((c : Thread nD τ).loc main_arg5))) (f : Fin 1792) (j : Fin 1024) :
    (iblk m hO c (3 : Fin 5) t : S1x1792x1024.Idx → EReal) (ix3 0 f j)
      = ((entry3 (m ((c : Thread nD τ).loc main_arg5)) (expertAt m hO t).toNat (1792 * (t.val % 2) + f) j : ℝ) : EReal) := by
  have ht := index_3 m hO t hR (used_lt m hO t hR h)
  refine Eq.trans ?_ (read3 hx ((((cfgM m hO).win (3 : Fin 5)).blk t).view.emb (ix3 0 f j)) ?_ ?_ ?_)
  · rfl
  · blk_simp [ht]
    rfl
  · blk_simp [ht]
    omega
  · blk_simp [ht]

/-! ## The tiles' values -/

/-- The arrays of the activations and of the experts' weights are of finite entries. -/
structure Finite : Prop where
  rows : AllReal (m ((c : Thread nD τ).loc main_arg2))
  up : AllReal (m ((c : Thread nD τ).loc main_arg3))
  gate : AllReal (m ((c : Thread nD τ).loc main_arg4))
  down : AllReal (m ((c : Thread nD τ).loc main_arg5))

variable (hF : Finite m c)

include hR hF

theorem hidden_at (h : Used m hO t) (i : Fin 512) (f : Fin 1792) :
    (hiddenTile m hO c t (ix2 i f) : EReal)
      = ((hidden (m ((c : Thread nD τ).loc main_arg2)) (m ((c : Thread nD τ).loc main_arg3)) (m ((c : Thread nD τ).loc main_arg4))
            (512 * (t.val / 2) + i) (expertAt m hO t).toNat (1792 * (t.val % 2) + f)
          * weight (m ((c : Thread nD τ).loc main_arg2)) (512 * (t.val / 2) + i) (expertAt m hO t).toNat : ℝ) : EReal) := by
  refine (pay5_apply _ _ (expertAt m hO t) (hR.expert _) _ _ i f
    (fun d => rows_at m hO c t hR h hF.rows i d) (fun d => up_at m hO c t hR h hF.up d f) (fun d => gate_at m hO c t hR h hF.gate d f)
    (fun l => weights_at m hO c t hR h hF.rows i l)).trans ?_
  unfold hidden weight Cert.Experts.up
  rw [show 1032 + (expertAt m hO t).toNat = 1024 + (8 + (expertAt m hO t).toNat) by omega,
    show 1040 + (expertAt m hO t).toNat = 1024 + (16 + (expertAt m hO t).toNat) by omega]

theorem half_at (h : Used m hO t) (i : Fin 512) (j : Fin 1024) :
    (∑ f : Fin 1792, hiddenTile m hO c t (ix2 i f) * k0_pay6 (F := Ideal) (iblk m hO c (3 : Fin 5) t) (ix2 f j) : EReal)
      = ((half (m ((c : Thread nD τ).loc main_arg2)) (m ((c : Thread nD τ).loc main_arg3)) (m ((c : Thread nD τ).loc main_arg4))
          (m ((c : Thread nD τ).loc main_arg5)) (t.val % 2) (512 * (t.val / 2) + i) (expertAt m hO t).toNat j : ℝ) : EReal) := by
  unfold half
  rw [← coe_sum]
  refine Finset.sum_congr rfl fun f _ => ?_
  rw [EReal.coe_mul]
  exact congrArg₂ (fun a b : EReal => a * b) (hidden_at m hO c t hR hF h i f)
    ((pay6_apply _ f j).trans (down_at m hO c t hR h hF.down f j))

theorem outTile_at (h : Used m hO t) (ho : t.val % 2 = 1) (i : Fin 512) (j : Fin 1024) :
    (outTile m hO c t (ix2 i j) : EReal)
      = ((mixed (m ((c : Thread nD τ).loc main_arg2)) (m ((c : Thread nD τ).loc main_arg3)) (m ((c : Thread nD τ).loc main_arg4))
          (m ((c : Thread nD τ).loc main_arg5)) (512 * (t.val / 2) + i) (expertAt m hO t).toNat j : ℝ) : EReal) := by
  have hd : (prevPt m hO t).val / 2 = t.val / 2 := by show (t.val - 1) / 2 = _; omega
  have he : (prevPt m hO t).val % 2 = 0 := by show (t.val - 1) % 2 = 0; omega
  have hu : Used m hO (prevPt m hO t) := by rw [used_iff] at h ⊢; rw [hd]; exact h
  have hx : expertAt m hO (prevPt m hO t) = expertAt m hO t := congrArg (T0 m) (by simp only [hd])
  have h0 := half_at m hO c (prevPt m hO t) hR hF hu i j
  have h1 := half_at m hO c t hR hF h i j
  rw [hd, he, hx] at h0
  rw [ho] at h1
  unfold outTile
  rw [dif_pos ⟨h, ho⟩, res_eq, acc_eq m hO c (prevPt m hO t) hu he, ← halves, EReal.coe_add]
  refine (pay2_apply _ i j).trans ((pay1_apply _ _ _ i j).trans ?_)
  refine congrArg₂ (fun a b : EReal => a + b) ((pay1_apply _ _ _ i j).trans ?_) h1
  exact (congrArg₂ (fun a b : EReal => a + b) (pay4_apply i j) h0).trans (zero_add _)

end Cert.Experts

end
-- ==== Proof.ExpertRef.lean ====
/- What the expert layer's reference computes, entry by entry over the extended reals. -/
module

public import proofs.«01_k».proof.Proof.Gen.Reference2Ideal.Run
public import proofs.«01_k».proof.Proof.Gen.Reference2Ideal.Read
public import proofs.«01_k».proof.Proof.ExpertReal
public import proofs.«01_k».proof.Proof.ExpertWords

@[expose] public section

set_option maxRecDepth 16384

noncomputable section

namespace Cert.Experts

open Cert.Reference2Ideal Cert.Reference2Ideal.Gen Cert.Reference2Ideal.Read Idealize.ShloMosaic Idealize.ShloMosaic.TcCoe Idealize.SL.Sem Cert.Attn

variable (T : S80.Idx → BitVec 32) (N : S1.Idx → BitVec 32) (xs : FVec Ideal S40960x1152 .bf16)
  (w1 w3 : FVec Ideal S8x1024x3584 .bf16) (w2 : FVec Ideal S8x3584x1024 .bf16)

/-- The row's tile is in use and expert `e` is the tile's. -/
theorem mine_word (h : InRange T N) (r : Fin 40960) (e : Fin 8) :
    IntOp.andi (IntOp.cmpi .eq (T (ix1 ⟨r.val / 512, by omega⟩)) (BitVec.ofNat 32 e)) (IntOp.cmpi .slt (BitVec.ofNat 32 (r.val / 512)) (N (ix1 0)))
      = if e.val = (T (ix1 ⟨r.val / 512, by omega⟩)).toNat ∧ r.val / 512 < (N (ix1 0)).toNat then 1#1 else 0#1 := by
  have hs : IntOp.cmpi .slt (BitVec.ofNat 32 (r.val / 512)) (N (ix1 0)) = BitVec.ofBool (decide (r.val / 512 < (N (ix1 0)).toNat)) :=
    congrArg BitVec.ofBool (slt_used (by omega) (h.small _))
  rw [hs, WordCmp.cmpi_eq_eq_toNat, WordCmp.andi_ofBool, WordCmp.toNat_ofNat_of_lt (show e.val < 2 ^ 32 by omega)]
  by_cases h1 : e.val = (T (ix1 ⟨r.val / 512, by omega⟩)).toNat <;> by_cases h2 : r.val / 512 < (N (ix1 0)).toNat <;> simp [h1, h2, eq_comm]

/-- A row's weight of an expert: nothing unless its tile is in use and is the expert's. -/
theorem comb_apply (h : InRange T N) (hx : AllReal xs) (r : Fin 40960) (e : Fin 8) :
    val_main_v30 (F := Ideal) T N xs (ix2 r e)
      = if e.val = (T (ix1 ⟨r.val / 512, by omega⟩)).toNat ∧ r.val / 512 < (N (ix1 0)).toNat then ((weight xs r e : ℝ) : EReal) else 0 := by
  pointwise [val_main_v30, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v29, val_main_v9, val_main_v8, val_main_v7, val_main_v6, val_main_v5, val_main_v0, val_main_cst]
  rw [mine_word T N h, select_ite, weight, EReal.coe_add, EReal.coe_add]
  exact if_congr Iff.rfl (congrArg₂ (fun y z : EReal => y + z) (congrArg₂ (fun y z : EReal => y + z)
    (hx.read _ (by simp) (by simp)) (hx.read _ (by simp) (by simp))) (hx.read _ (by simp) (by simp))) rfl

theorem row_apply (hx : AllReal xs) (r : Fin 40960) (d : Fin 1024) : val_main_v4 (F := Ideal) xs (ix2 r d) = ((entry xs r d : ℝ) : EReal) := by
  pointwise [val_main_v4, val_main_v0]
  exact hx.read _ rfl (by simp)

theorem gate_apply (hx : AllReal xs) (hw : AllReal w1) (r : Fin 40960) (e : Fin 8) (f : Fin 3584) :
    val_main_v32 (F := Ideal) xs w1 (ix3 e r f) = ((up xs w1 r e f : ℝ) : EReal) := by
  rw [val_main_v32_apply, val_main_v31_apply, up, ← coe_sum]
  refine Finset.sum_congr rfl fun d _ => ?_
  have er : ridx_main_v31 (idx_main_v32 (ix3 e r f)) d = ix2 r d := by
    funext a; apply Fin.ext; fin_cases a <;> rfl
  rw [er, row_apply xs hx, EReal.coe_mul, mul_comm]
  exact congrArg (_ * ·) (read3 hw _ rfl rfl rfl)

theorem value_apply (hx : AllReal xs) (hw : AllReal w3) (r : Fin 40960) (e : Fin 8) (f : Fin 3584) :
    val_main_v34 (F := Ideal) xs w3 (ix3 e r f) = ((up xs w3 r e f : ℝ) : EReal) := by
  rw [val_main_v34_apply, val_main_v33_apply, up, ← coe_sum]
  refine Finset.sum_congr rfl fun d _ => ?_
  have er : ridx_main_v33 (idx_main_v34 (ix3 e r f)) d = ix2 r d := by
    funext a; apply Fin.ext; fin_cases a <;> rfl
  rw [er, row_apply xs hx, EReal.coe_mul, mul_comm]
  exact congrArg (_ * ·) (read3 hw _ rfl rfl rfl)

theorem ofBits_one : Ideal.ofBits .f32 0x3F800000#32 = (1 : EReal) := by
  simp [Ideal.ofBits, Ideal.ieee]
  rw [← EReal.coe_mul]
  norm_num

theorem logistic_apply (i : S8x40960x3584.Idx) :
    val_main_v40 (F := Ideal) xs w1 i = Ideal.logistic (val_main_v32 (F := Ideal) xs w1 i) := by
  rw [val_main_v40_apply, val_main_v39_apply, val_main_cst_1_apply, val_main_v38_apply, val_main_v37_apply, val_main_cst_0_apply,
    val_main_v36_apply, val_main_v35_apply]
  generalize val_main_v32 (F := Ideal) xs w1 i = u
  show Ideal.div (Ideal.ofBits .f32 0x3F800000#32) (Ideal.ofBits .f32 0x3F800000#32 + Ideal.exp (-u)) = _
  rw [ofBits_one, Ideal.logistic]

theorem hidden_apply (hx : AllReal xs) (h1 : AllReal w1) (h3 : AllReal w3) (r : Fin 40960) (e : Fin 8) (f : Fin 3584) :
    val_main_v42 (F := Ideal) xs w1 w3 (ix3 e r f) = ((hidden xs w1 w3 r e f : ℝ) : EReal) := by
  rw [val_main_v42_apply, val_main_v41_apply, logistic_apply, gate_apply xs w1 hx h1, value_apply xs w3 hx h3]
  show ((up xs w1 r e f : ℝ) : EReal) * Ideal.logistic ((up xs w1 r e f : ℝ) : EReal) * ((up xs w3 r e f : ℝ) : EReal) = _
  rw [silu_coe, ← EReal.coe_mul, hidden]

theorem expert_apply (hx : AllReal xs) (h1 : AllReal w1) (h3 : AllReal w3) (h2 : AllReal w2) (r : Fin 40960) (e : Fin 8) (c : Fin 1024) :
    val_main_v43 (F := Ideal) xs w1 w3 w2 (ix3 e r c) = ((∑ f : Fin 3584, hidden xs w1 w3 r e f * entry3 w2 e f c : ℝ) : EReal) := by
  rw [val_main_v43_apply, ← coe_sum]
  refine Finset.sum_congr rfl fun f _ => ?_
  have el : lidx_main_v43 (ix3 e r c) f = ix3 e r f := by
    funext a; apply Fin.ext; fin_cases a <;> rfl
  rw [el, hidden_apply xs w1 w3 hx h1 h3, EReal.coe_mul]
  exact congrArg (_ * ·) (read3 h2 _ rfl rfl rfl)

/-- The reference's result: a tile's rows through its expert, weighted, and zero past the tiles in use. -/
theorem reference_apply (h : InRange T N) (hx : AllReal xs) (h1 : AllReal w1) (h3 : AllReal w3) (h2 : AllReal w2) (r : Fin 40960) (c : Fin 1024) :
    val_main_v49 (F := Ideal) T N xs w1 w3 w2 (ix2 r c)
      = if r.val / 512 < (N (ix1 0)).toNat then ((mixed xs w1 w3 w2 r (T (ix1 ⟨r.val / 512, by omega⟩)).toNat c : ℝ) : EReal) else 0 := by
  have hz : val_main_cst_2 (F := Ideal) (Shape.Idx.first h_S_) = (0 : EReal) := by pointwise [val_main_cst_2]
  have ht : val_main_v49 (F := Ideal) T N xs w1 w3 w2 (ix2 r c) = val_main_v48 (F := Ideal) T N xs w1 w3 w2 (ix2 r c) := val_main_v49_apply ..
  rw [ht, val_main_v48_apply, hz, zero_add]
  have term : ∀ e : Fin 8, val_main_v47 (F := Ideal) T N xs w1 w3 w2 (idx_main_v48 (ix2 r c) e)
      = if e = ⟨(T (ix1 ⟨r.val / 512, by omega⟩)).toNat, h.expert _⟩ then
          (if r.val / 512 < (N (ix1 0)).toNat then ((mixed xs w1 w3 w2 r e c : ℝ) : EReal) else 0) else 0 := fun e => by
    have ei : idx_main_v48 (ix2 r c) e = ix3 e r c := by
      funext a; apply Fin.ext; fin_cases a <;> rfl
    have ec : idx_main_v44 (idx_main_v45 (idx_main_v46 (ix3 e r c))) = ix2 r e := by
      funext a; apply Fin.ext; fin_cases a <;> rfl
    rw [ei, val_main_v47_apply, val_main_v46_apply, val_main_v45_apply, val_main_v44_apply, ec, comb_apply T N xs h hx,
      expert_apply xs w1 w3 w2 hx h1 h3 h2]
    show (_ : EReal) * _ = _
    simp only [Fin.ext_iff]
    by_cases he : e.val = (T (ix1 ⟨r.val / 512, by omega⟩)).toNat
    · by_cases hu : r.val / 512 < (N (ix1 0)).toNat
      · rw [if_pos ⟨he, hu⟩, if_pos he, if_pos hu, ← EReal.coe_mul, mixed]
      · rw [if_neg (fun q => hu q.2), if_pos he, if_neg hu, zero_mul]
    · rw [if_neg (fun q => he q.1), if_neg he, zero_mul]
  rw [Finset.sum_congr rfl fun e _ => term e, Finset.sum_ite_eq', if_pos (Finset.mem_univ _)]

end Cert.Experts

end
-- ==== Proof.ExpertArray.lean ====
/- The expert layer's result array after the run is the reference's. -/
module

public import proofs.«01_k».proof.Proof.ExpertValue
public import proofs.«01_k».proof.Proof.ExpertRef
public import Idealize.ShloMosaic.Lib.Pipeline.ValueKit

@[expose] public section

set_option maxRecDepth 16384

noncomputable section

namespace Cert.Experts

open Cert.Kernel2Ideal Cert.Kernel2Ideal.Gen Idealize.ShloMosaic Idealize.ShloMosaic.TcCoe Idealize.SL.Sem Cert.Attn

variable (m : (ℓ : Loc nD τ sig) → Buf (Elt Ideal) ℓ) (hO : ok0 (F := Ideal) (tbl m)) (c : Dev nD)

/-- Every block of rows is written back, at its tile's second half. -/
theorem covers : ((cfgM m hO).win (4 : Fin 5)).Covers := by
  refine ⟨fun a => (by decide : ∀ a : Fin 2, 0 < S512x1024.size a) a, fun β => ?_⟩
  have h0 : (β (0 : Fin 2)).val < 80 :=
    lt_of_lt_of_eq (β (0 : Fin 2)).isLt (by decide : (S40960x1024.size 0 + S512x1024.size 0 - 1) / S512x1024.size 0 = 80)
  have h1 : (β (1 : Fin 2)).val < 1 :=
    lt_of_lt_of_eq (β (1 : Fin 2)).isLt (by decide : (S40960x1024.size 1 + S512x1024.size 1 - 1) / S512x1024.size 1 = 1)
  have hN : 2 * (β (0 : Fin 2)).val + 1 < (cfgM m hO).N := lt_of_lt_of_eq (by omega : _ < 160) N_0.symm
  refine ⟨⟨2 * (β (0 : Fin 2)).val + 1, hN⟩, flush_odd m hO _ (by show (2 * _ + 1) % 2 = 1; omega), fun a => ⟨?_, .inl rfl⟩⟩
  rw [index_4]
  match a with
  | ⟨0, _⟩ => show (2 * (β (0 : Fin 2)).val + 1) / 2 = (β (0 : Fin 2)).val; omega
  | ⟨1, _⟩ => show 0 = (β (1 : Fin 2)).val; omega

/-- The result: the reference's array, as a function of the arguments. -/
def result (T : IVec S80 32) (N : IVec S1 32) (xs : FVec Ideal S40960x1152 .bf16) (w1 w3 : FVec Ideal S8x1024x3584 .bf16)
    (w2 : FVec Ideal S8x3584x1024 .bf16) : FVec Ideal S40960x1024 .bf16 :=
  Cert.Reference2Ideal.Read.val_main_v49 (F := Ideal) T N xs w1 w3 w2

variable (hR : InRange (T0 m) (T1 m)) (hF : Finite m c)

include hR hF in
theorem outTile_eq (t : Fin (cfgM m hO).N) (ho : t.val % 2 = 1) (i : Fin 512) (j : Fin 1024) :
    (outTile m hO c t (ix2 i j) : EReal)
      = result (T0 m) (T1 m) (m ((c : Thread nD τ).loc main_arg2)) (m ((c : Thread nD τ).loc main_arg3)) (m ((c : Thread nD τ).loc main_arg4))
          (m ((c : Thread nD τ).loc main_arg5)) (ix2 ⟨512 * (t.val / 2) + i, by have := lt_points m hO t; omega⟩ j) := by
  have hl := lt_points m hO t
  refine Eq.symm ((reference_apply _ _ _ _ _ _ hR hF.rows hF.up hF.gate hF.down ⟨512 * (t.val / 2) + i, by omega⟩ j).trans ?_)
  have hd : (512 * (t.val / 2) + i.val) / 512 = t.val / 2 := by omega
  simp only [hd]
  by_cases h : Used m hO t
  · rw [if_pos (used_lt m hO t hR h), outTile_at m hO c t hR hF h ho]
  · have hn : ¬ t.val / 2 < (T1 m (ix1 0)).toNat := fun q => h (by
      rw [used_iff, used_word_eq, slt_used hl (hR.small _), decide_eq_true_eq]
      exact q)
    rw [if_neg hn, outTile, dif_neg fun q => h q.1, zeroTile]
    exact (pay3_apply i j).symm

include hR hF in
theorem arrAt_eq : (dats m hO 0 c).arrAt (4 : Fin 5) (cfgM m hO).N
    = result (T0 m) (T1 m) (m ((c : Thread nD τ).loc main_arg2)) (m ((c : Thread nD τ).loc main_arg3)) (m ((c : Thread nD τ).loc main_arg4))
        (m ((c : Thread nD τ).loc main_arg5)) := by
  refine (dats m hO 0 c).arrAt_eq_of_covers (4 : Fin 5) _ (covers m hO) fun t hf y => ?_
  obtain ⟨i, j, rfl⟩ : ∃ (i : Fin 512) (j : Fin 1024), y = ix2 i j := ⟨y 0, y 1, eq_ix2 y⟩
  have ht := index_4 m hO t
  refine Eq.trans (b := (outTile m hO c t (ix2 i j) : EReal)) ?_ ((outTile_eq m hO c hR hF t ((flush_iff m hO t).1 hf) i j).trans ?_)
  · rfl
  · refine congrArg (result (T0 m) (T1 m) (m ((c : Thread nD τ).loc main_arg2)) (m ((c : Thread nD τ).loc main_arg3)) (m ((c : Thread nD τ).loc main_arg4))
        (m ((c : Thread nD τ).loc main_arg5))) (funext fun a => Fin.ext ?_)
    match a with
    | ⟨0, _⟩ =>
      show 512 * (t.val / 2) + i.val = _
      blk_simp [ht]
      omega
    | ⟨1, _⟩ => blk_simp [ht]

end Cert.Experts

end
-- ==== Proof.ExpertFrameBits.lean ====
/- The same run of the program as printed, at the machine's floats: the body at every grid point, by whether the row tile is in use and which
   half of the hidden features the point takes. -/
module

public import proofs.«01_k».proof.Proof.ExpertFrame
public import proofs.«01_k».proof.Proof.Gen.Kernel2.Launch
public import proofs.«01_k».proof.Proof.Gen.Kernel2.Skeleton
public import proofs.«01_k».proof.Proof.Gen.Kernel2.Flash.Runs
public import Idealize.ShloMosaic.Lib.Pipeline.FrameBody
public import Idealize.ShloMosaic.Lib.Pipeline.Kit
public import Idealize.ShloMosaic.Lib.Pipeline.TableIdle
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp
public import Idealize.ShloMosaic.PureOps.BitExact
public import Idealize.ShloMosaic.Adequacy
public import Idealize.ShloMosaic.Init

@[expose] public section

set_option maxRecDepth 16384

noncomputable section

namespace Cert.ExpertsBits

open Cert.Kernel2 Cert.Kernel2.Gen
open Cert.Experts (word_true beq_false)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The words the body decides by -/

/-- The number of row tiles in use, as the body reads it off its table. -/
abbrev usedWord (T : S1.Idx → Elt Bits .i32) : BitVec 32 :=
  View.readAt (Elt Bits) (tbM0_1).view (Rect.unit (s := S1) ![0] S1.size inb_S1_S1_0).toLoadRect T (Shape.Idx.first (numel1_S1.symm ▸ Nat.one_pos))

/-- The test for the first half of the hidden features. -/
abbrev firstHalf (i : grid0.Coords) : Prop :=
  (Scalar.cmpi .ne (Scalar.extui (Scalar.cmpi .eq (BitVec.ofNat 32 (i 1).val) 0#32)) 0#32) = 1#1

theorem firstHalf_iff (i : grid0.Coords) : firstHalf i ↔ (i 1).val = 0 := by
  have h := (i 1).isLt
  have h2 : (i 1).val = 0 ∨ (i 1).val = 1 := by
    have : (i 1).val < 2 := h
    omega
  unfold firstHalf
  rcases h2 with e | e <;> rw [e] <;> decide

theorem secondHalf_iff (i : grid0.Coords) : k0_cond3 i = 1#1 ↔ (i 1).val = 1 := by
  have h2 : (i 1).val = 0 ∨ (i 1).val = 1 := by
    have : (i 1).val < 2 := (i 1).isLt
    omega
  unfold k0_cond3
  rcases h2 with e | e <;> simp only [e] <;> decide

theorem inUse_iff (i : grid0.Coords) (w : BitVec 32) : k0_cond1 i w = 1#1 ↔ (BitVec.ofNat 32 (i 0).val).slt w = true :=
  word_true _

theorem notInUse_iff (i : grid0.Coords) (w : BitVec 32) :
    k0_cond4 i w = 1#1 ↔ (¬ k0_cond1 i w = 1#1) ∧ (i 1).val = 0 := by
  rw [inUse_iff]
  have h2 : (i 1).val = 0 ∨ (i 1).val = 1 := by
    have : (i 1).val < 2 := (i 1).isLt
    omega
  have hs : (Scalar.cmpi .sge (BitVec.ofNat 32 (i 0).val) w : BitVec 1) = BitVec.ofBool (!(BitVec.ofNat 32 (i 0).val).slt w) := by
    show BitVec.ofBool (w.sle (BitVec.ofNat 32 (i 0).val)) = _
    congr 1
    rw [BitVec.sle_eq_decide, BitVec.slt_eq_decide]
    by_cases hc : w.toInt ≤ (BitVec.ofNat 32 (i 0).val).toInt
    · simp [hc]
    · simp [hc, not_le.1 hc]
  unfold k0_cond4
  dsimp only
  rw [hs]
  cases (BitVec.ofNat 32 (i 0).val).slt w <;> rcases h2 with e | e <;> simp only [e] <;> decide

/-! ## The tables and the pipeline at them -/

variable (m : (ℓ : Loc nD τ sig) → Buf (Elt Bits) ℓ) (ρ : Dev nD → PrngReg)

/-- The tables at launch. -/
def tbl : pre0.Contents (Elt Bits) := fun j => m (((0 : Dev nD) : Thread nD τ).loc (pre0.ref j))
abbrev T0 : S80.Idx → Elt Bits .i32 := tbl m 0
abbrev T1 : S1.Idx → Elt Bits .i32 := tbl m 1

theorem tbl_eq (c : Dev nD) (j : Fin 2) : m ((c : Thread nD τ).loc (pre0.ref j)) = tbl m j := by
  obtain rfl : c = 0 := Subsingleton.elim _ _
  rfl

variable (hO : ok0 (F := Bits) (tbl m))

def adm : (pcfg0 (F := Bits)).Adm := ⟨tbl m, hO⟩
abbrev cfgM : Pipeline.Cfg sig Λ₀ := cfg0 (F := Bits) (adm m hO)
abbrev pcs : Fin 1 → Pipeline.Cfg sig Λ₀ := Pipeline.pin (pcfgs (F := Bits)) fun _ => adm m hO

abbrev crd (t : Fin (cfgM m hO).N) : (cfgM m hO).grid.Coords := (cfgM m hO).grid.coords t

theorem crd_0 (t : Fin (cfgM m hO).N) : (crd m hO t 0).val = t.val / 2 := by
  have h : (crd m hO t 0).val = t.val / 2 % 80 :=
    (fun t => Pipeline.Grid.coords_val t 0 (by decide) rfl : ∀ t : Fin grid0.N, (grid0.coords t 0).val = t.val / 2 % 80) t
  have ht : t.val < 160 := lt_of_lt_of_eq t.isLt N_0
  refine h.trans (Nat.mod_eq_of_lt (by omega))

theorem crd_1 (t : Fin (cfgM m hO).N) : (crd m hO t 1).val = t.val % 2 := by
  have h : (crd m hO t 1).val = t.val / 1 % 2 :=
    (fun t => Pipeline.Grid.coords_val t 1 (by decide) rfl : ∀ t : Fin grid0.N, (grid0.coords t 1).val = t.val / 1 % 2) t
  rw [Nat.div_one] at h
  exact h

abbrev ms_0 (t : Fin (cfgM m hO).N) : Memref sig .tc .vmem S512x1152 .bf16 := spec0_0.stage ((cfgM m hO).slots t (0 : Fin 5))
abbrev hs_0 (t : Fin (cfgM m hO).N) : (ms_0 m hO t).IsWhole := hstage0_0 (((cfgM m hO).slots t (0 : Fin 5)).cast nbuf0_0)
abbrev ms_1 (t : Fin (cfgM m hO).N) : Memref sig .tc .vmem S1x1024x1792 .bf16 := spec0_1.stage ((cfgM m hO).slots t (1 : Fin 5))
abbrev hs_1 (t : Fin (cfgM m hO).N) : (ms_1 m hO t).IsWhole := hstage0_1 (((cfgM m hO).slots t (1 : Fin 5)).cast nbuf0_1)
abbrev ms_2 (t : Fin (cfgM m hO).N) : Memref sig .tc .vmem S1x1024x1792 .bf16 := spec0_2.stage ((cfgM m hO).slots t (2 : Fin 5))
abbrev hs_2 (t : Fin (cfgM m hO).N) : (ms_2 m hO t).IsWhole := hstage0_2 (((cfgM m hO).slots t (2 : Fin 5)).cast nbuf0_2)
abbrev ms_3 (t : Fin (cfgM m hO).N) : Memref sig .tc .vmem S1x1792x1024 .bf16 := spec0_3.stage ((cfgM m hO).slots t (3 : Fin 5))
abbrev hs_3 (t : Fin (cfgM m hO).N) : (ms_3 m hO t).IsWhole := hstage0_3 (((cfgM m hO).slots t (3 : Fin 5)).cast nbuf0_3)
abbrev ms_4 (t : Fin (cfgM m hO).N) : Memref sig .tc .vmem S512x1024 .bf16 := spec0_4.stage ((cfgM m hO).slots t (4 : Fin 5))
abbrev hs_4 (t : Fin (cfgM m hO).N) : (ms_4 m hO t).IsWhole := hstage0_4 (((cfgM m hO).slots t (4 : Fin 5)).cast nbuf0_4)

/-- Window `w`'s block at point `t`, read off its array at launch. -/
def iblk (c : Dev nD) (w : Fin (cfgM m hO).W) (t : Fin (cfgM m hO).N) : (((cfgM m hO).win w).xblock (crd m hO t)).Idx → Elt Bits ((cfgM m hO).win w).elt :=
  (((cfgM m hO).win w).blk t).view.read (Elt Bits) (m (((cfgM m hO).win w).arr.view.loc (c : Thread nD τ)))

/-! ## The four kinds of point -/

/-- Point `t`'s row tile is in use. -/
abbrev Used (t : Fin (cfgM m hO).N) : Prop := k0_cond1 (crd m hO t) (usedWord (T1 m)) = 1#1

theorem used_iff (t : Fin (cfgM m hO).N) : Used m hO t ↔ (BitVec.ofNat 32 (t.val / 2)).slt (usedWord (T1 m)) = true := by
  unfold Used
  rw [inUse_iff, crd_0]

theorem idle_eq (t : Fin (cfgM m hO).N) : (cfgM m hO).idle (4 : Fin 5) ((cfgM m hO).grid.coords t)
    = (!(k0_cond1 (crd m hO t) (usedWord (T1 m)) == 1#1 && k0_cond3 (crd m hO t) == 1#1) && !(k0_cond4 (crd m hO t) (usedWord (T1 m)) == 1#1)) := rfl

theorem flush_iff (t : Fin (cfgM m hO).N) : ((cfgM m hO).win (4 : Fin 5)).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1) t

theorem flush_even (t : Fin (cfgM m hO).N) (h : t.val % 2 = 0) : ((cfgM m hO).win (4 : Fin 5)).flush t = false := by
  rw [Bool.eq_false_iff]; intro hc; have := (flush_iff m hO t).1 hc; omega

theorem flush_odd (t : Fin (cfgM m hO).N) (h : t.val % 2 = 1) : ((cfgM m hO).win (4 : Fin 5)).flush t = true := (flush_iff m hO t).2 h

section
variable (t : Fin (cfgM m hO).N)

theorem first_of_even (h : t.val % 2 = 0) : firstHalf (crd m hO t) := (firstHalf_iff _).2 ((crd_1 m hO t).trans h)
theorem not_first_of_odd (h : t.val % 2 = 1) : ¬ firstHalf (crd m hO t) := fun hc => by
  have := (firstHalf_iff _).1 hc; rw [crd_1] at this; omega
theorem second_of_odd (h : t.val % 2 = 1) : k0_cond3 (crd m hO t) = 1#1 := (secondHalf_iff _).2 ((crd_1 m hO t).trans h)
theorem not_second_of_even (h : t.val % 2 = 0) : ¬ k0_cond3 (crd m hO t) = 1#1 := fun hc => by
  have := (secondHalf_iff _).1 hc; rw [crd_1] at this; omega
theorem not_clear_of_used (h : Used m hO t) : ¬ k0_cond4 (crd m hO t) (usedWord (T1 m)) = 1#1 := fun hc => ((notInUse_iff _ _).1 hc).1 h
theorem not_clear_of_odd (h : t.val % 2 = 1) : ¬ k0_cond4 (crd m hO t) (usedWord (T1 m)) = 1#1 := fun hc => by
  have := ((notInUse_iff _ _).1 hc).2; rw [crd_1] at this; omega
theorem clear_of_unused (h : ¬ Used m hO t) (he : t.val % 2 = 0) : k0_cond4 (crd m hO t) (usedWord (T1 m)) = 1#1 :=
  (notInUse_iff _ _).2 ⟨h, (crd_1 m hO t).trans he⟩

theorem idle_A (h : Used m hO t) (he : t.val % 2 = 0) : (cfgM m hO).idle (4 : Fin 5) ((cfgM m hO).grid.coords t) = true := by
  rw [idle_eq, beq_false (not_second_of_even m hO t he), beq_false (not_clear_of_used m hO t h), Bool.and_false]; rfl
theorem idle_B (h : Used m hO t) (ho : t.val % 2 = 1) : (cfgM m hO).idle (4 : Fin 5) ((cfgM m hO).grid.coords t) = false := by
  rw [idle_eq, show k0_cond1 (crd m hO t) (usedWord (T1 m)) = 1#1 from h, second_of_odd m hO t ho]; rfl
theorem idle_C (h : ¬ Used m hO t) (he : t.val % 2 = 0) : (cfgM m hO).idle (4 : Fin 5) ((cfgM m hO).grid.coords t) = false := by
  rw [idle_eq, clear_of_unused m hO t h he]; simp
theorem idle_D (h : ¬ Used m hO t) (ho : t.val % 2 = 1) : (cfgM m hO).idle (4 : Fin 5) ((cfgM m hO).grid.coords t) = true := by
  rw [idle_eq, beq_false h, beq_false (not_clear_of_odd m hO t ho)]; rfl
end

/-! ## What the scratch and the result's buffer hold -/

section
variable (c : Dev nD) (t : Fin (cfgM m hO).N)

/-- What a tile not in use is filled with. -/
def zeroTile : S512x1024.Idx → Elt Bits .bf16 := k0_pay3 (F := Bits)

/-- The run at a point of a tile in use, first half. -/
abbrev runA (h : Used m hO t) (he : t.val % 2 = 0) :=
  kernelRun0_A c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    h (first_of_even m hO t he) (not_second_of_even m hO t he) (not_clear_of_used m hO t h)

/-- The run at a point of a tile in use, second half, from the accumulator `a`. -/
abbrev runB (a : Buf (Elt Bits) ((c : Thread nD τ).loc cc0_scratch0)) (h : Used m hO t) (ho : t.val % 2 = 1) :=
  kernelRun0_B c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (not_first_of_odd m hO t ho) (second_of_odd m hO t ho) (not_clear_of_used m hO t h)

abbrev resB (a : Buf (Elt Bits) ((c : Thread nD τ).loc cc0_scratch0)) (h : Used m hO t) (ho : t.val % 2 = 1) :=
  out0_B_4 c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (not_first_of_odd m hO t ho) (second_of_odd m hO t ho) (not_clear_of_used m hO t h)

abbrev runC (a : Buf (Elt Bits) ((c : Thread nD τ).loc cc0_scratch0)) (h : ¬ Used m hO t) (he : t.val % 2 = 0) :=
  kernelRun0_C c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (clear_of_unused m hO t h he)

abbrev resC (a : Buf (Elt Bits) ((c : Thread nD τ).loc cc0_scratch0)) (h : ¬ Used m hO t) (he : t.val % 2 = 0) :=
  out0_C_4 c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (clear_of_unused m hO t h he)

abbrev runD (a : Buf (Elt Bits) ((c : Thread nD τ).loc cc0_scratch0)) (h : ¬ Used m hO t) (ho : t.val % 2 = 1) :=
  kernelRun0_D c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (not_clear_of_odd m hO t ho)

/-- The accumulator after the first half of a tile in use. -/
def acc : Buf (Elt Bits) ((c : Thread nD τ).loc cc0_scratch0) :=
  if h : Used m hO t ∧ t.val % 2 = 0 then (runA m hO c t h.1 h.2).1 else default

/-- The point before `t`. -/
abbrev prevPt : Fin (cfgM m hO).N := ⟨t.val - 1, by omega⟩

/-- The result's buffer after point `t`: the tile's value after the second half of a tile in use, else zeros. -/
def outTile : S512x1024.Idx → Elt Bits .bf16 :=
  if h : Used m hO t ∧ t.val % 2 = 1 then resB m hO c t (acc m hO c (prevPt m hO t)) h.1 h.2 else zeroTile

end

theorem resC_eq (c : Dev nD) (t : Fin (cfgM m hO).N) (a : Buf (Elt Bits) ((c : Thread nD τ).loc cc0_scratch0)) (h : ¬ Used m hO t) (he : t.val % 2 = 0) :
    resC m hO c t a h he = zeroTile := by
  funext y
  unfold resC out0_C_4
  have hc := cover0_C_4 c (crd m hO t) (ms_0 m hO t) (hs_0 m hO t) (ms_1 m hO t) (hs_1 m hO t) (ms_2 m hO t) (hs_2 m hO t) (ms_3 m hO t) (hs_3 m hO t)
    (ms_4 m hO t) (hs_4 m hO t) (T0 m) (T1 m) (iblk m hO c (0 : Fin 5) t) (iblk m hO c (1 : Fin 5) t) (iblk m hO c (2 : Fin 5) t) (iblk m hO c (3 : Fin 5) t)
    a h (clear_of_unused m hO t h he) y
  rw [View.read_writes_apply_eq_canon _ _ _ _ hc]
  refine View.canon_apply_of_pieces zeroTile _ ?_ y hc
  intro p hp x
  unfold kernelRun0_C at hp
  dsimp only at hp
  obtain rfl := List.mem_singleton.1 hp
  rfl

/-! ## The pipeline's proof data -/

/-- Before position `t`: the accumulator is what the point before left, if that was the first half of a tile in use; the
    tables are as at launch. -/
def Phi (c : Dev nD) (t : Fin ((cfgM m hO).N + 1)) : sProp 𝕄 :=
  iprop((∃ a, ⌜∀ s : Fin (cfgM m hO).N, s.val + 1 = t.val → Used m hO s → s.val % 2 = 0 → a = acc m hO c s⌝
      ∗ (scM0_0.view.loc (c : Thread nD τ) ↦{fullShare} a))
    ∗ (tbM0_0.view.loc (c : Thread nD τ) ↦{fullShare.right} T0 m) ∗ (tbM0_1.view.loc (c : Thread nD τ) ↦{fullShare.right} T1 m))

def dats (_ : Fin 1) (c : Dev nD) : Dat τ (Elt Bits) Unit ℕ (UR sig nD τ) ℕ (cfgM m hO) c where
  A w := m (((cfgM m hO).win w).arr.view.loc (c : Thread nD τ))
  after w t := match w with
    | ⟨0, _⟩ => iblk m hO c (0 : Fin 5) t
    | ⟨1, _⟩ => iblk m hO c (1 : Fin 5) t
    | ⟨2, _⟩ => iblk m hO c (2 : Fin 5) t
    | ⟨3, _⟩ => iblk m hO c (3 : Fin 5) t
    | ⟨4, _⟩ => outTile m hO c t
  Φ t := Phi m hO c t
  q _ := fullShare
  owed _ := 0

section
variable (c : Dev nD) (t : Fin (cfgM m hO).N)

theorem after_0 : (dats m hO 0 c).after (0 : Fin 5) t = iblk m hO c (0 : Fin 5) t := rfl
theorem after_1 : (dats m hO 0 c).after (1 : Fin 5) t = iblk m hO c (1 : Fin 5) t := rfl
theorem after_2 : (dats m hO 0 c).after (2 : Fin 5) t = iblk m hO c (2 : Fin 5) t := rfl
theorem after_3 : (dats m hO 0 c).after (3 : Fin 5) t = iblk m hO c (3 : Fin 5) t := rfl
theorem after_4 : (dats m hO 0 c).after (4 : Fin 5) t = outTile m hO c t := rfl

theorem before_0 (d) : (dats m hO 0 c).before (0 : Fin 5) t d = iblk m hO c (0 : Fin 5) t :=
  ((dats m hO 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (d) : (dats m hO 0 c).before (1 : Fin 5) t d = iblk m hO c (1 : Fin 5) t :=
  ((dats m hO 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (d) : (dats m hO 0 c).before (2 : Fin 5) t d = iblk m hO c (2 : Fin 5) t :=
  ((dats m hO 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (d) : (dats m hO 0 c).before (3 : Fin 5) t d = iblk m hO c (3 : Fin 5) t :=
  ((dats m hO 0 c).before_in_eq_fetched (3 : Fin 5) rfl (fun _ => rfl) (fun _ _ _ => rfl) (fun t => by rw [after_3]; unfold Dat.blockOf iblk; rfl) t d).trans
    (by unfold Dat.fetched Dat.blockOf iblk; rfl)

/-- At the second half of a tile not in use the result's buffer holds the zeros the first half stored. -/
theorem before_4_D (d) (h : ¬ Used m hO t) (ho : t.val % 2 = 1) : (dats m hO 0 c).before (4 : Fin 5) t d = zeroTile := by
  have h0 : t.val ≠ 0 := by omega
  have he : (prevPt m hO t).val % 2 = 0 := by show (t.val - 1) % 2 = 0; omega
  have hu : ¬ Used m hO (prevPt m hO t) := fun hc => h (by
    rw [used_iff] at hc ⊢
    have e : (prevPt m hO t).val / 2 = t.val / 2 := by show (t.val - 1) / 2 = _; omega
    rw [e] at hc
    exact hc)
  rw [(dats m hO 0 c).before_of_pos (4 : Fin 5) t h0 rfl d]
  rw [show ((cfgM m hO).win (4 : Fin 5)).flush ⟨t.val - 1, _⟩ = false from flush_even m hO (prevPt m hO t) he]
  simp only [Bool.false_eq_true, ↓reduceIte]
  unfold Dat.left
  rw [show (cfgM m hO).idle (4 : Fin 5) ((cfgM m hO).grid.coords ⟨t.val - 1, _⟩) = false from idle_C m hO (prevPt m hO t) hu he]
  show (dats m hO 0 c).after (4 : Fin 5) (prevPt m hO t) = _
  rw [after_4]
  unfold outTile
  rw [dif_neg fun hc => hu hc.1]

end

/-! ## The body at every point -/

abbrev bodyAt (t : Fin (cfgM m hO).N) : Prog (TpuEff nD τ sig (Elt Bits) Λ₀ .tc) PUnit :=
  cc0_moe_experts (crd m hO t) (Memref.whole main_arg0) (Memref.isWhole_whole _) (Memref.whole main_arg1) (Memref.isWhole_whole _) (ms_0 m hO t) (hs_0 m hO t) (ms_1 m hO t) (hs_1 m hO t) (ms_2 m hO t) (hs_2 m hO t) (ms_3 m hO t) (hs_3 m hO t) (ms_4 m hO t) (hs_4 m hO t) (Memref.whole cc0_scratch0) (Memref.isWhole_whole _)

/-- What the body runs from at point `t`. -/
abbrev bodyPre (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before (0 : Fin 5) t d))
    ∗ (∃ d, owns (c : Thread nD τ) (ms_1 m hO t) fullShare ((dats m hO 0 c).before (1 : Fin 5) t d))
    ∗ (∃ d, owns (c : Thread nD τ) (ms_2 m hO t) fullShare ((dats m hO 0 c).before (2 : Fin 5) t d))
    ∗ (∃ d, owns (c : Thread nD τ) (ms_3 m hO t) fullShare ((dats m hO 0 c).before (3 : Fin 5) t d))
    ∗ (∃ d, owns (c : Thread nD τ) (ms_4 m hO t) fullShare ((dats m hO 0 c).before (4 : Fin 5) t d)))

/-- What it ends in, the result's buffer in `X`. -/
abbrev bodyPost (c : Dev nD) (t : Fin (cfgM m hO).N) (X : sProp 𝕄) : sProp 𝕄 :=
  iprop((dats m hO 0 c).Φ t.succ ∗ (dats m hO 0 c).owesAt () t.succ
    ∗ owns (c : Thread nD τ) (ms_0 m hO t) fullShare (iblk m hO c (0 : Fin 5) t)
    ∗ owns (c : Thread nD τ) (ms_1 m hO t) fullShare (iblk m hO c (1 : Fin 5) t)
    ∗ owns (c : Thread nD τ) (ms_2 m hO t) fullShare (iblk m hO c (2 : Fin 5) t)
    ∗ owns (c : Thread nD τ) (ms_3 m hO t) fullShare (iblk m hO c (3 : Fin 5) t)
    ∗ X)

section
variable (c : Dev nD) (t : Fin (cfgM m hO).N)

set_option maxHeartbeats 4000000 in
theorem body_A (h : Used m hO t) (he : t.val % 2 = 0) :
    bodyPre m hO c t ⊢ wp frame (wpE (defs₀ (F := Bits)) Variants.none c none) Set.univ (bodyAt m hO t) fun _ =>
      bodyPost m hO c t iprop(∃ d, owns (c : Thread nD τ) (ms_4 m hO t) fullShare ((dats m hO 0 c).before (4 : Fin 5) t d)) := by
  unfold bodyPre bodyPost
  simp only [before_0, before_1, before_2, before_3]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩, ⟨%d4, H4⟩⟩
  iapply ((runA m hO c t h he).2 _ a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ _
        obtain rfl : s = t := Fin.ext (Nat.succ.inj hs)
        unfold acc
        rw [dif_pos ⟨h, he⟩]
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

set_option maxHeartbeats 4000000 in
theorem body_B (h : Used m hO t) (ho : t.val % 2 = 1) :
    bodyPre m hO c t ⊢ wp frame (wpE (defs₀ (F := Bits)) Variants.none c none) Set.univ (bodyAt m hO t) fun _ =>
      bodyPost m hO c t (owns (c : Thread nD τ) (ms_4 m hO t) fullShare (outTile m hO c t)) := by
  unfold bodyPre bodyPost
  simp only [before_0, before_1, before_2, before_3]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi outTile
  rewrite [dif_pos ⟨h, ho⟩]
  have hu : Used m hO (prevPt m hO t) := by
    rw [used_iff] at h ⊢
    have e : (prevPt m hO t).val / 2 = t.val / 2 := by show (t.val - 1) / 2 = _; omega
    rw [e]
    exact h
  iintro ⟨⟨⟨%a0, %ha0, HS0⟩, HT0, HT1⟩, Ho, ⟨%d0, H0⟩, ⟨%d1, H1⟩, ⟨%d2, H2⟩, ⟨%d3, H3⟩, ⟨%d4, H4⟩⟩
  obtain rfl : a0 = acc m hO c (prevPt m hO t) := ha0 (prevPt m hO t) (by show t.val - 1 + 1 = t.val; omega) hu (by show (t.val - 1) % 2 = 0; omega)
  iapply ((runB m hO c t _ h ho).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs _ hse
        have : s.val = t.val := Nat.succ.inj hs
        omega
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (cover0_B_4 c _ _ _ _ _ _ _ _ _ _ _ _ _ _ _ _ _ _ _ _ _ _)

set_option maxHeartbeats 4000000 in
theorem body_C (h : ¬ Used m hO t) (he : t.val % 2 = 0) :
    bodyPre m hO c t ⊢ wp frame (wpE (defs₀ (F := Bits)) Variants.none c none) Set.univ (bodyAt m hO t) fun _ =>
      bodyPost m hO c t (owns (c : Thread nD τ) (ms_4 m hO t) fullShare (outTile m hO c t)) := by
  unfold bodyPre bodyPost
  simp only [before_0, before_1, before_2, before_3]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi outTile
  rewrite [dif_neg fun hc => h hc.1]
  iintro ⟨⟨⟨%a0, %ha0, HS0⟩, HT0, HT1⟩, Ho, ⟨%d0, H0⟩, ⟨%d1, H1⟩, ⟨%d2, H2⟩, ⟨%d3, H3⟩, ⟨%d4, H4⟩⟩
  iapply ((runC m hO c t a0 h he).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs hu _
        obtain rfl : s = t := Fin.ext (Nat.succ.inj hs)
        exact absurd hu h
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    refine Eq.trans ?_ (resC_eq m hO c t a0 h he)
    exact View.read_writes_of_cover _ _ _ _ _ (cover0_C_4 c _ _ _ _ _ _ _ _ _ _ _ _ _ _ _ _ _ _ _ _)

set_option maxHeartbeats 4000000 in
theorem body_D (h : ¬ Used m hO t) (ho : t.val % 2 = 1) :
    bodyPre m hO c t ⊢ wp frame (wpE (defs₀ (F := Bits)) Variants.none c none) Set.univ (bodyAt m hO t) fun _ =>
      bodyPost m hO c t (owns (c : Thread nD τ) (ms_4 m hO t) fullShare (outTile m hO c t)) := by
  unfold bodyPre bodyPost
  simp only [before_0, before_1, before_2, before_3, before_4_D m hO c t _ h ho]
  rewrite [show (dats m hO 0 c).Φ t.succ = Phi m hO c t.succ from rfl, show (dats m hO 0 c).Φ t.castSucc = Phi m hO c t.castSucc from rfl,
    show (dats m hO 0 c).owesAt () t.succ = (dats m hO 0 c).owesAt () t.castSucc from rfl]
  unfold Phi outTile
  rewrite [dif_neg fun hc => h hc.1]
  iintro ⟨⟨⟨%a0, %ha0, HS0⟩, HT0, HT1⟩, Ho, ⟨%d0, H0⟩, ⟨%d1, H1⟩, ⟨%d2, H2⟩, ⟨%d3, H3⟩, ⟨%d4, H4⟩⟩
  iapply ((runD m hO c t a0 h ho).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ hse
        have : s.val = t.val := Nat.succ.inj hs
        omega
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem body_all :
    bodyPre m hO c t ⊢ wp frame (wpE (defs₀ (F := Bits)) Variants.none c none) Set.univ (bodyAt m hO t) fun _ =>
      iprop((dats m hO 0 c).Φ t.succ ∗ (dats m hO 0 c).owesAt () t.succ
        ∗ bigSep Finset.univ fun w : Fin (cfgM m hO).W =>
            match (cfgM m hO).idle w ((cfgM m hO).grid.coords t) with
            | true =>
              match ((cfgM m hO).win w).flush t with
              | false => iprop(∃ d, owns (c : Thread nD τ) (((cfgM m hO).win w).stage ((cfgM m hO).slots t w)) fullShare ((dats m hO 0 c).before w t d))
              | true => owns (c : Thread nD τ) (((cfgM m hO).win w).stage ((cfgM m hO).slots t w)) fullShare ((dats m hO 0 c).after w t)
            | false => owns (c : Thread nD τ) (((cfgM m hO).win w).stage ((cfgM m hO).slots t w)) fullShare ((dats m hO 0 c).after w t)) := by
  rw [bigSep_W0]
  have hp : t.val % 2 = 0 ∨ t.val % 2 = 1 := by omega
  by_cases h : Used m hO t
  · rcases hp with he | ho
    · rewrite [idle_A m hO t h he, flush_even m hO t he]; exact body_A m hO c t h he
    · rewrite [idle_B m hO t h ho]; exact body_B m hO c t h ho
  · rcases hp with he | ho
    · rewrite [idle_C m hO t h he]; exact body_C m hO c t h he
    · rewrite [idle_D m hO t h ho, flush_odd m hO t ho]; exact body_D m hO c t h ho

end

theorem body_obligation (c : Dev nD) : BodyObligation (dats m hO 0 c) (defs₀ (F := Bits)) Variants.none () Set.univ := fun t => by
  rw [bigSep_W0]
  exact body_all m hO c t

/-! ## The launch -/

/-- The staging cells' element at launch. -/
def u₀ : UR sig nD τ :=
  initOf (Pipeline.cells (pcs m hO) ((launch0 (F := Bits)).cellOf_inj fun _ => adm m hO))
    (Pipeline.launchToks (pcs m hO) ((launch0 (F := Bits)).cellOf_inj fun _ => adm m hO))

theorem share_full (c : Dev nD) (w : Fin (cfgM m hO).W) : (dats m hO 0 c).share w = fullShare := by unfold Dat.share; split <;> rfl

theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem phi_first (c : Dev nD) :
    iprop(BI.emp ∗ Pipeline.prefHeld pre0 c (fun _ => fullShare.right) (adm m hO).1 ∗ Pipeline.scopedRest spec0 c) ⊢ (dats m hO 0 c).Φ 0 := by
  rw [tables_held, scopedRest0_eq, show (dats m hO 0 c).Φ 0 = Phi m hO c 0 from rfl]
  unfold Phi
  iintro ⟨-, ⟨HT0, HT1⟩, ⟨%a0, HS0⟩⟩
  isplitl [HS0]
  · iexists a0; isplitr; swap
    · iexact HS0
    · ipureintro; intro s hs; exact absurd hs (Nat.succ_ne_zero _)
  isplitl [HT0]
  · iexact HT0
  iexact HT1

theorem phi_last (c : Dev nD) : (dats m hO 0 c).Φ (Fin.last (cfgM m hO).N) ⊢ iprop(BI.emp ∗ Pipeline.scopedRest spec0 c) := by
  rw [scopedRest0_eq, show (dats m hO 0 c).Φ (Fin.last (cfgM m hO).N) = Phi m hO c (Fin.last _) from rfl]
  unfold Phi
  iintro ⟨⟨%a0, -, HS0⟩, -, -⟩
  isplitr; · iempintro
  iexists a0; iexact HS0

/-- Every array at what the pipeline leaves in it, every table as at launch. -/
def Post : PUnit × MemSt nD τ sig (Elt Bits) → Prop := fun r =>
  ∀ c : Dev nD, (∀ w : Fin (cfgM m hO).W, r.2.mem (((cfgM m hO).win w).arr.view.loc (c : Thread nD τ)) = (dats m hO 0 c).arrAt w (cfgM m hO).N)
    ∧ ∀ j, r.2.mem ((c : Thread nD τ).loc (pre0.ref j)) = (adm m hO).1 j

set_option backward.isDefEq.respectTransparency.types false in
set_option maxHeartbeats 4000000 in
theorem run_main_quiescent : θ_run (defs (F := Bits)) (onTc (τ := τ) (main (F := Bits))) (s₀ m ρ) (fun r => Post m hO r ∧ r.2.sem = fun _ => 0) :=
  Pipeline.θ_run_region_noSem_pf_quiescent pcfgs (fun _ => adm m hO) (dats m hO) () ((launch0 (F := Bits)).cellOf_inj fun _ => adm m hO) (0 : Fin 1)
    (launch0 (F := Bits)).win.to₀ (launch0 (F := Bits)).pre (emb₁ : Emb (UR sig nD τ) 𝕄) defs₀ Variants.none m ρ main
    (hbody := fun c => (body_obligation m hO c).loose) (hne := (launch0 (F := Bits)).block_pos)
    (harr := (launch0 (F := Bits)).arr_whole) (hstage := (launch0 (F := Bits)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := Bits)).win.arr_inj c (launch0 (F := Bits)).arr_whole
      (share_full m hO c) _ _ fun _ => rfl)
    (hpf := tbl_eq m)
    (X := fun _ => iprop(emp)) (Y := fun _ => iprop(emp)) (Z := fun _ => iprop(emp))
    (hX := fun c => by rw [unscopedRestP0_eq]; iintro -; isplitr <;> iempintro)
    (hin := phi_first m hO)
    (hout := phi_last m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem unchanged (r : PUnit × MemSt nD τ sig (Elt Bits)) (h : Post m hO r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 0).trans (tbl_eq m c 0).symm, ((h c).2 1).trans (tbl_eq m c 1).symm,
    ((h c).1 (0 : Fin 5)).trans ((dats m hO 0 c).arrAt_in (0 : Fin 5) rfl _), ((h c).1 (1 : Fin 5)).trans ((dats m hO 0 c).arrAt_in (1 : Fin 5) rfl _),
    ((h c).1 (2 : Fin 5)).trans ((dats m hO 0 c).arrAt_in (2 : Fin 5) rfl _), ((h c).1 (3 : Fin 5)).trans ((dats m hO 0 c).arrAt_in (3 : Fin 5) rfl _)⟩

end Cert.ExpertsBits
-- ==== Proof.ExpertOk.lean ====
/- Tables in range satisfy what the region checks of them: every block the index maps name lies in its array. -/
module

public import proofs.«01_k».proof.Proof.ExpertWords
public import proofs.«01_k».proof.Proof.Gen.Kernel2
public import proofs.«01_k».proof.Proof.Gen.Kernel2Ideal

@[expose] public section

noncomputable section

namespace Cert.Experts

open Idealize.ShloMosaic

/-- The blocks of the rows lie in the array. -/
theorem row_fits {i : ℕ} (hi : i < 80) {n : BitVec 32} (h1 : 1 ≤ n.toNat) (hn : n.toNat < 2 ^ 31) (a : Fin 2) :
    ((![(Scalar.minsi (BitVec.ofNat 32 i) (Scalar.subi n 1#32)).toNat, 0] : Fin 2 → ℕ) a + 1) * (![512, 1152] : Fin 2 → ℕ) a
      ≤ (![40960, 1152] : Fin 2 → ℕ) a := by
  have h := row_word hi h1 hn
  match a with
  | 0 => show ((Scalar.minsi (BitVec.ofNat 32 i) (Scalar.subi n 1#32)).toNat + 1) * 512 ≤ 40960; omega
  | 1 => show (0 + 1) * 1152 ≤ 1152; omega

/-- The blocks of the weights into the hidden features lie in the array. -/
theorem up_fits {e f : ℕ} (he : e < 8) (hf : f < 2) (a : Fin 3) :
    ((![e, 0, f] : Fin 3 → ℕ) a + 1) * (![1, 1024, 1792] : Fin 3 → ℕ) a ≤ (![8, 1024, 3584] : Fin 3 → ℕ) a := by
  match a with
  | 0 => show (e + 1) * 1 ≤ 8; omega
  | 1 => show (0 + 1) * 1024 ≤ 1024; omega
  | 2 => show (f + 1) * 1792 ≤ 3584; omega

/-- The blocks of the weights out of the hidden features lie in the array. -/
theorem down_fits {e f : ℕ} (he : e < 8) (hf : f < 2) (a : Fin 3) :
    ((![e, f, 0] : Fin 3 → ℕ) a + 1) * (![1, 1792, 1024] : Fin 3 → ℕ) a ≤ (![8, 3584, 1024] : Fin 3 → ℕ) a := by
  match a with
  | 0 => show (e + 1) * 1 ≤ 8; omega
  | 1 => show (f + 1) * 1792 ≤ 3584; omega
  | 2 => show (0 + 1) * 1024 ≤ 1024; omega

variable {F : FTy → Type} [FloatOps F]

theorem ok_ideal (pf : Cert.Kernel2Ideal.pre0.Contents (Elt F)) (h : InRange (pf 0) (pf 1)) : Cert.Kernel2Ideal.ok0 pf :=
  ⟨fun i => ⟨row_fits (i 0).isLt (h.one_le _) (h.small _), .inr (Affine.block_words_dvd (of_decide_eq_true rfl) (by decide))⟩,
   fun i => ⟨up_fits (h.expert _) (half_word_lt (i 0).isLt (i 1).isLt (h.small _)), .inr (Affine.block_words_dvd (of_decide_eq_true rfl) (by decide))⟩,
   fun i => ⟨up_fits (h.expert _) (half_word_lt (i 0).isLt (i 1).isLt (h.small _)), .inr (Affine.block_words_dvd (of_decide_eq_true rfl) (by decide))⟩,
   fun i => ⟨down_fits (h.expert _) (half_word_lt (i 0).isLt (i 1).isLt (h.small _)), .inr (Affine.block_words_dvd (of_decide_eq_true rfl) (by decide))⟩⟩

theorem ok_bits (pf : Cert.Kernel2.pre0.Contents (Elt F)) (h : InRange (pf 0) (pf 1)) : Cert.Kernel2.ok0 pf :=
  ⟨fun i => ⟨row_fits (i 0).isLt (h.one_le _) (h.small _), .inr (Affine.block_words_dvd (of_decide_eq_true rfl) (by decide))⟩,
   fun i => ⟨up_fits (h.expert _) (half_word_lt (i 0).isLt (i 1).isLt (h.small _)), .inr (Affine.block_words_dvd (of_decide_eq_true rfl) (by decide))⟩,
   fun i => ⟨up_fits (h.expert _) (half_word_lt (i 0).isLt (i 1).isLt (h.small _)), .inr (Affine.block_words_dvd (of_decide_eq_true rfl) (by decide))⟩,
   fun i => ⟨down_fits (h.expert _) (half_word_lt (i 0).isLt (i 1).isLt (h.small _)), .inr (Affine.block_words_dvd (of_decide_eq_true rfl) (by decide))⟩⟩

end Cert.Experts

end
-- ==== Proof.ExpertTables.lean ====
/- What the expert layer's preconditions say: the tables are in range, and the rows and the weights are real numbers. -/
module

public import proofs.«01_k».proof.Pre_expert_tables
public import proofs.«01_k».proof.Pre_expert_inputs
public import proofs.«01_k».proof.Proof.ExpertWords
public import proofs.«01_k».proof.Proof.Finite

@[expose] public section

noncomputable section

namespace Cert.Experts

open Idealize.ShloMosaic Cert.Attn

/-- The shape relations the tables' precondition states. -/
theorem tables_facts : Cert.Pre_expert_tables.Facts where
  bcast_S_S80 := by decide
  reducesTo_S80_S_d0 := by decide
  h_S_ := by decide
  bcast_S_S1 := by decide
  reducesTo_S1_S_d0 := by decide

/-- The shape relations the inputs' precondition states. -/
theorem inputs_facts : Cert.Pre_expert_inputs.Facts where
  bcast_S_S80 := by decide
  reducesTo_S80_S_d0 := by decide
  h_S_ := by decide
  bcast_S_S1 := by decide
  reducesTo_S1_S_d0 := by decide
  bcast_S_S40960x1152 := by decide
  reducesTo_S40960x1152_S_d0_1 := by decide
  bcast_S_S8x1024x3584 := by decide
  reducesTo_S8x1024x3584_S_d0_1_2 := by decide
  bcast_S_S8x3584x1024 := by decide
  reducesTo_S8x3584x1024_S_d0_1_2 := by decide

variable {F : FTy → Type} [FloatOps F]

theorem inRange_of {T : IVec ⟨1, ![80]⟩ 32} {N : IVec ⟨1, ![1]⟩ 32}
    (hT : ∀ i, IntOp.andi (IntOp.cmpi .sge (T i) 0#32) (IntOp.cmpi .slt (T i) 8#32) = 1#1) (hN : ∀ i, IntOp.cmpi .sge (N i) 1#32 = 1#1) :
    InRange T N where
  expert i := by have h := IntOp.andi_eq_one.1 (hT i); exact expert_word _ h.1 h.2
  one_le i := (used_word _ (hN i)).1
  small i := (used_word _ (hN i)).2

theorem tables_inRange (T : IVec ⟨1, ![80]⟩ 32) (N : IVec ⟨1, ![1]⟩ 32) (x2 : FVec F ⟨2, ![40960, 1152]⟩ .bf16)
    (x3 x4 : FVec F ⟨3, ![8, 1024, 3584]⟩ .bf16) (x5 : FVec F ⟨3, ![8, 3584, 1024]⟩ .bf16) (hf : Cert.Pre_expert_tables.Facts)
    (h : Cert.Pre_expert_tables.fn (F := F) T N x2 x3 x4 x5 = fun _ => 1#1) : InRange T N := by
  have h' := congrFun h (Shape.Idx.first hf.h_S_)
  unfold Cert.Pre_expert_tables.fn at h'
  dsimp only at h'
  change IntOp.andi _ _ = 1#1 at h'
  rw [IntOp.andi_eq_one] at h'
  haveI : Subsingleton (Shape.Idx Cert.Pre_expert_tables.S_) := ⟨fun a b => funext fun i => i.elim0⟩
  exact inRange_of (Host.reduce_andi_all _ _ _ _ _ h'.1) (Host.reduce_andi_all _ _ _ _ _ h'.2)

/-- An array whose magnitudes are all below infinity is of real numbers. -/
theorem allReal_of {s : Shape} (x : FVec Ideal s .bf16)
    (h : ∀ i, FloatOps.cmpf (F := Ideal) (φ := .bf16) .olt (FloatOps.absf (x i)) (Scalar.ofBits .bf16 0x7F80#16) = 1#1) : AllReal x := fun i => by
  have := h i
  pointwise at this
  rw [ofBits_inf_bf16] at this
  exact real_of_abs_lt _ ((WordCmp.ofBool_decide_eq_one_iff _).1 this)

theorem inputs_real (T : IVec ⟨1, ![80]⟩ 32) (N : IVec ⟨1, ![1]⟩ 32) (x2 : FVec Ideal ⟨2, ![40960, 1152]⟩ .bf16)
    (x3 x4 : FVec Ideal ⟨3, ![8, 1024, 3584]⟩ .bf16) (x5 : FVec Ideal ⟨3, ![8, 3584, 1024]⟩ .bf16) (hf : Cert.Pre_expert_inputs.Facts)
    (h : Cert.Pre_expert_inputs.fn (F := Ideal) T N x2 x3 x4 x5 = fun _ => 1#1) :
    InRange T N ∧ AllReal x2 ∧ AllReal x3 ∧ AllReal x4 ∧ AllReal x5 := by
  have h' := congrFun h (Shape.Idx.first hf.h_S_)
  unfold Cert.Pre_expert_inputs.fn at h'
  dsimp only at h'
  unfold Cert.Pre_expert_inputs.fn_part1 at h'
  dsimp only at h'
  change IntOp.andi (IntOp.andi (IntOp.andi (IntOp.andi (IntOp.andi _ _) _) _) _) _ = 1#1 at h'
  rw [IntOp.andi_eq_one, IntOp.andi_eq_one, IntOp.andi_eq_one, IntOp.andi_eq_one, IntOp.andi_eq_one] at h'
  obtain ⟨⟨⟨⟨⟨hT, hN⟩, h2⟩, h3⟩, h4⟩, h5⟩ := h'
  haveI : Subsingleton (Shape.Idx Cert.Pre_expert_inputs.S_) := ⟨fun a b => funext fun i => i.elim0⟩
  exact ⟨inRange_of (Host.reduce_andi_all _ _ _ _ _ hT) (Host.reduce_andi_all _ _ _ _ _ hN), allReal_of _ (Host.reduce_andi_all _ _ _ _ _ h2),
    allReal_of _ (Host.reduce_andi_all _ _ _ _ _ h3), allReal_of _ (Host.reduce_andi_all _ _ _ _ _ h4), allReal_of _ (Host.reduce_andi_all _ _ _ _ _ h5)⟩

end Cert.Experts

end
-- ==== Proof.ExpertClaims.lean ====
/- The expert layer's claims: its programs run and keep their arguments, and at the extended reals the kernel's result is the
   reference's. -/
module

public import proofs.«01_k».proof.Defs
public import proofs.«01_k».proof.Proof.ExpertArray
public import proofs.«01_k».proof.Proof.ExpertFrameBits
public import proofs.«01_k».proof.Proof.ExpertOk
public import proofs.«01_k».proof.Proof.ExpertTables
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Experts

open Idealize.ShloMosaic Idealize.SL.Sem Cert.Attn

theorem kernel_frame : @Cert.quiescent_Kernel2 Cert.Kernel2.Gen.facts tables_facts := by
  intro m g hp
  have hR : InRange (ExpertsBits.T0 m) (ExpertsBits.T1 m) := tables_inRange _ _ _ _ _ _ tables_facts (hp 0)
  exact (θ_run _ _ _).mono (fun r h => ⟨fun c => ExpertsBits.unchanged m (ok_bits _ hR) r h.1 c, h.2⟩)
    (ExpertsBits.run_main_quiescent m g (ok_bits _ hR))

/-- The idealized program's run at any tables in range. -/
theorem ideal_run (m : (ℓ : Loc Cert.Kernel2Ideal.nD Cert.Kernel2Ideal.τ Cert.Kernel2Ideal.sig) → Buf (Elt Ideal) ℓ)
    (g : Dev Cert.Kernel2Ideal.nD → PrngReg) (hR : InRange (T0 m) (T1 m)) :
    θ_run (Cert.Kernel2Ideal.defs (F := Ideal)) (onTc (τ := Cert.Kernel2Ideal.τ) (Cert.Kernel2Ideal.main (F := Ideal))) ⟨m, fun _ => 0, g⟩
      (fun r => Post m (ok_ideal _ hR) r ∧ r.2.sem = fun _ => 0) :=
  run_main_quiescent m g (ok_ideal _ hR)

theorem ideal_frame : @Cert.quiescent_Kernel2Ideal Cert.Kernel2Ideal.Gen.facts tables_facts := by
  intro m g hp
  have hR : InRange (T0 m) (T1 m) := tables_inRange _ _ _ _ _ _ tables_facts (hp 0)
  exact (θ_run _ _ _).mono (fun r h => ⟨fun c => unchanged m (ok_ideal _ hR) r h.1 c, h.2⟩) (ideal_run m g hR)

theorem ideal_frame_inputs : @Cert.quiescent_Kernel2Ideal_pre_expert_inputs Cert.Kernel2Ideal.Gen.facts inputs_facts := by
  intro m g hp
  have hR : InRange (T0 m) (T1 m) := (inputs_real _ _ _ _ _ _ inputs_facts (hp 0)).1
  exact (θ_run _ _ _).mono (fun r h => ⟨fun c => unchanged m (ok_ideal _ hR) r h.1 c, h.2⟩) (ideal_run m g hR)

theorem reference_frame : @Cert.quiescent_Reference2Ideal Cert.Reference2Ideal.Gen.facts := fun m g _ =>
  (θ_run _ _ _).mono (fun r h => ⟨fun c => (h c).2, Idealize.ShloMosaic.sem_eq_zero_of_no_sems (by decide) r.2⟩)
    (Cert.Reference2Ideal.Value.run m g)

theorem same_result : @Cert.algebraic_Kernel2Ideal_Reference2Ideal_pre_expert_inputs Cert.Kernel2Ideal.Gen.facts Cert.Reference2Ideal.Gen.facts
    inputs_facts := by
  intro m g m' g' hp hm
  have hr := fun c => inputs_real _ _ _ _ _ _ inputs_facts (hp c)
  have hR : InRange (T0 m) (T1 m) := (hr 0).1
  refine ⟨fun c => result (T0 m) (T1 m) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5)), ?_, ?_⟩
  · exact (θ_run _ _ _).mono (fun r h c => ⟨((h.1 c).1 (4 : Fin 5)).trans (arrAt_eq m _ c hR
      ⟨(hr c).2.1, (hr c).2.2.1, (hr c).2.2.2.1, (hr c).2.2.2.2⟩), unchanged m (ok_ideal _ hR) r h.1 c⟩) (ideal_run m g hR)
  · refine (θ_run _ _ _).mono (fun r h c => ⟨(h c).1.trans ?_, (h c).2⟩) (Cert.Reference2Ideal.Value.run m' g')
    rw [Cert.Reference2Ideal.Read.val_main_v49_eq, (hm c).1, (hm c).2.1, (hm c).2.2.1, (hm c).2.2.2.1, (hm c).2.2.2.2.1, (hm c).2.2.2.2.2]
    exact congrArg₂ (fun T N => result T N (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))) (tbl_eq m c 0) (tbl_eq m c 1)

end Cert.Experts

end
-- ==== Proof.DenseRow.lean ====
/- The dense layer's mathematics for one row, over the extended reals. -/
module

public import proofs.«01_k».proof.Proof.Real

@[expose] public section

noncomputable section

namespace Cert.Dense

open Idealize.ShloMosaic

/-- The arrays of matrices, and the stack of the modulations, as functions of their positions. -/
abbrev Mat (R C : ℕ) : Type := (⟨2, ![R, C]⟩ : Shape).Idx → EReal
abbrev Stack (A R C : ℕ) : Type := (⟨3, ![A, R, C]⟩ : Shape).Idx → EReal

/-- Row `r` of the context's 2048 rows with the latent rows after them. -/
def rowOf {C : ℕ} (ctx : Mat 2048 C) (lat : Mat 16384 C) (r : Fin 18432) (d : Fin C) : EReal :=
  if h : r.val < 2048 then ctx (ix2 ⟨r.val, h⟩ d) else lat (ix2 ⟨r.val - 2048, by omega⟩ d)

theorem rowOf_ctx {C : ℕ} (ctx : Mat 2048 C) (lat : Mat 16384 C) (r : Fin 18432) (d : Fin C) (i : (⟨2, ![2048, C]⟩ : Shape).Idx)
    (h0 : (i 0).val = r.val) (h1 : (i 1).val = d.val) : ctx i = rowOf ctx lat r d := by
  have hr : r.val < 2048 := h0 ▸ (i 0).isLt
  rw [rowOf, dif_pos hr]
  refine congrArg ctx (funext fun a => Fin.ext ?_)
  match a with
  | ⟨0, _⟩ => exact h0
  | ⟨1, _⟩ => exact h1

theorem rowOf_lat {C : ℕ} (ctx : Mat 2048 C) (lat : Mat 16384 C) (r : Fin 18432) (d : Fin C) (i : (⟨2, ![16384, C]⟩ : Shape).Idx)
    (h0 : (i 0).val + 2048 = r.val) (h1 : (i 1).val = d.val) : lat i = rowOf ctx lat r d := by
  have hr : ¬ r.val < 2048 := by omega
  rw [rowOf, dif_neg hr]
  refine congrArg lat (funext fun a => Fin.ext ?_)
  match a with
  | ⟨0, _⟩ => show (i 0).val = r.val - 2048; omega
  | ⟨1, _⟩ => exact h1

/-- A row after the mixer: the input plus the modulated product of the two mixers' rows with the output weights. -/
def mixed (x : Fin 1024 → EReal) (a b : Fin 512 → EReal) (w : Mat 1024 1024) (s : Fin 1024 → EReal) (j : Fin 1024) : EReal :=
  x j + s j * (∑ d : Fin 512, a d * w (ix2 (Fin.castAdd 512 d) j) + ∑ d : Fin 512, b d * w (ix2 (Fin.natAdd 512 d) j))

/-- A row divided by its root mean square, with gains, scale and shift. -/
def normed (x g s t : Fin 1024 → EReal) (j : Fin 1024) : EReal :=
  x j * Ideal.rsqrt (Ideal.div (∑ y, x y * x y) (Ideal.ofBits .f32 0x44800000#32) + Ideal.ofBits .f32 0x358637BD#32) * g j
    * (Ideal.ofBits .f32 0x3F800000#32 + s j) + t j

/-- One hidden feature of a row. -/
def feature (h p q : Fin 1024 → EReal) : EReal := (∑ d, h d * p d) * Ideal.logistic (∑ d, h d * p d) * ∑ d, h d * q d

variable (x0 x2 : Mat 16384 512) (x1 x3 : Mat 2048 512) (x4 : Mat 1024 1024) (x5 : Mat 2048 1024) (x6 : Mat 16384 1024)
  (x7 : Stack 9 6 1024) (x8 : Mat 1 1024) (x9 x10 : Mat 1024 2816) (x11 : Mat 2816 1024)

/-- Row `r`'s modulation of kind `k`: the context's for its 2048 rows, then one for each 2048 latent rows. -/
def modOf (r : Fin 18432) (k : Fin 6) (j : Fin 1024) : EReal := x7 (ix3 ⟨r.val / 2048, by omega⟩ k j)

theorem modOf_eq (r : Fin 18432) (k : Fin 6) (j : Fin 1024) (i : (⟨3, ![9, 6, 1024]⟩ : Shape).Idx)
    (h0 : (i 0).val = r.val / 2048) (h1 : (i 1).val = k.val) (h2 : (i 2).val = j.val) : x7 i = modOf x7 r k j := by
  refine congrArg x7 (funext fun a => Fin.ext ?_)
  match a with
  | ⟨0, _⟩ => exact h0
  | ⟨1, _⟩ => exact h1
  | ⟨2, _⟩ => exact h2

def stateOf (r : Fin 18432) : Fin 1024 → EReal := mixed (rowOf x5 x6 r) (rowOf x1 x0 r) (rowOf x3 x2 r) x4 (modOf x7 r 2)

def inputOf (r : Fin 18432) : Fin 1024 → EReal :=
  normed (stateOf x0 x2 x1 x3 x4 x5 x6 x7 r) (fun j => x8 (ix2 0 j)) (modOf x7 r 4) (modOf x7 r 3)

def featureOf (r : Fin 18432) (f : Fin 2816) : EReal :=
  feature (inputOf x0 x2 x1 x3 x4 x5 x6 x7 x8 r) (fun d => x9 (ix2 d f)) (fun d => x10 (ix2 d f))

/-- Row `r` of the layer's result. -/
def rowResult (r : Fin 18432) (j : Fin 1024) : EReal :=
  stateOf x0 x2 x1 x3 x4 x5 x6 x7 r j + modOf x7 r 5 j * ∑ f, featureOf x0 x2 x1 x3 x4 x5 x6 x7 x8 x9 x10 r f * x11 (ix2 f j)

end Cert.Dense

end
-- ==== Proof.DenseTile.lean ====
/- What the dense layer's kernel computes of a tile, entry by entry over the extended reals. -/
module

public import proofs.«01_k».proof.Proof.Gen.Kernel3Ideal.Skeleton
public import proofs.«01_k».proof.Proof.DenseRow

@[expose] public section

set_option maxRecDepth 16384

noncomputable section

namespace Cert.Dense

open Cert.Kernel3Ideal Cert.Kernel3Ideal.Gen Idealize.ShloMosaic Idealize.ShloMosaic.TcCoe Idealize.SL.Sem

/-- The tile after the mixer, from the blocks chosen. -/
def mixTile (a b : FVec Ideal S512x512 .bf16) (x : FVec Ideal S512x1024 .f32) (wt wb : FVec Ideal S512x1024 .bf16) (s : FVec Ideal S1x1x1024 .f32) :
    FVec Ideal S512x1024 .f32 := k0_pay5 0#32 a a b b x x wt wb s

theorem mixTile_apply (a b : FVec Ideal S512x512 .bf16) (x : FVec Ideal S512x1024 .f32) (wt wb : FVec Ideal S512x1024 .bf16)
    (s : FVec Ideal S1x1x1024 .f32) (i : Fin 512) (j : Fin 1024) :
    mixTile a b x wt wb s (ix2 i j) = x (ix2 i j) + s (ix3 0 0 j) * (∑ d : Fin 512, a (ix2 i d) * wt (ix2 d j) + ∑ d : Fin 512, b (ix2 i d) * wb (ix2 d j)) := by
  pointwise [mixTile, k0_pay5]

theorem slt_four (n : Fin 36) : Scalar.cmpi .slt (BitVec.ofNat 32 n) 4#32 = if n.val < 4 then 1#1 else 0#1 := by
  revert n; decide +kernel

/-- The tiles below the fourth take the context's blocks, the others the latent ones. -/
theorem pay5_eq (n : Fin 36) (a1 a0 b1 b0 : FVec Ideal S512x512 .bf16) (x1 x0 : FVec Ideal S512x1024 .f32) (wt wb : FVec Ideal S512x1024 .bf16)
    (s : FVec Ideal S1x1x1024 .f32) : k0_pay5 (BitVec.ofNat 32 n) a1 a0 b1 b0 x1 x0 wt wb s
      = mixTile (if n.val < 4 then a1 else a0) (if n.val < 4 then b1 else b0) (if n.val < 4 then x1 else x0) wt wb s := by
  unfold mixTile k0_pay5
  dsimp only
  rw [slt_four n]
  split
  · rfl
  · rfl

theorem pay6_eq (w : BitVec 32) (a1 a0 b1 b0 : FVec Ideal S512x512 .bf16) (x1 x0 : FVec Ideal S512x1024 .f32) (wt wb : FVec Ideal S512x1024 .bf16)
    (s : FVec Ideal S1x1x1024 .f32) (i : Fin 512) (j : Fin 1024) :
    k0_pay6 (F := Ideal) w a1 a0 b1 b0 x1 x0 wt wb s (ix2 i j) = k0_pay5 (F := Ideal) w a1 a0 b1 b0 x1 x0 wt wb s (ix2 i j) := by
  unfold k0_pay6
  generalize k0_pay5 (F := Ideal) w a1 a0 b1 b0 x1 x0 wt wb s = y
  pointwise []

theorem pay7_apply (w : BitVec 32) (a1 a0 b1 b0 : FVec Ideal S512x512 .bf16) (x1 x0 : FVec Ideal S512x1024 .f32) (wt wb : FVec Ideal S512x1024 .bf16)
    (s : FVec Ideal S1x1x1024 .f32) (i : Fin 512) (j : Fin 1024) :
    k0_pay7 (F := Ideal) w a1 a0 b1 b0 x1 x0 wt wb s (ix2 i j)
      = Ideal.rsqrt (Ideal.div (∑ y : Fin 1024, k0_pay5 (F := Ideal) w a1 a0 b1 b0 x1 x0 wt wb s (ix2 i y) * k0_pay5 (F := Ideal) w a1 a0 b1 b0 x1 x0 wt wb s (ix2 i y))
          (Ideal.ofBits .f32 0x44800000#32) + Ideal.ofBits .f32 0x358637BD#32) := by
  unfold k0_pay7
  generalize k0_pay5 (F := Ideal) w a1 a0 b1 b0 x1 x0 wt wb s = y
  pointwise []

theorem pay1_apply (x v : FVec Ideal S512x1024 .f32) (g : FVec Ideal S1x1024 .f32) (s t : FVec Ideal S1x1x1024 .f32) (i : Fin 512) (j : Fin 1024) :
    k0_pay1 x v g s t (ix2 i j) = x (ix2 i j) * v (ix2 i j) * g (ix2 0 j) * (Ideal.ofBits .f32 0x3F800000#32 + s (ix3 0 0 j)) + t (ix3 0 0 j) := by
  pointwise [k0_pay1]

theorem pay2_apply (i : Fin 512) (j : Fin 1024) : k0_pay2 (F := Ideal) (ix2 i j) = 0 := by
  pointwise [k0_pay2]

theorem pay3_apply (h : FVec Ideal S512x1024 .bf16) (p q : FVec Ideal S1024x1408 .bf16) (a : FVec Ideal S512x1024 .f32) (w : FVec Ideal S1408x1024 .bf16)
    (i : Fin 512) (j : Fin 1024) : k0_pay3 h p q a w (ix2 i j) = a (ix2 i j)
      + ∑ f : Fin 1408, feature (fun d => h (ix2 i d)) (fun d => p (ix2 d f)) (fun d => q (ix2 d f)) * w (ix2 f j) := by
  pointwise [k0_pay3, feature]

theorem pay4_apply (x a : FVec Ideal S512x1024 .f32) (s : FVec Ideal S1x1x1024 .f32) (i : Fin 512) (j : Fin 1024) :
    k0_pay4 x s a (ix2 i j) = x (ix2 i j) + s (ix3 0 0 j) * a (ix2 i j) := by
  pointwise [k0_pay4]

end Cert.Dense

end
-- ==== Proof.DenseValue.lean ====
/- What the run leaves in the dense layer's buffers: the tile after the mixer, its normalized rows, the sum over the hidden features and the tile that
   it writes. -/
module

public import proofs.«01_k».proof.Proof.Gen.Kernel3Ideal.Frame
public import proofs.«01_k».proof.Proof.DenseTile
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Dense

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- The rows of kind `k` in a block of the modulations. -/
abbrev kind (X : Vec Ideal S1x6x1024 .f32) (k : ℕ) (h : ∀ a, (![0, k, 0] : Fin S1x6x1024.rank → ℕ) a + S1x1x1024.size a ≤ S1x6x1024.size a) :
    Vec Ideal S1x1x1024 .f32 := View.ld X (Rect.unit ![0, k, 0] S1x1x1024.size h)

abbrev topRows (X : Vec Ideal S1024x1024 .bf16) : Vec Ideal S512x1024 .bf16 := View.ld X (Rect.unit ![0, 0] S512x1024.size inb_S1024x1024_S512x1024_0_0)
abbrev lowRows (X : Vec Ideal S1024x1024 .bf16) : Vec Ideal S512x1024 .bf16 := View.ld X (Rect.unit ![512, 0] S512x1024.size inb_S1024x1024_S512x1024_512_0)

/-- Point `t`'s number of its tile of rows. -/
abbrev tileNo : Fin 36 := ⟨t.val / 2, by have : t.val < 72 := t.isLt; omega⟩

/-- The tile after the mixer, as point `t` computes it. -/
def stateTile : FVec Ideal S512x1024 .f32 :=
  k0_pay5 (BitVec.ofNat 32 (grid0.coords t 0)) (iblk m c 1 t) (iblk m c 0 t) (iblk m c 3 t) (iblk m c 2 t) (iblk m c 5 t) (iblk m c 6 t)
    (topRows (iblk m c 4 t)) (lowRows (iblk m c 4 t)) (kind (iblk m c 7 t) 2 inb_S1x6x1024_S1x1x1024_0_2_0)

/-- Its rows, normalized. -/
def inputTile : FVec Ideal S512x1024 .bf16 :=
  k0_pay1 (stateTile m c t) (k0_pay7 (BitVec.ofNat 32 (grid0.coords t 0)) (iblk m c 1 t) (iblk m c 0 t) (iblk m c 3 t) (iblk m c 2 t) (iblk m c 5 t) (iblk m c 6 t)
    (topRows (iblk m c 4 t)) (lowRows (iblk m c 4 t)) (kind (iblk m c 7 t) 2 inb_S1x6x1024_S1x1x1024_0_2_0)) (iblk m c 8 t)
    (kind (iblk m c 7 t) 4 inb_S1x6x1024_S1x1x1024_0_4_0) (kind (iblk m c 7 t) 3 inb_S1x6x1024_S1x1x1024_0_3_0)

theorem coords_0 : ∀ t : Fin grid0.N, (grid0.coords t 0).val = t.val / 2 := by
  decide +kernel

theorem even_state (h0 : t.val % 2 = 0) (i : Fin 512) (j : Fin 1024) :
    (outsAt0 m c t.val t.isLt).2.1 (ix2 i j) = stateTile m c t (ix2 i j) := by
  rw [outsAt0_A m c t h0 (by omega)]
  dsimp only
  unfold sout0_A_0 stateTile
  rw [View.read_writes_junk_eq_canon]
  unfold kernelRun0_A
  dsimp only
  sl_unfold_words
  simp (disch := decide +kernel) only [↓View.readCov_skip, ↓View.readCov_cons_toLoadRect, View.readAt_eq_ld, Memref.IsWhole.read_unread, View.ld_unit_lit']
  exact (congrFun (View.canon_cons_unit_lit' _ _ _ (by decide)) _).trans (pay6_eq _ _ _ _ _ _ _ _ _ _ i j)

theorem even_input (h0 : t.val % 2 = 0) : (outsAt0 m c t.val t.isLt).2.2.1 = inputTile m c t := by
  rw [outsAt0_A m c t h0 (by omega)]
  dsimp only
  unfold sout0_A_1
  rw [View.read_writes_junk_eq_canon]
  unfold kernelRun0_A
  dsimp only
  sl_unfold_words
  simp (disch := decide +kernel) only [↓View.readCov_skip, ↓View.readCov_cons_toLoadRect, View.readAt_eq_ld, Memref.IsWhole.read_unread, View.ld_unit_lit']
  refine (View.canon_cons_unit_lit' _ _ _ (by decide)).trans ?_
  unfold inputTile stateTile
  rfl

theorem even_sum (h0 : t.val % 2 = 0) : (outsAt0 m c t.val t.isLt).2.2.2
    = k0_pay3 (F := Ideal) (inputTile m c t) (iblk m c 9 t) (iblk m c 10 t) (k0_pay2 (F := Ideal)) (iblk m c 11 t) := by
  rw [outsAt0_A m c t h0 (by omega)]
  dsimp only
  unfold sout0_A_2
  rw [View.read_writes_junk_eq_canon]
  unfold kernelRun0_A
  dsimp only
  sl_unfold_words
  simp (disch := decide +kernel) only [↓View.readCov_skip, ↓View.readCov_cons_toLoadRect, View.readAt_eq_ld, Memref.IsWhole.read_unread, View.ld_unit_lit']
  refine (View.canon_cons_unit_lit' _ _ _ (by decide)).trans ?_
  unfold inputTile stateTile
  rfl

/-- The tile that an odd point writes, over what the point before left. -/
theorem odd_result (h1 : t.val % 2 = 1) : (dats m 0 c).flushed 12 t = (cfg0.win 12).cut (grid0.coords t)
    (k0_pay4 (F := Ideal) (outsAt0 m c (t.val - 1) (Nat.lt_of_le_of_lt (Nat.sub_le _ _) t.isLt)).2.1
      (kind (iblk m c 7 t) 5 inb_S1x6x1024_S1x1x1024_0_5_0)
      (k0_pay3 (F := Ideal) (outsAt0 m c (t.val - 1) (Nat.lt_of_le_of_lt (Nat.sub_le _ _) t.isLt)).2.2.1 (iblk m c 9 t) (iblk m c 10 t)
        (outsAt0 m c (t.val - 1) (Nat.lt_of_le_of_lt (Nat.sub_le _ _) t.isLt)).2.2.2 (iblk m c 11 t))) := by
  show (cfg0.win 12).cut (grid0.coords t) ((dats m 0 c).after 12 t) = _
  rw [after0_12, outsAt0_B m c t (by omega) h1]
  dsimp only
  refine congrArg _ ?_
  generalize (outsAt0 m c (t.val - 1) (Nat.lt_of_le_of_lt (Nat.sub_le _ _) t.isLt)) = s
  unfold out0_B_12
  rw [View.read_writes_junk_eq_canon]
  unfold kernelRun0_B
  dsimp only
  sl_unfold_words
  simp (disch := decide +kernel) only [↓View.readCov_skip, ↓View.readCov_cons_toLoadRect, View.readAt_eq_ld, Memref.IsWhole.read_unread, View.ld_unit_lit']
  refine (View.canon_cons_unit_lit' _ _ _ (by decide)).trans ?_
  exact congrArg₂ (fun x h => k0_pay4 (F := Ideal) x (kind (iblk m c 7 t) 5 inb_S1x6x1024_S1x1x1024_0_5_0) h)
    ((Memref.isWhole_whole cc0_scratch0).read_unread s.2.1)
    (congrArg₂ (fun h a => k0_pay3 (F := Ideal) h (iblk m c 9 t) (iblk m c 10 t) a (iblk m c 11 t))
      ((Memref.isWhole_whole cc0_scratch1).read_unread s.2.2.1) ((Memref.isWhole_whole cc0_scratch2).read_unread s.2.2.2))

/-! ## The blocks a point reads -/

theorem index_at : ∀ t : Fin grid0.N, (win0_0.index t = ![t.val / 2 - 4, 0] ∧ win0_1.index t = ![min (t.val / 2) 3, 0]
    ∧ win0_2.index t = ![t.val / 2 - 4, 0] ∧ win0_3.index t = ![min (t.val / 2) 3, 0] ∧ win0_4.index t = ![0, 0]
    ∧ win0_5.index t = ![min (t.val / 2) 3, 0] ∧ win0_6.index t = ![t.val / 2 - 4, 0] ∧ win0_7.index t = ![t.val / 2 / 4, 0, 0]
    ∧ win0_8.index t = ![0, 0] ∧ win0_9.index t = ![0, t.val % 2] ∧ win0_10.index t = ![0, t.val % 2] ∧ win0_11.index t = ![t.val % 2, 0]
    ∧ win0_12.index t = ![t.val / 2, 0]) := by
  decide +kernel

/-- The row of the whole array that point `t`'s row `i` is. -/
abbrev rowNo (i : Fin 512) : Fin 18432 := ⟨512 * (t.val / 2) + i, by have : t.val < 72 := t.isLt; omega⟩

theorem a_at (i : Fin 512) (d : Fin 512) :
    ((if (tileNo t).val < 4 then iblk m c 1 t else iblk m c 0 t : S512x512.Idx → EReal) (ix2 i d))
      = rowOf (m ((c : Thread nD τ).loc main_arg1)) (m ((c : Thread nD τ).loc main_arg0)) (rowNo t i) d := by
  have h : (tileNo t).val = t.val / 2 := rfl
  have hr : (rowNo t i).val = 512 * (t.val / 2) + i := rfl
  split
  · have ht := (index_at t).2.1
    refine Eq.trans ?_ (rowOf_ctx _ _ (rowNo t i) d (((cfg0.win 1).blk t).view.emb (ix2 i d)) ?_ ?_)
    · rfl
    · blk_simp [ht]
      omega
    · blk_simp [ht]
  · have ht := (index_at t).1
    refine Eq.trans ?_ (rowOf_lat _ _ (rowNo t i) d (((cfg0.win 0).blk t).view.emb (ix2 i d)) ?_ ?_)
    · rfl
    · blk_simp [ht]
      omega
    · blk_simp [ht]

theorem b_at (i : Fin 512) (d : Fin 512) :
    ((if (tileNo t).val < 4 then iblk m c 3 t else iblk m c 2 t : S512x512.Idx → EReal) (ix2 i d))
      = rowOf (m ((c : Thread nD τ).loc main_arg3)) (m ((c : Thread nD τ).loc main_arg2)) (rowNo t i) d := by
  have h : (tileNo t).val = t.val / 2 := rfl
  have hr : (rowNo t i).val = 512 * (t.val / 2) + i := rfl
  split
  · have ht := (index_at t).2.2.2.1
    refine Eq.trans ?_ (rowOf_ctx _ _ (rowNo t i) d (((cfg0.win 3).blk t).view.emb (ix2 i d)) ?_ ?_)
    · rfl
    · blk_simp [ht]
      omega
    · blk_simp [ht]
  · have ht := (index_at t).2.2.1
    refine Eq.trans ?_ (rowOf_lat _ _ (rowNo t i) d (((cfg0.win 2).blk t).view.emb (ix2 i d)) ?_ ?_)
    · rfl
    · blk_simp [ht]
      omega
    · blk_simp [ht]

theorem x_at (i : Fin 512) (j : Fin 1024) :
    ((if (tileNo t).val < 4 then iblk m c 5 t else iblk m c 6 t : S512x1024.Idx → EReal) (ix2 i j))
      = rowOf (m ((c : Thread nD τ).loc main_arg5)) (m ((c : Thread nD τ).loc main_arg6)) (rowNo t i) j := by
  have h : (tileNo t).val = t.val / 2 := rfl
  have hr : (rowNo t i).val = 512 * (t.val / 2) + i := rfl
  split
  · have ht := (index_at t).2.2.2.2.2.1
    refine Eq.trans ?_ (rowOf_ctx _ _ (rowNo t i) j (((cfg0.win 5).blk t).view.emb (ix2 i j)) ?_ ?_)
    · rfl
    · blk_simp [ht]
      omega
    · blk_simp [ht]
  · have ht := (index_at t).2.2.2.2.2.2.1
    refine Eq.trans ?_ (rowOf_lat _ _ (rowNo t i) j (((cfg0.win 6).blk t).view.emb (ix2 i j)) ?_ ?_)
    · rfl
    · blk_simp [ht]
      omega
    · blk_simp [ht]

theorem top_at (d : Fin 512) (j : Fin 1024) : (topRows (iblk m c 4 t) (ix2 d j) : EReal) = m ((c : Thread nD τ).loc main_arg4) (ix2 (Fin.castAdd 512 d) j) := by
  have ht := (index_at t).2.2.2.2.1
  refine Eq.trans (b := m ((c : Thread nD τ).loc main_arg4)
    (((cfg0.win 4).blk t).view.emb ((Rect.unit (s := S1024x1024) ![0, 0] S512x1024.size inb_S1024x1024_S512x1024_0_0).emb (ix2 d j)))) rfl (congrArg _ ?_)
  funext a; apply Fin.ext
  match a with
  | ⟨0, _⟩ => blk_simp [ht]; rfl
  | ⟨1, _⟩ => blk_simp [ht]

theorem low_at (d : Fin 512) (j : Fin 1024) : (lowRows (iblk m c 4 t) (ix2 d j) : EReal) = m ((c : Thread nD τ).loc main_arg4) (ix2 (Fin.natAdd 512 d) j) := by
  have ht := (index_at t).2.2.2.2.1
  refine Eq.trans (b := m ((c : Thread nD τ).loc main_arg4)
    (((cfg0.win 4).blk t).view.emb ((Rect.unit (s := S1024x1024) ![512, 0] S512x1024.size inb_S1024x1024_S512x1024_512_0).emb (ix2 d j)))) rfl (congrArg _ ?_)
  funext a; apply Fin.ext
  match a with
  | ⟨0, _⟩ => blk_simp [ht]; rfl
  | ⟨1, _⟩ => blk_simp [ht]

theorem kind_at (k : Fin 6) (h) (i : Fin 512) (j : Fin 1024) :
    (kind (iblk m c 7 t) k h (ix3 0 0 j) : EReal) = modOf (m ((c : Thread nD τ).loc main_arg7)) (rowNo t i) k j := by
  have hr : (rowNo t i).val = 512 * (t.val / 2) + i := rfl
  have ht := (index_at t).2.2.2.2.2.2.2.1
  refine Eq.trans ?_ (modOf_eq _ (rowNo t i) k j (((cfg0.win 7).blk t).view.emb ((Rect.unit (s := S1x6x1024) ![0, k.val, 0] S1x1x1024.size h).emb (ix3 0 0 j))) ?_ ?_ ?_)
  · rfl
  · blk_simp [ht]
    omega
  · blk_simp [ht]
    rfl
  · blk_simp [ht]

theorem gains_at (j : Fin 1024) : (iblk m c 8 t : S1x1024.Idx → EReal) (ix2 0 j) = m ((c : Thread nD τ).loc main_arg8) (ix2 0 j) := by
  have ht := (index_at t).2.2.2.2.2.2.2.2.1
  refine Eq.trans (b := m ((c : Thread nD τ).loc main_arg8) (((cfg0.win 8).blk t).view.emb (ix2 0 j))) rfl (congrArg _ ?_)
  funext a; apply Fin.ext
  match a with
  | ⟨0, _⟩ => blk_simp [ht]
  | ⟨1, _⟩ => blk_simp [ht]

/-- The hidden feature of the whole layer that point `t`'s feature `f` is. -/
abbrev featNo (f : Fin 1408) : Fin 2816 := ⟨1408 * (t.val % 2) + f, by omega⟩

theorem up_at (d : Fin 1024) (f : Fin 1408) :
    (iblk m c 9 t : S1024x1408.Idx → EReal) (ix2 d f) = m ((c : Thread nD τ).loc main_arg9) (ix2 d (featNo t f)) := by
  have hf : (featNo t f).val = 1408 * (t.val % 2) + f := rfl
  have ht := (index_at t).2.2.2.2.2.2.2.2.2.1
  refine Eq.trans (b := m ((c : Thread nD τ).loc main_arg9) (((cfg0.win 9).blk t).view.emb (ix2 d f))) rfl (congrArg _ ?_)
  funext a; apply Fin.ext
  match a with
  | ⟨0, _⟩ => blk_simp [ht]
  | ⟨1, _⟩ => blk_simp [ht]; omega

theorem gate_at (d : Fin 1024) (f : Fin 1408) :
    (iblk m c 10 t : S1024x1408.Idx → EReal) (ix2 d f) = m ((c : Thread nD τ).loc main_arg10) (ix2 d (featNo t f)) := by
  have hf : (featNo t f).val = 1408 * (t.val % 2) + f := rfl
  have ht := (index_at t).2.2.2.2.2.2.2.2.2.2.1
  refine Eq.trans (b := m ((c : Thread nD τ).loc main_arg10) (((cfg0.win 10).blk t).view.emb (ix2 d f))) rfl (congrArg _ ?_)
  funext a; apply Fin.ext
  match a with
  | ⟨0, _⟩ => blk_simp [ht]
  | ⟨1, _⟩ => blk_simp [ht]; omega

theorem down_at (f : Fin 1408) (j : Fin 1024) :
    (iblk m c 11 t : S1408x1024.Idx → EReal) (ix2 f j) = m ((c : Thread nD τ).loc main_arg11) (ix2 (featNo t f) j) := by
  have hf : (featNo t f).val = 1408 * (t.val % 2) + f := rfl
  have ht := (index_at t).2.2.2.2.2.2.2.2.2.2.2.1
  refine Eq.trans (b := m ((c : Thread nD τ).loc main_arg11) (((cfg0.win 11).blk t).view.emb (ix2 f j))) rfl (congrArg _ ?_)
  funext a; apply Fin.ext
  match a with
  | ⟨0, _⟩ => blk_simp [ht]; omega
  | ⟨1, _⟩ => blk_simp [ht]

/-! ## The tiles' values -/

/-- The rows of the layer's arrays at launch. -/
abbrev stateM : Fin 18432 → Fin 1024 → EReal :=
  stateOf (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7))

abbrev inputM : Fin 18432 → Fin 1024 → EReal :=
  inputOf (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

abbrev featureM : Fin 18432 → Fin 2816 → EReal :=
  featureOf (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem stateTile_at (i : Fin 512) (j : Fin 1024) : (stateTile m c t (ix2 i j) : EReal) = stateM m c (rowNo t i) j := by
  have e : grid0.coords t 0 = tileNo t := Fin.ext (coords_0 t)
  unfold stateTile
  rw [e, pay5_eq (tileNo t)]
  refine (mixTile_apply _ _ _ _ _ _ i j).trans ?_
  unfold stateM stateOf mixed
  refine congrArg₂ (fun a b : EReal => a + b) (x_at m c t i j) (congrArg₂ (fun a b : EReal => a * b) (kind_at m c t 2 _ i j)
    (congrArg₂ (fun a b : EReal => a + b) (Finset.sum_congr rfl fun d _ => ?_) (Finset.sum_congr rfl fun d _ => ?_)))
  · exact congrArg₂ (fun a b : EReal => a * b) (a_at m c t i d) (top_at m c t d j)
  · exact congrArg₂ (fun a b : EReal => a * b) (b_at m c t i d) (low_at m c t d j)

theorem inputTile_at (i : Fin 512) (j : Fin 1024) : (inputTile m c t (ix2 i j) : EReal) = inputM m c (rowNo t i) j := by
  have hs := fun y => stateTile_at m c t i y
  unfold inputTile
  refine (pay1_apply _ _ _ _ _ i j).trans ?_
  rw [pay7_apply]
  unfold stateTile at hs ⊢
  unfold inputM inputOf normed
  simp only [hs, gains_at m c t j]
  refine congrArg₂ (fun a b : EReal => a + b) (congrArg₂ (fun a b : EReal => a * b) ?_ (congrArg (fun a : EReal => _ + a) (kind_at m c t 4 _ i j)))
    (kind_at m c t 3 _ i j)
  rfl

/-- The part in row `r`'s sum of the hidden features that point `t`'s block holds. -/
def part (r : Fin 18432) (j : Fin 1024) : EReal :=
  ∑ f : Fin 1408, featureM m c r (featNo t f) * m ((c : Thread nD τ).loc main_arg11) (ix2 (featNo t f) j)

theorem sum_at (h : FVec Ideal S512x1024 .bf16) (a : FVec Ideal S512x1024 .f32) (i : Fin 512) (j : Fin 1024)
    (hh : ∀ d, (h (ix2 i d) : EReal) = inputM m c (rowNo t i) d) :
    (k0_pay3 (F := Ideal) h (iblk m c 9 t) (iblk m c 10 t) a (iblk m c 11 t) (ix2 i j) : EReal) = a (ix2 i j) + part m c t (rowNo t i) j := by
  refine (pay3_apply h _ _ a _ i j).trans (congrArg (fun z : EReal => a (ix2 i j) + z) (Finset.sum_congr rfl fun f _ => ?_))
  refine congrArg₂ (fun a b : EReal => a * b) ?_ (down_at m c t f j)
  have e1 : (fun d => h (ix2 i d) : Fin 1024 → EReal) = inputM m c (rowNo t i) := funext hh
  have e2 : (fun d => (iblk m c 9 t : S1024x1408.Idx → EReal) (ix2 d f)) = fun d => m ((c : Thread nD τ).loc main_arg9) (ix2 d (featNo t f)) :=
    funext fun d => up_at m c t d f
  have e3 : (fun d => (iblk m c 10 t : S1024x1408.Idx → EReal) (ix2 d f)) = fun d => m ((c : Thread nD τ).loc main_arg10) (ix2 d (featNo t f)) :=
    funext fun d => gate_at m c t d f
  exact (congrFun (congrArg₂ feature e1 e2) _).trans (congrArg (feature _ _) e3)

/-- The two blocks' parts make up the sum over all the hidden features. -/
theorem parts (s : Fin cfg0.N) (hs : s.val % 2 = 0) (ht : t.val % 2 = 1) (r : Fin 18432) (j : Fin 1024) :
    part m c s r j + part m c t r j = ∑ f : Fin 2816, featureM m c r f * m ((c : Thread nD τ).loc main_arg11) (ix2 f j) := by
  rw [Fin.sum_univ_add (a := 1408) (b := 1408), part, part]
  have el : ∀ f, featNo s f = Fin.castAdd 1408 f := fun f => Fin.ext (by show 1408 * (s.val % 2) + f.val = f.val; omega)
  have er : ∀ f, featNo t f = Fin.natAdd 1408 f := fun f => Fin.ext (by show 1408 * (t.val % 2) + f.val = 1408 + f.val; omega)
  simp only [el, er]

/-- Row `r` of the layer's result, of the arrays at launch. -/
abbrev resultM : Fin 18432 → Fin 1024 → EReal :=
  rowResult (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem odd_at (h1 : t.val % 2 = 1) (i : Fin 512) (j : Fin 1024) :
    (k0_pay4 (F := Ideal) (outsAt0 m c (t.val - 1) (Nat.lt_of_le_of_lt (Nat.sub_le _ _) t.isLt)).2.1
      (kind (iblk m c 7 t) 5 inb_S1x6x1024_S1x1x1024_0_5_0)
      (k0_pay3 (F := Ideal) (outsAt0 m c (t.val - 1) (Nat.lt_of_le_of_lt (Nat.sub_le _ _) t.isLt)).2.2.1 (iblk m c 9 t) (iblk m c 10 t)
        (outsAt0 m c (t.val - 1) (Nat.lt_of_le_of_lt (Nat.sub_le _ _) t.isLt)).2.2.2 (iblk m c 11 t)) (ix2 i j) : EReal)
      = resultM m c (rowNo t i) j := by
  let s : Fin cfg0.N := ⟨t.val - 1, Nat.lt_of_le_of_lt (Nat.sub_le _ _) t.isLt⟩
  have h0 : s.val % 2 = 0 := by show (t.val - 1) % 2 = 0; omega
  have er : rowNo s i = rowNo t i := Fin.ext (by show 512 * ((t.val - 1) / 2) + i.val = 512 * (t.val / 2) + i.val; omega)
  have hi : ∀ d, ((outsAt0 m c s.val s.isLt).2.2.1 (ix2 i d) : EReal) = inputM m c (rowNo t i) d := fun d => by
    rw [even_input m c s h0, inputTile_at, er]
  refine (pay4_apply _ _ _ i j).trans ?_
  refine congrArg₂ (fun a b : EReal => a + b) ((even_state m c s h0 i j).trans ?_) (congrArg₂ (fun a b : EReal => a * b) (kind_at m c t 5 _ i j)
    ((sum_at m c t _ _ i j hi).trans ?_))
  · rw [stateTile_at, er]
  · refine Eq.trans ?_ (parts m c t s h0 h1 (rowNo t i) j)
    refine congrArg (fun z : EReal => z + part m c t (rowNo t i) j) ((congrFun (even_sum m c s h0) _).trans ?_)
    refine (sum_at m c s _ _ i j fun d => inputTile_at m c s i d).trans ?_
    rw [er]
    exact (congrArg (fun z : EReal => z + part m c s (rowNo t i) j) (pay2_apply i j)).trans (zero_add _)

end Cert.Dense

end
-- ==== Proof.DenseRef.lean ====
/- What the dense layer's reference computes, entry by entry over the extended reals. -/
module

public import proofs.«01_k».proof.Proof.Gen.Reference3Ideal.Read
public import proofs.«01_k».proof.Proof.DenseRow
public import proofs.«01_k».proof.Proof.ExpertRef

@[expose] public section

set_option maxRecDepth 16384

noncomputable section

namespace Cert.Dense

open Cert.Reference3Ideal Cert.Reference3Ideal.Gen Cert.Reference3Ideal.Read Idealize.ShloMosaic Idealize.ShloMosaic.TcCoe Idealize.SL.Sem

variable (x0 x2 : FVec Ideal S16384x512 .bf16) (x1 x3 : FVec Ideal S2048x512 .bf16) (x4 : FVec Ideal S1024x1024 .bf16) (x5 : FVec Ideal S2048x1024 .f32)
  (x6 : FVec Ideal S16384x1024 .f32) (x7 : FVec Ideal S9x6x1024 .f32) (x8 : FVec Ideal S1x1024 .f32) (x9 x10 : FVec Ideal S1024x2816 .bf16)
  (x11 : FVec Ideal S2816x1024 .bf16)

theorem a_apply (r : Fin 18432) (d : Fin 512) : val_main_v1 (F := Ideal) x0 x1 (ix2 r d) = rowOf x1 x0 r d := by
  pointwise [val_main_v1, val_main_v0]
  split <;> rename_i hk
  · exact rowOf_ctx x1 x0 r d _ (by simp) (by simp)
  · exact rowOf_lat x1 x0 r d _ (by simp; omega) (by simp)

theorem b_apply (r : Fin 18432) (d : Fin 512) : val_main_v3 (F := Ideal) x2 x3 (ix2 r d) = rowOf x3 x2 r d := a_apply x2 x3 r d

theorem x_apply (r : Fin 18432) (d : Fin 1024) : val_main_v4 (F := Ideal) x5 x6 (ix2 r d) = rowOf x5 x6 r d := by
  pointwise [val_main_v4]
  split <;> rename_i hk
  · exact rowOf_ctx x5 x6 r d _ (by simp) (by simp)
  · exact rowOf_lat x5 x6 r d _ (by simp; omega) (by simp)

theorem mod_apply (r : Fin 18432) (k : Fin 6) (j : Fin 1024) : val_main_v16 (F := Ideal) x7 (ix3 r k j) = modOf x7 r k j := by
  pointwise [val_main_v16, val_main_v15, val_main_v14, val_main_v13, val_main_v12, val_main_v11, val_main_v10, val_main_v9]
  split <;> rename_i hk
  · exact modOf_eq x7 r k j _ (by simp; omega) (by simp) (by simp)
  · exact modOf_eq x7 r k j _ (by simp; omega) (by simp) (by simp)

theorem shift_apply (r : Fin 18432) (j : Fin 1024) : val_main_v43 (F := Ideal) x7 (ix2 r j) = modOf x7 r 3 j := by
  rw [val_main_v43_apply, val_main_v42_apply, ← mod_apply]
  refine congrArg (val_main_v16 (F := Ideal) x7) (funext fun a => Fin.ext ?_)
  have hj := j.isLt
  fin_cases a <;> simp [idx_main_v43, idx_main_v42] <;> omega

theorem scale_apply (r : Fin 18432) (j : Fin 1024) : val_main_v38 (F := Ideal) x7 (ix2 r j) = modOf x7 r 4 j := by
  rw [val_main_v38_apply, val_main_v37_apply, ← mod_apply]
  refine congrArg (val_main_v16 (F := Ideal) x7) (funext fun a => Fin.ext ?_)
  have hj := j.isLt
  fin_cases a <;> simp [idx_main_v38, idx_main_v37] <;> omega

theorem first_apply (r : Fin 18432) (j : Fin 1024) : val_main_v18 (F := Ideal) x7 (ix2 r j) = modOf x7 r 2 j := by
  rw [val_main_v18_apply, val_main_v17_apply, ← mod_apply]
  refine congrArg (val_main_v16 (F := Ideal) x7) (funext fun a => Fin.ext ?_)
  have hj := j.isLt
  fin_cases a <;> simp [idx_main_v18, idx_main_v17] <;> omega

theorem last_apply (r : Fin 18432) (j : Fin 1024) : val_main_v47 (F := Ideal) x7 (ix2 r j) = modOf x7 r 5 j := by
  rw [val_main_v47_apply, val_main_v46_apply, ← mod_apply]
  refine congrArg (val_main_v16 (F := Ideal) x7) (funext fun a => Fin.ext ?_)
  have hj := j.isLt
  fin_cases a <;> simp [idx_main_v47, idx_main_v46] <;> omega

theorem pair_low (r : Fin 18432) (d : Fin 512) : val_main_v19 (F := Ideal) x0 x1 x2 x3 (ix2 r (Fin.castAdd 512 d)) = rowOf x1 x0 r d := by
  rw [← a_apply]
  unfold val_main_v19
  generalize val_main_v1 (F := Ideal) x0 x1 = y
  generalize val_main_v3 (F := Ideal) x2 x3 = z
  pointwise []
  exact dif_pos d.isLt

theorem pair_high (r : Fin 18432) (d : Fin 512) : val_main_v19 (F := Ideal) x0 x1 x2 x3 (ix2 r (Fin.natAdd 512 d)) = rowOf x3 x2 r d := by
  rw [← b_apply]
  unfold val_main_v19
  generalize val_main_v1 (F := Ideal) x0 x1 = y
  generalize val_main_v3 (F := Ideal) x2 x3 = z
  pointwise []
  exact (dif_neg (by simp)).trans (congrArg (fun k => z (ix2 r k)) (Fin.ext (by simp)))

theorem state_apply (r : Fin 18432) (j : Fin 1024) :
    val_main_v22 (F := Ideal) x0 x1 x2 x3 x4 x5 x6 x7 (ix2 r j) = stateOf x0 x2 x1 x3 x4 x5 x6 x7 r j := by
  rw [val_main_v22_apply, val_main_v21_apply, x_apply, first_apply, val_main_v20_apply, Fin.sum_univ_add (a := 512) (b := 512), stateOf, mixed]
  have el : ∀ k, lidx_main_v20 (ix2 r j) k = ix2 r k := fun k => by funext a; apply Fin.ext; fin_cases a <;> rfl
  have er : ∀ k, ridx_main_v20 (ix2 r j) k = ix2 k j := fun k => by funext a; apply Fin.ext; fin_cases a <;> rfl
  simp only [el, er, pair_low, pair_high]
  rfl

theorem input_apply (r : Fin 18432) (j : Fin 1024) :
    val_main_v44 (F := Ideal) x0 x1 x2 x3 x4 x5 x6 x7 x8 (ix2 r j) = inputOf x0 x2 x1 x3 x4 x5 x6 x7 x8 r j := by
  have hs := state_apply x0 x2 x1 x3 x4 x5 x6 x7 r
  have h3 := shift_apply x7 r
  have h4 := scale_apply x7 r
  unfold val_main_v44 val_main_v41 val_main_v36 val_main_v32 val_main_v40 val_main_v31 val_main_v30 val_main_v29 val_main_v27 val_main_v25 val_main_v24
    val_main_v23
  generalize val_main_v22 (F := Ideal) x0 x1 x2 x3 x4 x5 x6 x7 = y at hs ⊢
  generalize val_main_v43 (F := Ideal) x7 = p at h3 ⊢
  generalize val_main_v38 (F := Ideal) x7 = q at h4 ⊢
  pointwise [val_main_v35, val_main_v34, val_main_v33, val_main_v39, val_main_v28, val_main_v26, val_main_cst, val_main_cst_0, val_main_cst_1,
    val_main_cst_2, inputOf, normed, hs, h3, h4]

theorem logistic_apply (i : S18432x2816.Idx) : val_main_v53 (F := Ideal) x0 x1 x2 x3 x4 x5 x6 x7 x8 x9 i
    = Ideal.logistic (val_main_v45 (F := Ideal) x0 x1 x2 x3 x4 x5 x6 x7 x8 x9 i) := by
  rw [val_main_v53_apply, val_main_v52_apply, val_main_cst_4_apply, val_main_v51_apply, val_main_v50_apply, val_main_cst_3_apply,
    val_main_v49_apply, val_main_v48_apply]
  generalize val_main_v45 (F := Ideal) x0 x1 x2 x3 x4 x5 x6 x7 x8 x9 i = u
  show Ideal.div (Ideal.ofBits .f32 0x3F800000#32) (Ideal.ofBits .f32 0x3F800000#32 + Ideal.exp (-u)) = _
  rw [Cert.Experts.ofBits_one, Ideal.logistic]

theorem feature_apply (r : Fin 18432) (f : Fin 2816) :
    val_main_v56 (F := Ideal) x0 x1 x2 x3 x4 x5 x6 x7 x8 x9 x10 (ix2 r f) = featureOf x0 x2 x1 x3 x4 x5 x6 x7 x8 x9 x10 r f := by
  have h1 : val_main_v45 (F := Ideal) x0 x1 x2 x3 x4 x5 x6 x7 x8 x9 (ix2 r f)
      = ∑ d, inputOf x0 x2 x1 x3 x4 x5 x6 x7 x8 r d * x9 (ix2 d f) := by
    rw [val_main_v45_apply]
    refine Finset.sum_congr rfl fun d _ => congrArg₂ (fun a b : EReal => a * b) ?_ ?_
    · rw [show lidx_main_v45 (ix2 r f) d = ix2 r d by funext a; apply Fin.ext; fin_cases a <;> rfl, input_apply]
    · exact congrArg x9 (by funext a; apply Fin.ext; fin_cases a <;> rfl)
  have h3 : val_main_v55 (F := Ideal) x0 x1 x2 x3 x4 x5 x6 x7 x8 x10 (ix2 r f)
      = ∑ d, inputOf x0 x2 x1 x3 x4 x5 x6 x7 x8 r d * x10 (ix2 d f) := by
    rw [val_main_v55_apply]
    refine Finset.sum_congr rfl fun d _ => congrArg₂ (fun a b : EReal => a * b) ?_ ?_
    · rw [show lidx_main_v55 (ix2 r f) d = ix2 r d by funext a; apply Fin.ext; fin_cases a <;> rfl, input_apply]
    · exact congrArg x10 (by funext a; apply Fin.ext; fin_cases a <;> rfl)
  rw [val_main_v56_apply, val_main_v54_apply, logistic_apply, h1, h3]
  rfl

/-- The reference's result is, row by row, the layer's mathematics. -/
theorem reference_apply (r : Fin 18432) (j : Fin 1024) :
    val_main_v59 (F := Ideal) x0 x1 x2 x3 x4 x5 x6 x7 x8 x9 x10 x11 (ix2 r j) = rowResult x0 x2 x1 x3 x4 x5 x6 x7 x8 x9 x10 x11 r j := by
  rw [val_main_v59_apply, val_main_v58_apply, state_apply, last_apply, val_main_v57_apply]
  have el : ∀ k, lidx_main_v57 (ix2 r j) k = ix2 r k := fun k => by funext a; apply Fin.ext; fin_cases a <;> rfl
  have er : ∀ k, ridx_main_v57 (ix2 r j) k = ix2 k j := fun k => by funext a; apply Fin.ext; fin_cases a <;> rfl
  simp only [el, er, feature_apply]
  rfl

end Cert.Dense

end
-- ==== Proof.DenseArray.lean ====
/- The dense layer's result array after the run is the reference's. -/
module

public import proofs.«01_k».proof.Proof.DenseValue
public import proofs.«01_k».proof.Proof.DenseRef
public import Idealize.ShloMosaic.Lib.Pipeline.ValueKit

@[expose] public section

set_option maxRecDepth 16384

noncomputable section

namespace Cert.Dense

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- Every block of rows is written back, at its tile's second point. -/
theorem covers : (cfg0.win (12 : Fin 13)).Covers := by
  refine ⟨fun a => (by decide : ∀ a : Fin 2, 0 < S512x1024.size a) a, fun β => ?_⟩
  have h0 : (β (0 : Fin 2)).val < 36 :=
    lt_of_lt_of_eq (β (0 : Fin 2)).isLt (by decide : (S18432x1024.size 0 + S512x1024.size 0 - 1) / S512x1024.size 0 = 36)
  have h1 : (β (1 : Fin 2)).val < 1 :=
    lt_of_lt_of_eq (β (1 : Fin 2)).isLt (by decide : (S18432x1024.size 1 + S512x1024.size 1 - 1) / S512x1024.size 1 = 1)
  have hN : 2 * (β (0 : Fin 2)).val + 1 < cfg0.N := (by omega : _ < 72)
  refine ⟨⟨2 * (β (0 : Fin 2)).val + 1, hN⟩, (flush0_12 _).2 (by show (2 * _ + 1) % 2 = 1; omega), fun a => ⟨?_, .inl rfl⟩⟩
  have ht := (index_at ⟨2 * (β (0 : Fin 2)).val + 1, hN⟩).2.2.2.2.2.2.2.2.2.2.2.2
  refine (congrFun ht a).trans ?_
  match a with
  | ⟨0, _⟩ => show (2 * (β (0 : Fin 2)).val + 1) / 2 = (β (0 : Fin 2)).val; omega
  | ⟨1, _⟩ => show 0 = (β (1 : Fin 2)).val; omega

/-- The result: the reference's array of the arguments at launch. -/
def result : FVec Ideal S18432x1024 .f32 :=
  Cert.Reference3Ideal.Read.val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

theorem result_apply (r : Fin 18432) (j : Fin 1024) : (result m c (ix2 r j) : EReal) = resultM m c r j :=
  reference_apply _ _ _ _ _ _ _ _ _ _ _ _ r j

theorem arrAt_eq : (dats m 0 c).arrAt (12 : Fin 13) cfg0.N = result m c := by
  refine (dats m 0 c).arrAt_eq_of_covers (12 : Fin 13) _ covers fun t hf y => ?_
  obtain ⟨i, j, rfl⟩ : ∃ (i : Fin 512) (j : Fin 1024), y = ix2 i j := ⟨y 0, y 1, eq_ix2 y⟩
  have h1 : t.val % 2 = 1 := (flush0_12 t).1 hf
  have ht := (index_at t).2.2.2.2.2.2.2.2.2.2.2.2
  refine (congrFun (odd_result m c t h1) _).trans ?_
  refine Eq.trans ?_ (((odd_at m c t h1 i j).trans (result_apply m c (rowNo t i) j).symm).trans ?_)
  · rfl
  · refine congrArg (result m c) (funext fun a => Fin.ext ?_)
    match a with
    | ⟨0, _⟩ =>
      show 512 * (t.val / 2) + i.val = _
      blk_simp [ht]
      omega
    | ⟨1, _⟩ => blk_simp [ht]

end Cert.Dense

end
-- ==== Proof.DenseClaims.lean ====
/- The dense layer's claims: its reference runs and keeps its arguments, and at the extended reals the kernel's result is the reference's. -/
module

public import proofs.«01_k».proof.Defs
public import proofs.«01_k».proof.Proof.DenseArray
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Dense

open Idealize.ShloMosaic Idealize.SL.Sem

theorem reference_frame : @Cert.quiescent_Reference3Ideal Cert.Reference3Ideal.Gen.facts := fun m g _ =>
  (θ_run _ _ _).mono (fun r h => ⟨fun c => (h c).2, Idealize.ShloMosaic.sem_eq_zero_of_no_sems (by decide) r.2⟩)
    (Cert.Reference3Ideal.Value.run m g)

theorem same_result : @Cert.algebraic_Kernel3Ideal_Reference3Ideal Cert.Kernel3Ideal.Gen.facts Cert.Reference3Ideal.Gen.facts := by
  intro m g m' g' _ hm
  refine ⟨fun c => result m c, ?_, ?_⟩
  · exact (θ_run _ _ _).mono (fun r h c => ⟨((h.2 c).1 (12 : Fin 13)).trans (arrAt_eq m c), h.1 c⟩)
      (θ_run_and (Cert.Kernel3Ideal.Gen.unchanged m g) (Cert.Kernel3Ideal.Gen.run_main m g))
  · refine (θ_run _ _ _).mono (fun r h c => ⟨(h c).1.trans ?_, (h c).2⟩) (Cert.Reference3Ideal.Value.run m' g')
    obtain ⟨h0, h1, h2, h3, h4, h5, h6, h7, h8, h9, h10, h11⟩ := hm c
    rw [Cert.Reference3Ideal.Read.val_main_v59_eq, h0, h1, h2, h3, h4, h5, h6, h7, h8, h9, h10, h11]
    rfl

end Cert.Dense

end
-- ==== Proof.Modulation.lean ====
/- The modulations' call: every row of its result is a product of the row's silu with a layer's weights, plus the layer's bias, and so is the
   reference's. -/
module

public import proofs.«01_k».proof.Proof.Gen.Kernel4Ideal.Value
public import proofs.«01_k».proof.Proof.Gen.Reference4Ideal.Read
public import proofs.«01_k».proof.Proof.ExpertRef
public import Idealize.ShloMosaic.Lib.Pipeline.ValueKit

@[expose] public section

set_option maxRecDepth 16384

noncomputable section

namespace Cert.Modulation

open Cert.Kernel4Ideal Cert.Kernel4Ideal.Gen Idealize.ShloMosaic Idealize.ShloMosaic.TcCoe Idealize.SL.Sem

/-! ## The mathematics, the reference and a tile -/

/-- Entry `e` of layer `l`'s modulations of row `r`. -/
def entryOf (x : FVec Ideal S16x1024 .f32) (w : FVec Ideal S2x1024x6144 .f32) (b : FVec Ideal S2x6144 .f32) (l : Fin 2) (r : Fin 16) (e : Fin 6144) : EReal :=
  ∑ d : Fin 1024, x (ix2 r d) * Ideal.logistic (x (ix2 r d)) * w (ix3 l d e) + b (ix2 l e)

section
open Cert.Reference4Ideal.Read

theorem silu_apply (x : FVec Ideal S16x1024 .f32) (i : S16x1024.Idx) : (val_main_v0 (F := Ideal) x i : EReal) = x i * Ideal.logistic (x i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x i * Ideal.div (Ideal.ofBits .f32 0x3F800000#32) (Ideal.ofBits .f32 0x3F800000#32 + Ideal.exp (-x i)) = _
  rw [Cert.Experts.ofBits_one, Ideal.logistic]

theorem reference_apply (x : FVec Ideal S16x1024 .f32) (w : FVec Ideal S2x1024x6144 .f32) (b : FVec Ideal S2x6144 .f32) (l : Fin 2) (r : Fin 16)
    (e : Fin 6144) : (val_main_v5 (F := Ideal) x w b (ix3 l r e) : EReal) = entryOf x w b l r e := by
  rw [val_main_v5_apply, val_main_v4_apply, val_main_v3_apply, val_main_v2_apply, val_main_v1_apply]
  refine congrArg₂ (fun a b : EReal => a + b) (Finset.sum_congr rfl fun d _ => ?_)
    (congrArg b (by funext a; apply Fin.ext; fin_cases a <;> rfl))
  refine (mul_comm _ _).trans (congrArg₂ (fun a b : EReal => a * b) ((silu_apply x _).trans ?_)
    (congrArg w (by funext a; apply Fin.ext; fin_cases a <;> rfl)))
  exact congrArg (fun i => x i * Ideal.logistic (x i)) (by funext a; apply Fin.ext; fin_cases a <;> rfl)

end

theorem tile_apply (x : FVec Ideal S16x1024 .f32) (w : FVec Ideal S1x1024x1024 .f32) (b : FVec Ideal S1x1x1024 .f32) (r : Fin 16) (e : Fin 1024) :
    k0_pay1 (F := Ideal) x w b (ix3 0 r e)
      = ∑ d : Fin 1024, x (ix2 r d) * Ideal.logistic (x (ix2 r d)) * w (ix3 0 d e) + b (ix3 0 0 e) := by
  pointwise [k0_pay1]

/-! ## The run -/

variable (m : (ℓ : Loc nD τ sig) → Buf (Elt Ideal) ℓ) (c : Dev nD) (t : Fin cfg0.N)

theorem index_at : ∀ t : Fin grid0.N, (win0_0.index t = ![0, 0] ∧ win0_1.index t = ![t.val / 6, 0, t.val % 6]
    ∧ win0_2.index t = ![t.val / 6, 0, t.val % 6] ∧ win0_3.index t = ![t.val / 6, 0, t.val % 6]) := by
  decide +kernel

/-- The bias as the call receives it: with a middle axis of size one. -/
theorem bias_eq : V m c main_v0 = shapeCast S2x1x6144 (m ((c : Thread nD τ).loc main_arg2)) shapeCasts_S2x6144_S2x1x6144 := by
  rfl

theorem middle_apply (b : FVec Ideal S2x6144 .f32) (l : Fin 2) (e : Fin 6144) :
    shapeCast S2x1x6144 b shapeCasts_S2x6144_S2x1x6144 (ix3 l 0 e) = b (ix2 l e) := by
  pointwise []

/-- The layer that point `t` works on, and the column of its entry `e`. -/
abbrev layerNo : Fin 2 := ⟨t.val / 6, by have : t.val < 12 := t.isLt; omega⟩
abbrev colNo (e : Fin 1024) : Fin 6144 := ⟨1024 * (t.val % 6) + e, by omega⟩

theorem rows_at (r : Fin 16) (d : Fin 1024) : (iblk m c 0 t : S16x1024.Idx → EReal) (ix2 r d) = m ((c : Thread nD τ).loc main_arg0) (ix2 r d) := by
  have ht := (index_at t).1
  refine Eq.trans (b := V m c main_arg0 (((cfg0.win 0).blk t).view.emb (ix2 r d))) rfl ?_
  rw [V_main_arg0]
  refine congrArg _ (funext fun a => Fin.ext ?_)
  match a with
  | ⟨0, _⟩ => blk_simp [ht]
  | ⟨1, _⟩ => blk_simp [ht]

theorem weights_at (d e : Fin 1024) :
    (iblk m c 1 t : S1x1024x1024.Idx → EReal) (ix3 0 d e) = m ((c : Thread nD τ).loc main_arg1) (ix3 (layerNo t) d (colNo t e)) := by
  have ht := (index_at t).2.1
  have hc : (colNo t e).val = 1024 * (t.val % 6) + e := rfl
  refine Eq.trans (b := V m c main_arg1 (((cfg0.win 1).blk t).view.emb (ix3 0 d e))) rfl ?_
  rw [V_main_arg1]
  refine congrArg _ (funext fun a => Fin.ext ?_)
  match a with
  | ⟨0, _⟩ => blk_simp [ht]; rfl
  | ⟨1, _⟩ => blk_simp [ht]
  | ⟨2, _⟩ => blk_simp [ht]; omega

theorem bias_at (e : Fin 1024) :
    (iblk m c 2 t : S1x1x1024.Idx → EReal) (ix3 0 0 e) = m ((c : Thread nD τ).loc main_arg2) (ix2 (layerNo t) (colNo t e)) := by
  have ht := (index_at t).2.2.1
  have hc : (colNo t e).val = 1024 * (t.val % 6) + e := rfl
  refine Eq.trans (b := V m c main_v0 (((cfg0.win 2).blk t).view.emb (ix3 0 0 e))) rfl ?_
  rw [bias_eq]
  have hi : ((cfg0.win 2).blk t).view.emb (ix3 0 0 e) = (ix3 (layerNo t) 0 (colNo t e) : S2x1x6144.Idx) := by
    funext a; apply Fin.ext
    match a with
    | ⟨0, _⟩ => blk_simp [ht]; rfl
    | ⟨1, _⟩ => blk_simp [ht]
    | ⟨2, _⟩ => blk_simp [ht]; omega
  rw [hi]
  exact middle_apply _ _ _

/-- The result: the reference's array of the arguments at launch. -/
def result : FVec Ideal S2x16x6144 .f32 :=
  Cert.Reference4Ideal.Read.val_main_v5 (F := Ideal) (m ((c : Thread nD τ).loc main_arg0)) (m ((c : Thread nD τ).loc main_arg1))
    (m ((c : Thread nD τ).loc main_arg2))

theorem out_at (r : Fin 16) (e : Fin 1024) : (out0_3 (iblk m c 0 t) (iblk m c 1 t) (iblk m c 2 t) (ix3 0 r e) : EReal)
    = result m c (ix3 (layerNo t) r (colNo t e)) := by
  unfold out0_3
  refine (congrFun (View.canon_cons_unit_lit' _ _ _ (by decide)) _).trans ?_
  simp (disch := decide +kernel) only [View.ld_unit_lit']
  refine (tile_apply _ _ _ r e).trans (Eq.trans ?_ (reference_apply _ _ _ (layerNo t) r (colNo t e)).symm)
  unfold entryOf
  simp only [rows_at, weights_at, bias_at]

theorem arrAt_eq : (dats m 0 c).arrAt 3 cfg0.N = result m c := by
  refine (dats m 0 c).arrAt_eq_of_covers 3 _ (by decide +kernel) fun t hf y => ?_
  obtain ⟨i, r, e, rfl⟩ : ∃ (i : Fin 1) (r : Fin 16) (e : Fin 1024), y = ix3 i r e := ⟨y 0, y 1, y 2, eq_ix3 y⟩
  obtain rfl : i = 0 := Subsingleton.elim _ _
  have ht := (index_at t).2.2.2
  refine (congrFun (Value.flushed3 m c t) _).trans ?_
  refine Eq.trans ?_ ((out_at m c t r e).trans ?_)
  · rfl
  · refine congrArg (result m c) (funext fun a => Fin.ext ?_)
    match a with
    | ⟨0, _⟩ => blk_simp [ht]; rfl
    | ⟨1, _⟩ => blk_simp [ht]
    | ⟨2, _⟩ =>
      show 1024 * (t.val % 6) + e.val = _
      blk_simp [ht]
      omega

end Cert.Modulation

end
-- ==== Proof.ModulationClaims.lean ====
/- The modulations' claims: the reference runs and keeps its arguments, and at the extended reals the call's result is the reference's. -/
module

public import proofs.«01_k».proof.Defs
public import proofs.«01_k».proof.Proof.Modulation
public import proofs.«01_k».proof.Proof.Gen.Reference4Ideal.Run
public import Idealize.ShloMosaic.Adequacy
public import Idealize.ShloMosaic.Init

@[expose] public section

noncomputable section

namespace Cert.Modulation

open Idealize.ShloMosaic Idealize.SL.Sem

theorem reference_frame : @Cert.quiescent_Reference4Ideal Cert.Reference4Ideal.Gen.facts := fun m g _ =>
  (θ_run _ _ _).mono (fun r h => ⟨fun c => (h c).2, Idealize.ShloMosaic.sem_eq_zero_of_no_sems (by decide) r.2⟩)
    (Cert.Reference4Ideal.Value.run m g)

theorem same_result : @Cert.algebraic_Kernel4Ideal_Reference4Ideal Cert.Kernel4Ideal.Gen.facts Cert.Reference4Ideal.Gen.facts := by
  intro m g m' g' _ hm
  refine ⟨fun c => result m c, ?_, ?_⟩
  · exact (θ_run _ _ _).mono (fun r h c => ⟨(h c).1.trans (arrAt_eq m c), (h c).2⟩) (Cert.Kernel4Ideal.Value.run_blocks m g)
  · refine (θ_run _ _ _).mono (fun r h c => ⟨(h c).1.trans ?_, (h c).2⟩) (Cert.Reference4Ideal.Value.run m' g')
    rw [Cert.Reference4Ideal.Read.val_main_v5_eq, (hm c).1, (hm c).2.1, (hm c).2.2]
    rfl

end Cert.Modulation

end
-- ==== Proof.RouterRef.lean ====
/- What the reference of the mixer's output before the experts computes, entry by entry over the extended reals. -/
module

public import proofs.«01_k».proof.Proof.Gen.Reference5Ideal.Read
public import proofs.«01_k».proof.Proof.DenseRow

@[expose] public section

set_option maxRecDepth 16384

noncomputable section

namespace Cert.Router

open Cert.Reference5Ideal Cert.Reference5Ideal.Gen Cert.Reference5Ideal.Read Cert.Dense Idealize.ShloMosaic Idealize.ShloMosaic.TcCoe Idealize.SL.Sem

variable (x0 x1 : FVec Ideal S16384x512 .bf16) (x2 : FVec Ideal S1024x1024 .bf16) (x3 : FVec Ideal S18432x1024 .f32)
  (x4 : FVec Ideal S9x6x1024 .f32) (x5 : FVec Ideal S1x1024 .f32)

/-- The number that latent row `r` has among all rows, the context's first. -/
abbrev allNo (r : Fin 16384) : Fin 18432 := Fin.natAdd 2048 r

/-- Latent row `r` after the mixer. -/
def stateRow (r : Fin 16384) : Fin 1024 → EReal :=
  mixed (fun j => x3 (ix2 (allNo r) j)) (fun d => x0 (ix2 r d)) (fun d => x1 (ix2 r d)) x2 (modOf x4 (allNo r) 2)

/-- The row, normalized and modulated. -/
def inputRow (r : Fin 16384) : Fin 1024 → EReal :=
  normed (stateRow x0 x1 x2 x3 x4 r) (fun j => x5 (ix2 0 j)) (modOf x4 (allNo r) 4) (modOf x4 (allNo r) 3)

theorem mods_apply (r : Fin 16384) (k : Fin 6) (j : Fin 1024) : val_main_v5 (F := Ideal) x4 (ix3 r k j) = modOf x4 (allNo r) k j := by
  have hr : (allNo r).val = 2048 + r := rfl
  pointwise [val_main_v5, val_main_v4, val_main_v3, val_main_v2]
  exact modOf_eq x4 (allNo r) k j _ (by simp; omega) (by simp) (by simp)

theorem gate_apply (r : Fin 16384) (j : Fin 1024) : val_main_v8 (F := Ideal) x4 (ix2 r j) = modOf x4 (allNo r) 2 j := by
  rw [val_main_v8_apply, val_main_v7_apply, ← mods_apply]
  refine congrArg (val_main_v5 (F := Ideal) x4) (funext fun a => Fin.ext ?_)
  have hj := j.isLt
  fin_cases a <;> simp [idx_main_v8, idx_main_v7] <;> omega

theorem scale_apply (r : Fin 16384) (j : Fin 1024) : val_main_v28 (F := Ideal) x4 (ix2 r j) = modOf x4 (allNo r) 4 j := by
  rw [val_main_v28_apply, val_main_v27_apply, ← mods_apply]
  refine congrArg (val_main_v5 (F := Ideal) x4) (funext fun a => Fin.ext ?_)
  have hj := j.isLt
  fin_cases a <;> simp [idx_main_v28, idx_main_v27] <;> omega

theorem shift_apply (r : Fin 16384) (j : Fin 1024) : val_main_v33 (F := Ideal) x4 (ix2 r j) = modOf x4 (allNo r) 3 j := by
  rw [val_main_v33_apply, val_main_v32_apply, ← mods_apply]
  refine congrArg (val_main_v5 (F := Ideal) x4) (funext fun a => Fin.ext ?_)
  have hj := j.isLt
  fin_cases a <;> simp [idx_main_v33, idx_main_v32] <;> omega

theorem rows_apply (r : Fin 16384) (j : Fin 1024) : val_main_v6 (F := Ideal) x3 (ix2 r j) = x3 (ix2 (allNo r) j) := by
  rw [val_main_v6_apply]
  refine congrArg x3 (funext fun a => Fin.ext ?_)
  fin_cases a <;> simp [idx_main_v6]

theorem pair_low (r : Fin 16384) (d : Fin 512) : val_main_v0 (F := Ideal) x0 x1 (ix2 r (Fin.castAdd 512 d)) = x0 (ix2 r d) := by
  pointwise [val_main_v0]
  exact dif_pos d.isLt

theorem pair_high (r : Fin 16384) (d : Fin 512) : val_main_v0 (F := Ideal) x0 x1 (ix2 r (Fin.natAdd 512 d)) = x1 (ix2 r d) := by
  pointwise [val_main_v0]
  exact (dif_neg (by simp)).trans (congrArg (fun k => x1 (ix2 r k)) (Fin.ext (by simp)))

theorem state_apply (r : Fin 16384) (j : Fin 1024) :
    val_main_v12 (F := Ideal) x0 x1 x2 x3 x4 (ix2 r j) = stateRow x0 x1 x2 x3 x4 r j := by
  rw [val_main_v12_apply, val_main_v11_apply, rows_apply, gate_apply, val_main_v10_apply, Fin.sum_univ_add (a := 512) (b := 512), stateRow, mixed]
  have el : ∀ k, lidx_main_v10 (ix2 r j) k = ix2 r k := fun k => by funext a; apply Fin.ext; fin_cases a <;> rfl
  have er : ∀ k, ridx_main_v10 (ix2 r j) k = ix2 k j := fun k => by funext a; apply Fin.ext; fin_cases a <;> rfl
  have hl : ∀ d, val_main_v1 (F := Ideal) x0 x1 (ix2 r (Fin.castAdd 512 d)) = x0 (ix2 r d) := fun d => pair_low x0 x1 r d
  have hh : ∀ d, val_main_v1 (F := Ideal) x0 x1 (ix2 r (Fin.natAdd 512 d)) = x1 (ix2 r d) := fun d => pair_high x0 x1 r d
  simp only [el, er, hl, hh]
  rfl

theorem input_apply (r : Fin 16384) (j : Fin 1024) :
    val_main_v35 (F := Ideal) x0 x1 x2 x3 x4 x5 (ix2 r j) = inputRow x0 x1 x2 x3 x4 x5 r j := by
  have hs := state_apply x0 x1 x2 x3 x4 r
  have h3 := shift_apply x4 r
  have h4 := scale_apply x4 r
  unfold val_main_v35 val_main_v34 val_main_v31 val_main_v26 val_main_v22 val_main_v30 val_main_v21 val_main_v20 val_main_v19 val_main_v17 val_main_v15
    val_main_v14 val_main_v13
  generalize val_main_v12 (F := Ideal) x0 x1 x2 x3 x4 = y at hs ⊢
  generalize val_main_v33 (F := Ideal) x4 = p at h3 ⊢
  generalize val_main_v28 (F := Ideal) x4 = q at h4 ⊢
  pointwise [val_main_v25, val_main_v24, val_main_v23, val_main_v29, val_main_v18, val_main_v16, val_main_cst, val_main_cst_0, val_main_cst_1,
    val_main_cst_2, inputRow, normed, hs, h3, h4]

end Cert.Router

end
-- ==== Proof.RouterArray.lean ====
/- The two arrays that the call before the experts leaves: the latent rows after the mixer, and the same rows normalized and modulated. -/
module

public import proofs.«01_k».proof.Proof.Gen.Kernel5Ideal.Value
public import proofs.«01_k».proof.Proof.RouterRef
public import Idealize.ShloMosaic.Lib.Pipeline.ValueKit

@[expose] public section

set_option maxRecDepth 16384

noncomputable section

namespace Cert.Router

open Cert.Kernel5Ideal Cert.Kernel5Ideal.Gen Cert.Dense Idealize.ShloMosaic Idealize.ShloMosaic.TcCoe Idealize.SL.Sem

/-! ## A tile, entry by entry -/

section
variable (a b : FVec Ideal S512x512 .bf16) (p q : FVec Ideal S512x1024 .bf16) (x : FVec Ideal S512x1024 .f32) (s : FVec Ideal S1x1x1024 .f32)

theorem mixed_apply (i : Fin 512) (j : Fin 1024) : k0_pay4 (F := Ideal) a p b q x s (ix2 i j)
    = x (ix2 i j) + s (ix3 0 0 j) * (∑ d : Fin 512, a (ix2 i d) * p (ix2 d j) + ∑ d : Fin 512, b (ix2 i d) * q (ix2 d j)) := by
  pointwise [k0_pay4]

theorem gained_apply (g : FVec Ideal S1x1024 .f32) (i : Fin 512) (j : Fin 1024) (σ : Fin 1024 → EReal)
    (h : ∀ y, (k0_pay4 (F := Ideal) a p b q x s (ix2 i y) : EReal) = σ y) : k0_pay5 (F := Ideal) a p b q x s g (ix2 i j)
    = σ j * Ideal.rsqrt (Ideal.div (∑ y : Fin 1024, σ y * σ y) (Ideal.ofBits .f32 0x44800000#32) + Ideal.ofBits .f32 0x358637BD#32) * g (ix2 0 j) := by
  unfold k0_pay5
  generalize k0_pay4 (F := Ideal) a p b q x s = y at h ⊢
  pointwise [h]

theorem shifted_apply (v : FVec Ideal S512x1024 .f32) (u w : FVec Ideal S1x1x1024 .f32) (i : Fin 512) (j : Fin 1024) :
    k0_pay8 (F := Ideal) v (k0_pay6 (F := Ideal) u) w (ix2 i j)
      = v (ix2 i j) * (Ideal.ofBits .f32 0x3F800000#32 + u (ix3 0 0 j)) + w (ix3 0 0 j) := by
  pointwise [k0_pay8, k0_pay7, k0_pay6]

end

/-! ## The blocks a point reads -/

variable (m : (ℓ : Loc nD τ sig) → Buf (Elt Ideal) ℓ) (c : Dev nD) (t : Fin cfg0.N)

theorem index_at : ∀ t : Fin grid0.N, (win0_0.index t = ![t.val, 0] ∧ win0_1.index t = ![t.val, 0] ∧ win0_2.index t = ![0, 0]
    ∧ win0_3.index t = ![t.val + 4, 0] ∧ win0_4.index t = ![1 + t.val / 4, 0, 0] ∧ win0_5.index t = ![0, 0] ∧ win0_7.index t = ![t.val, 0]
    ∧ win0_8.index t = ![t.val, 0]) := by
  decide +kernel

/-- The latent row that point `t`'s row `i` is. -/
abbrev rowNo (i : Fin 512) : Fin 16384 := ⟨512 * t.val + i, by have : t.val < 32 := t.isLt; omega⟩

theorem a_at (i d : Fin 512) : (iblk m c 0 t : S512x512.Idx → EReal) (ix2 i d) = m ((c : Thread nD τ).loc main_arg0) (ix2 (rowNo t i) d) := by
  have hr : (rowNo t i).val = 512 * t.val + i := rfl
  have ht := (index_at t).1
  refine Eq.trans (b := V m c main_arg0 (((cfg0.win 0).blk t).view.emb (ix2 i d))) rfl ?_
  rw [V_main_arg0]
  refine congrArg _ (funext fun a => Fin.ext ?_)
  match a with
  | ⟨0, _⟩ => blk_simp [ht]; omega
  | ⟨1, _⟩ => blk_simp [ht]

theorem b_at (i d : Fin 512) : (iblk m c 1 t : S512x512.Idx → EReal) (ix2 i d) = m ((c : Thread nD τ).loc main_arg1) (ix2 (rowNo t i) d) := by
  have hr : (rowNo t i).val = 512 * t.val + i := rfl
  have ht := (index_at t).2.1
  refine Eq.trans (b := V m c main_arg1 (((cfg0.win 1).blk t).view.emb (ix2 i d))) rfl ?_
  rw [V_main_arg1]
  refine congrArg _ (funext fun a => Fin.ext ?_)
  match a with
  | ⟨0, _⟩ => blk_simp [ht]; omega
  | ⟨1, _⟩ => blk_simp [ht]

theorem top_at (d : Fin 512) (j : Fin 1024) :
    (View.ld (iblk m c 2 t) r0_1 (ix2 d j) : EReal) = m ((c : Thread nD τ).loc main_arg2) (ix2 (Fin.castAdd 512 d) j) := by
  have ht := (index_at t).2.2.1
  refine Eq.trans (b := V m c main_arg2 (((cfg0.win 2).blk t).view.emb (r0_1.emb (ix2 d j)))) rfl ?_
  rw [V_main_arg2]
  refine congrArg _ (funext fun a => Fin.ext ?_)
  match a with
  | ⟨0, _⟩ => blk_simp [ht]; rfl
  | ⟨1, _⟩ => blk_simp [ht]

theorem low_at (d : Fin 512) (j : Fin 1024) :
    (View.ld (iblk m c 2 t) r0_2 (ix2 d j) : EReal) = m ((c : Thread nD τ).loc main_arg2) (ix2 (Fin.natAdd 512 d) j) := by
  have ht := (index_at t).2.2.1
  refine Eq.trans (b := V m c main_arg2 (((cfg0.win 2).blk t).view.emb (r0_2.emb (ix2 d j)))) rfl ?_
  rw [V_main_arg2]
  refine congrArg _ (funext fun a => Fin.ext ?_)
  match a with
  | ⟨0, _⟩ => blk_simp [ht]; rfl
  | ⟨1, _⟩ => blk_simp [ht]

theorem x_at (i : Fin 512) (j : Fin 1024) :
    (iblk m c 3 t : S512x1024.Idx → EReal) (ix2 i j) = m ((c : Thread nD τ).loc main_arg3) (ix2 (allNo (rowNo t i)) j) := by
  have hr : (allNo (rowNo t i)).val = 2048 + (512 * t.val + i) := rfl
  have ht := (index_at t).2.2.2.1
  refine Eq.trans (b := V m c main_arg3 (((cfg0.win 3).blk t).view.emb (ix2 i j))) rfl ?_
  rw [V_main_arg3]
  refine congrArg _ (funext fun a => Fin.ext ?_)
  match a with
  | ⟨0, _⟩ => blk_simp [ht]; omega
  | ⟨1, _⟩ => blk_simp [ht]

theorem mods_at (k : Fin 6) (h) (i : Fin 512) (j : Fin 1024) :
    (View.ld (iblk m c 4 t) (Rect.unit (s := S1x6x1024) ![0, k.val, 0] S1x1x1024.size h) (ix3 0 0 j) : EReal)
      = modOf (m ((c : Thread nD τ).loc main_arg4)) (allNo (rowNo t i)) k j := by
  have hr : (allNo (rowNo t i)).val = 2048 + (512 * t.val + i) := rfl
  have ht := (index_at t).2.2.2.2.1
  refine Eq.trans (b := V m c main_arg4 (((cfg0.win 4).blk t).view.emb ((Rect.unit (s := S1x6x1024) ![0, k.val, 0] S1x1x1024.size h).emb (ix3 0 0 j)))) rfl ?_
  rw [V_main_arg4]
  refine modOf_eq _ (allNo (rowNo t i)) k j _ ?_ ?_ ?_
  · blk_simp [ht]
    omega
  · blk_simp [ht]
    rfl
  · blk_simp [ht]

theorem gains_at (j : Fin 1024) : (iblk m c 5 t : S1x1024.Idx → EReal) (ix2 0 j) = m ((c : Thread nD τ).loc main_arg5) (ix2 0 j) := by
  have ht := (index_at t).2.2.2.2.2.1
  refine Eq.trans (b := V m c main_arg5 (((cfg0.win 5).blk t).view.emb (ix2 0 j))) rfl ?_
  rw [V_main_arg5]
  refine congrArg _ (funext fun a => Fin.ext ?_)
  match a with
  | ⟨0, _⟩ => blk_simp [ht]
  | ⟨1, _⟩ => blk_simp [ht]

/-! ## The two arrays -/

abbrev stateM : Fin 16384 → Fin 1024 → EReal :=
  stateRow (m ((c : Thread nD τ).loc main_arg0)) (m ((c : Thread nD τ).loc main_arg1)) (m ((c : Thread nD τ).loc main_arg2))
    (m ((c : Thread nD τ).loc main_arg3)) (m ((c : Thread nD τ).loc main_arg4))

abbrev inputM : Fin 16384 → Fin 1024 → EReal :=
  inputRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `t`'s tile after the mixer. -/
abbrev stateTile : FVec Ideal S512x1024 .f32 :=
  k0_pay4 (F := Ideal) (iblk m c 0 t) (View.ld (iblk m c 2 t) r0_1) (iblk m c 1 t) (View.ld (iblk m c 2 t) r0_2) (iblk m c 3 t)
    (View.ld (iblk m c 4 t) r0_4)

theorem stateTile_at (i : Fin 512) (j : Fin 1024) : (stateTile m c t (ix2 i j) : EReal) = stateM m c (rowNo t i) j := by
  refine (mixed_apply _ _ _ _ _ _ i j).trans ?_
  unfold stateM stateRow mixed
  refine congrArg₂ (fun a b : EReal => a + b) (x_at m c t i j) (congrArg₂ (fun a b : EReal => a * b) (mods_at m c t 2 _ i j)
    (congrArg₂ (fun a b : EReal => a + b) (Finset.sum_congr rfl fun d _ => ?_) (Finset.sum_congr rfl fun d _ => ?_)))
  · exact congrArg₂ (fun a b : EReal => a * b) (a_at m c t i d) (top_at m c t d j)
  · exact congrArg₂ (fun a b : EReal => a * b) (b_at m c t i d) (low_at m c t d j)

theorem out7_at (i : Fin 512) (j : Fin 1024) : (out0_7 (iblk m c 0 t) (iblk m c 1 t) (iblk m c 2 t) (iblk m c 3 t) (iblk m c 4 t) (iblk m c 5 t)
    (iblk m c 6 t) (ix2 i j) : EReal) = stateM m c (rowNo t i) j := by
  unfold out0_7
  refine (congrFun (View.canon_cons_unit_lit' _ _ _ (by decide)) _).trans ?_
  simp (disch := decide +kernel) only [View.ld_unit_lit']
  exact stateTile_at m c t i j

theorem out8_at (i : Fin 512) (j : Fin 1024) : (out0_8 (iblk m c 0 t) (iblk m c 1 t) (iblk m c 2 t) (iblk m c 3 t) (iblk m c 4 t) (iblk m c 5 t)
    (iblk m c 6 t) (ix2 i j) : EReal) = inputM m c (rowNo t i) j := by
  unfold out0_8 k0_pay22 k0_pay23
  refine (congrFun (View.canon_cons_unit_lit' _ _ _ (by decide)) _).trans ?_
  simp (disch := decide +kernel) only [View.ld_unit_lit']
  refine (shifted_apply _ _ _ i j).trans ?_
  refine congrArg₂ (fun a b : EReal => a + b) (congrArg₂ (fun a b : EReal => a * b) ?_ (congrArg (fun a : EReal => _ + a) (mods_at m c t 4 _ i j)))
    (mods_at m c t 3 _ i j)
  refine (gained_apply _ _ _ _ _ _ _ i j (stateM m c (rowNo t i)) (stateTile_at m c t i)).trans ?_
  rw [gains_at m c t j]

/-- The results: the reference's arrays of the arguments at launch. -/
def result7 : FVec Ideal S16384x1024 .f32 :=
  Cert.Reference5Ideal.Read.val_main_v12 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

def result8 : FVec Ideal S16384x1024 .bf16 :=
  Cert.Reference5Ideal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

theorem arr7_eq : (dats m 0 c).arrAt 7 cfg0.N = result7 m c := by
  refine (dats m 0 c).arrAt_eq_of_covers 7 _ (by decide +kernel) fun t hf y => ?_
  obtain ⟨i, j, rfl⟩ : ∃ (i : Fin 512) (j : Fin 1024), y = ix2 i j := ⟨y 0, y 1, eq_ix2 y⟩
  have ht := (index_at t).2.2.2.2.2.2.1
  refine (congrFun (Value.flushed7 m c t) _).trans ?_
  refine Eq.trans ?_ (((out7_at m c t i j).trans (state_apply _ _ _ _ _ (rowNo t i) j).symm).trans ?_)
  · rfl
  · refine congrArg (result7 m c) (funext fun a => Fin.ext ?_)
    match a with
    | ⟨0, _⟩ =>
      show 512 * t.val + i.val = _
      blk_simp [ht]
      omega
    | ⟨1, _⟩ => blk_simp [ht]

theorem arr8_eq : (dats m 0 c).arrAt 8 cfg0.N = result8 m c := by
  refine (dats m 0 c).arrAt_eq_of_covers 8 _ (by decide +kernel) fun t hf y => ?_
  obtain ⟨i, j, rfl⟩ : ∃ (i : Fin 512) (j : Fin 1024), y = ix2 i j := ⟨y 0, y 1, eq_ix2 y⟩
  have ht := (index_at t).2.2.2.2.2.2.2
  refine (congrFun (Value.flushed8 m c t) _).trans ?_
  refine Eq.trans ?_ (((out8_at m c t i j).trans (input_apply _ _ _ _ _ _ (rowNo t i) j).symm).trans ?_)
  · rfl
  · refine congrArg (result8 m c) (funext fun a => Fin.ext ?_)
    match a with
    | ⟨0, _⟩ =>
      show 512 * t.val + i.val = _
      blk_simp [ht]
      omega
    | ⟨1, _⟩ => blk_simp [ht]

end Cert.Router

end
-- ==== Proof.RouterClaims.lean ====
/- The claims of the call before the experts: its reference runs and keeps its arguments, and at the extended reals the latent rows after the mixer and
   the normalized rows are the reference's. -/
module

public import proofs.«01_k».proof.Defs
public import proofs.«01_k».proof.Proof.RouterArray
public import proofs.«01_k».proof.Proof.Gen.Reference5Ideal.Run
public import Idealize.ShloMosaic.Adequacy
public import Idealize.ShloMosaic.Init

@[expose] public section

noncomputable section

namespace Cert.Router

open Idealize.ShloMosaic Idealize.SL.Sem

theorem reference_frame : @Cert.quiescent_Reference5Ideal Cert.Reference5Ideal.Gen.facts := fun m g _ =>
  (θ_run _ _ _).mono (fun r h => ⟨fun c => (h c).2.2, Idealize.ShloMosaic.sem_eq_zero_of_no_sems (by decide) r.2⟩)
    (Cert.Reference5Ideal.Value.run m g)

theorem same_results : @Cert.algebraic_Kernel5Ideal_Reference5Ideal Cert.Kernel5Ideal.Gen.facts Cert.Reference5Ideal.Gen.facts := by
  intro m g m' g' _ hm
  refine ⟨fun c => result7 m c, fun c => result8 m c, ?_, ?_⟩
  · exact (θ_run _ _ _).mono (fun r h c => ⟨(h c).1.trans (arr7_eq m c), (h c).2.1.trans (arr8_eq m c), (h c).2.2.2.2.2⟩)
      (Cert.Kernel5Ideal.Value.run_blocks m g)
  · refine (θ_run _ _ _).mono (fun r h c => ⟨(h c).1.trans ?_, (h c).2.1.trans ?_, (h c).2.2⟩) (Cert.Reference5Ideal.Value.run m' g')
    · obtain ⟨h0, h1, h2, h3, h4, h5, h6⟩ := hm c
      rw [Cert.Reference5Ideal.Read.val_main_v12_eq, h0, h1, h2, h3, h4]
      rfl
    · obtain ⟨h0, h1, h2, h3, h4, h5, h6⟩ := hm c
      rw [Cert.Reference5Ideal.Read.val_main_v35_eq, h0, h1, h2, h3, h4, h5]
      rfl

end Cert.Router

end
-- ==== Proof.ProjFrame.lean ====
/- The input projection's run, idealized: the body at the point that fills the weights' scratch and at the others, and what every point leaves. -/
module

public import proofs.«01_k».proof.Proof.Gen.Kernel6Ideal.Frame.RunB
public import proofs.«01_k».proof.Proof.Gen.Kernel6Ideal.Frame.RunA
public import Idealize.ShloMosaic.Lib.Claim

@[expose] public section

set_option maxRecDepth 16384

noncomputable section

namespace Cert.Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## The body at a point: the first fills the weights' scratch, the others read it -/

/-- The body's run at a point that fills the scratch. -/
abbrev runFirst (h : t.val % 72 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at another point, over the weights `s`. -/
abbrev runLater (h : ¬t.val % 72 = 0) (s : Vec F S1024x3840 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s

/-- The first point. -/
abbrev start : Fin cfg0.N := ⟨0, by decide⟩

/-- The weights that the first point leaves and every later point finds. -/
def weights : Vec F S1024x3840 .bf16 :=
  VS0_1.read (Elt F) (VS0_1.writes (Elt F) VS0_1.junk (runFirst m c start rfl).2.2.2.2.2.2.2.1)

theorem weights_cover (h : t.val % 72 = 0) (y : S1024x3840.Idx) : ∃ p ∈ (runFirst m c t h).2.2.2.2.2.2.2.1, y ∈ p.1.set :=
  View.cover_of_tiledBy (runFirst m c t h).2.2.2.2.2.2.2.1 ![1024, 16] (by sl_kernel_rfl) y

theorem first_cover_13 (h : t.val % 72 = 0) (y : S256x1024.Idx) : ∃ p ∈ (runFirst m c t h).1, y ∈ p.1.set :=
  View.cover_of_tiledL (runFirst m c t h).1 S256x128.size (by sl_kernel_rfl) y

theorem later_cover_13 (h : ¬t.val % 72 = 0) (s : Vec F S1024x3840 .bf16) (y : S256x1024.Idx) : ∃ p ∈ (runLater m c t h s).1, y ∈ p.1.set :=
  View.cover_of_tiledL (runLater m c t h s).1 S256x128.size (by sl_kernel_rfl) y

/-- What point `t` leaves for result 0. -/
def left13 : Vec F S256x1024 .bf16 :=
  if h : t.val % 72 = 0 then VO0_13.read (Elt F) (VO0_13.writes (Elt F) VO0_13.junk (runFirst m c t h).1)
  else VO0_13.read (Elt F) (VO0_13.writes (Elt F) VO0_13.junk (runLater m c t h (weights m c)).1)

theorem left13_first (h : t.val % 72 = 0) :
    left13 m c t = VO0_13.read (Elt F) (VO0_13.writes (Elt F) VO0_13.junk (runFirst m c t h).1) := dif_pos h

theorem left13_later (h : ¬t.val % 72 = 0) :
    left13 m c t = VO0_13.read (Elt F) (VO0_13.writes (Elt F) VO0_13.junk (runLater m c t h (weights m c)).1) := dif_neg h

theorem first_cover_14 (h : t.val % 72 = 0) (y : S256x512.Idx) : ∃ p ∈ (runFirst m c t h).2.1, y ∈ p.1.set :=
  View.cover_of_tiledL (runFirst m c t h).2.1 S256x512.size (by sl_kernel_rfl) y

theorem later_cover_14 (h : ¬t.val % 72 = 0) (s : Vec F S1024x3840 .bf16) (y : S256x512.Idx) : ∃ p ∈ (runLater m c t h s).2.1, y ∈ p.1.set :=
  View.cover_of_tiledL (runLater m c t h s).2.1 S256x512.size (by sl_kernel_rfl) y

/-- What point `t` leaves for result 1. -/
def left14 : Vec F S256x512 .bf16 :=
  if h : t.val % 72 = 0 then VO0_14.read (Elt F) (VO0_14.writes (Elt F) VO0_14.junk (runFirst m c t h).2.1)
  else VO0_14.read (Elt F) (VO0_14.writes (Elt F) VO0_14.junk (runLater m c t h (weights m c)).2.1)

theorem left14_first (h : t.val % 72 = 0) :
    left14 m c t = VO0_14.read (Elt F) (VO0_14.writes (Elt F) VO0_14.junk (runFirst m c t h).2.1) := dif_pos h

theorem left14_later (h : ¬t.val % 72 = 0) :
    left14 m c t = VO0_14.read (Elt F) (VO0_14.writes (Elt F) VO0_14.junk (runLater m c t h (weights m c)).2.1) := dif_neg h

theorem first_cover_15 (h : t.val % 72 = 0) (y : S256x512.Idx) : ∃ p ∈ (runFirst m c t h).2.2.1, y ∈ p.1.set :=
  View.cover_of_tiledL (runFirst m c t h).2.2.1 S256x256.size (by sl_kernel_rfl) y

theorem later_cover_15 (h : ¬t.val % 72 = 0) (s : Vec F S1024x3840 .bf16) (y : S256x512.Idx) : ∃ p ∈ (runLater m c t h s).2.2.1, y ∈ p.1.set :=
  View.cover_of_tiledL (runLater m c t h s).2.2.1 S256x256.size (by sl_kernel_rfl) y

/-- What point `t` leaves for result 2. -/
def left15 : Vec F S256x512 .bf16 :=
  if h : t.val % 72 = 0 then VO0_15.read (Elt F) (VO0_15.writes (Elt F) VO0_15.junk (runFirst m c t h).2.2.1)
  else VO0_15.read (Elt F) (VO0_15.writes (Elt F) VO0_15.junk (runLater m c t h (weights m c)).2.2.1)

theorem left15_first (h : t.val % 72 = 0) :
    left15 m c t = VO0_15.read (Elt F) (VO0_15.writes (Elt F) VO0_15.junk (runFirst m c t h).2.2.1) := dif_pos h

theorem left15_later (h : ¬t.val % 72 = 0) :
    left15 m c t = VO0_15.read (Elt F) (VO0_15.writes (Elt F) VO0_15.junk (runLater m c t h (weights m c)).2.2.1) := dif_neg h

theorem first_cover_16 (h : t.val % 72 = 0) (y : S2x512x128.Idx) : ∃ p ∈ (runFirst m c t h).2.2.2.1, y ∈ p.1.set :=
  View.cover_of_tiledL (runFirst m c t h).2.2.2.1 S1x256x128.size (by sl_kernel_rfl) y

theorem later_cover_16 (h : ¬t.val % 72 = 0) (s : Vec F S1024x3840 .bf16) (y : S2x512x128.Idx) : ∃ p ∈ (runLater m c t h s).2.2.2.1, y ∈ p.1.set :=
  View.cover_of_tiledL (runLater m c t h s).2.2.2.1 S1x256x128.size (by sl_kernel_rfl) y

/-- What point `t` leaves for result 3. -/
def left16 : Vec F S2x512x128 .bf16 :=
  if h : t.val % 72 = 0 then VO0_16.read (Elt F) (VO0_16.writes (Elt F) VO0_16.junk (runFirst m c t h).2.2.2.1)
  else VO0_16.read (Elt F) (VO0_16.writes (Elt F) VO0_16.junk (runLater m c t h (weights m c)).2.2.2.1)

theorem left16_first (h : t.val % 72 = 0) :
    left16 m c t = VO0_16.read (Elt F) (VO0_16.writes (Elt F) VO0_16.junk (runFirst m c t h).2.2.2.1) := dif_pos h

theorem left16_later (h : ¬t.val % 72 = 0) :
    left16 m c t = VO0_16.read (Elt F) (VO0_16.writes (Elt F) VO0_16.junk (runLater m c t h (weights m c)).2.2.2.1) := dif_neg h

theorem first_cover_17 (h : t.val % 72 = 0) (y : S256x512.Idx) : ∃ p ∈ (runFirst m c t h).2.2.2.2.1, y ∈ p.1.set :=
  View.cover_of_tiledL (runFirst m c t h).2.2.2.2.1 S256x512.size (by sl_kernel_rfl) y

theorem later_cover_17 (h : ¬t.val % 72 = 0) (s : Vec F S1024x3840 .bf16) (y : S256x512.Idx) : ∃ p ∈ (runLater m c t h s).2.2.2.2.1, y ∈ p.1.set :=
  View.cover_of_tiledL (runLater m c t h s).2.2.2.2.1 S256x512.size (by sl_kernel_rfl) y

/-- What point `t` leaves for result 4. -/
def left17 : Vec F S256x512 .bf16 :=
  if h : t.val % 72 = 0 then VO0_17.read (Elt F) (VO0_17.writes (Elt F) VO0_17.junk (runFirst m c t h).2.2.2.2.1)
  else VO0_17.read (Elt F) (VO0_17.writes (Elt F) VO0_17.junk (runLater m c t h (weights m c)).2.2.2.2.1)

theorem left17_first (h : t.val % 72 = 0) :
    left17 m c t = VO0_17.read (Elt F) (VO0_17.writes (Elt F) VO0_17.junk (runFirst m c t h).2.2.2.2.1) := dif_pos h

theorem left17_later (h : ¬t.val % 72 = 0) :
    left17 m c t = VO0_17.read (Elt F) (VO0_17.writes (Elt F) VO0_17.junk (runLater m c t h (weights m c)).2.2.2.2.1) := dif_neg h

theorem first_cover_18 (h : t.val % 72 = 0) (y : S256x512.Idx) : ∃ p ∈ (runFirst m c t h).2.2.2.2.2.1, y ∈ p.1.set :=
  View.cover_of_tiledL (runFirst m c t h).2.2.2.2.2.1 S256x512.size (by sl_kernel_rfl) y

theorem later_cover_18 (h : ¬t.val % 72 = 0) (s : Vec F S1024x3840 .bf16) (y : S256x512.Idx) : ∃ p ∈ (runLater m c t h s).2.2.2.2.2.1, y ∈ p.1.set :=
  View.cover_of_tiledL (runLater m c t h s).2.2.2.2.2.1 S256x512.size (by sl_kernel_rfl) y

/-- What point `t` leaves for result 5. -/
def left18 : Vec F S256x512 .f32 :=
  if h : t.val % 72 = 0 then VO0_18.read (Elt F) (VO0_18.writes (Elt F) VO0_18.junk (runFirst m c t h).2.2.2.2.2.1)
  else VO0_18.read (Elt F) (VO0_18.writes (Elt F) VO0_18.junk (runLater m c t h (weights m c)).2.2.2.2.2.1)

theorem left18_first (h : t.val % 72 = 0) :
    left18 m c t = VO0_18.read (Elt F) (VO0_18.writes (Elt F) VO0_18.junk (runFirst m c t h).2.2.2.2.2.1) := dif_pos h

theorem left18_later (h : ¬t.val % 72 = 0) :
    left18 m c t = VO0_18.read (Elt F) (VO0_18.writes (Elt F) VO0_18.junk (runLater m c t h (weights m c)).2.2.2.2.2.1) := dif_neg h

theorem first_cover_19 (h : t.val % 72 = 0) (y : S16x256.Idx) : ∃ p ∈ (runFirst m c t h).2.2.2.2.2.2.1, y ∈ p.1.set :=
  View.cover_of_tiledL (runFirst m c t h).2.2.2.2.2.2.1 S16x256.size (by sl_kernel_rfl) y

theorem later_cover_19 (h : ¬t.val % 72 = 0) (s : Vec F S1024x3840 .bf16) (y : S16x256.Idx) : ∃ p ∈ (runLater m c t h s).2.2.2.2.2.2.1, y ∈ p.1.set :=
  View.cover_of_tiledL (runLater m c t h s).2.2.2.2.2.2.1 S16x256.size (by sl_kernel_rfl) y

/-- What point `t` leaves for result 6. -/
def left19 : Vec F S16x256 .f32 :=
  if h : t.val % 72 = 0 then VO0_19.read (Elt F) (VO0_19.writes (Elt F) VO0_19.junk (runFirst m c t h).2.2.2.2.2.2.1)
  else VO0_19.read (Elt F) (VO0_19.writes (Elt F) VO0_19.junk (runLater m c t h (weights m c)).2.2.2.2.2.2.1)

theorem left19_first (h : t.val % 72 = 0) :
    left19 m c t = VO0_19.read (Elt F) (VO0_19.writes (Elt F) VO0_19.junk (runFirst m c t h).2.2.2.2.2.2.1) := dif_pos h

theorem left19_later (h : ¬t.val % 72 = 0) :
    left19 m c t = VO0_19.read (Elt F) (VO0_19.writes (Elt F) VO0_19.junk (runLater m c t h (weights m c)).2.2.2.2.2.2.1) := dif_neg h

/-! ## What holds between the points -/

/-- Before position `n`: the weights in their scratch, once a point has run. -/
def between : (n : ℕ) → sProp 𝕄
  | 0 => Pipeline.ΦA spec0 c
  | _ + 1 => iprop(iprop((∃ d, owns (c : Thread nD τ) scM0_0 fullShare d) ∗ owns (c : Thread nD τ) scM0_1 fullShare (weights m c))
      ∗ (∃ r, prngReg c r))

theorem between_pos (n : ℕ) (h : n ≠ 0) : between m c n
    = iprop(iprop((∃ d, owns (c : Thread nD τ) scM0_0 fullShare d) ∗ owns (c : Thread nD τ) scM0_1 fullShare (weights m c)) ∗ (∃ r, prngReg c r)) := by
  cases n with
  | zero => exact absurd rfl h
  | succ n => rfl

/-- The run's data: every input block in place, the results of `left13` to `left19`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => left13 m c t
    | ⟨14, _⟩ => left14 m c t
    | ⟨15, _⟩ => left15 m c t
    | ⟨16, _⟩ => left16 m c t
    | ⟨17, _⟩ => left17 m c t
    | ⟨18, _⟩ => left18 m c t
    | ⟨19, _⟩ => left19 m c t
    | ⟨_ + 20, h⟩ => absurd h (Nat.not_lt.2 (Nat.le_add_left _ _))
  Φ t := between m c t.val
  q w := Pipeline.shareOf spec0 w
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = left13 m c t := by dsimp only [dats]
theorem after_14 : (dats m 0 c).after 14 t = left14 m c t := by dsimp only [dats]
theorem after_15 : (dats m 0 c).after 15 t = left15 m c t := by dsimp only [dats]
theorem after_16 : (dats m 0 c).after 16 t = left16 m c t := by dsimp only [dats]
theorem after_17 : (dats m 0 c).after 17 t = left17 m c t := by dsimp only [dats]
theorem after_18 : (dats m 0 c).after 18 t = left18 m c t := by dsimp only [dats]
theorem after_19 : (dats m 0 c).after 19 t = left19 m c t := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
theorem before_10 (d) : (dats m 0 c).before 10 t d = iblk m c 10 t := before0_10_of m (dats m 0 c) (A_eq m c 10) (after_10 m c) t d
theorem before_11 (d) : (dats m 0 c).before 11 t d = iblk m c 11 t := before0_11_of m (dats m 0 c) (A_eq m c 11) (after_11 m c) t d
theorem before_12 (d) : (dats m 0 c).before 12 t d = iblk m c 12 t := before0_12_of m (dats m 0 c) (A_eq m c 12) (after_12 m c) t d

/-! ## The body's obligation -/

def given : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def returned : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body at the point that fills the scratch. -/
theorem first_body (h : t.val % 72 = 0) :
    given m c t ⊢ wp frame (wpE (defs₀ (F := F)) Variants.none c none) Set.univ (bodyAt0 t) (fun _ => returned m c t) := by
  have hz : t = start := Fin.ext (by have : t.val < 72 := t.isLt; show t.val = 0; omega)
  unfold given returned bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.succ = between m c (t.val + 1) from rfl, show (dats m 0 c).Φ t.castSucc = between m c t.val from rfl,
    between_pos m c (t.val + 1) (Nat.succ_ne_zero _)]
  rw [show between m c t.val = Pipeline.ΦA spec0 c by rw [hz]; rfl, PhiA0_eq,
    left13_first m c t h, left14_first m c t h, left15_first m c t h, left16_first m c t h, left17_first m c t h, left18_first m c t h, left19_first m c t h,
    show weights m c = VS0_1.read (Elt F) (VS0_1.writes (Elt F) VS0_1.junk (runFirst m c t h).2.2.2.2.2.2.2.1) by subst hz; rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runFirst m c t h).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%f0, HS0⟩, ⟨%f1, HS1⟩⟩
  isplitl [HS0 HS1 Hg]
  · isplitl [HS0 HS1]
    · isplitl [HS0]
      · iexists _; unfold owns; iexists _; isplitr
        swap; · iexact HS0
        ipureintro; rfl
      unfold owns; iexists _; isplitr
      swap; · iexact HS1
      ipureintro; exact View.read_writes_of_cover _ _ _ _ _ (weights_cover m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (first_cover_13 m c t h)
  isplitl [H14]
  · unfold owns; iexists _; isplitr
    swap; · iexact H14
    ipureintro; exact View.read_writes_of_cover _ _ _ _ _ (first_cover_14 m c t h)
  isplitl [H15]
  · unfold owns; iexists _; isplitr
    swap; · iexact H15
    ipureintro; exact View.read_writes_of_cover _ _ _ _ _ (first_cover_15 m c t h)
  isplitl [H16]
  · unfold owns; iexists _; isplitr
    swap; · iexact H16
    ipureintro; exact View.read_writes_of_cover _ _ _ _ _ (first_cover_16 m c t h)
  isplitl [H17]
  · unfold owns; iexists _; isplitr
    swap; · iexact H17
    ipureintro; exact View.read_writes_of_cover _ _ _ _ _ (first_cover_17 m c t h)
  isplitl [H18]
  · unfold owns; iexists _; isplitr
    swap; · iexact H18
    ipureintro; exact View.read_writes_of_cover _ _ _ _ _ (first_cover_18 m c t h)
  unfold owns; iexists _; isplitr
  swap; · iexact H19
  ipureintro; exact View.read_writes_of_cover _ _ _ _ _ (first_cover_19 m c t h)

set_option maxHeartbeats 16000000 in
/-- The body at another point. -/
theorem later_body (h : ¬t.val % 72 = 0) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.succ = between m c (t.val + 1) from rfl, show (dats m 0 c).Φ t.castSucc = between m c t.val from rfl,
    between_pos m c (t.val + 1) (Nat.succ_ne_zero _)]
  rw [between_pos m c t.val (by omega), left13_later m c t h, left14_later m c t h, left15_later m c t h, left16_later m c t h, left17_later m c t h, left18_later m c t h, left19_later m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runLater m c t h (weights m c)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%f0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (later_cover_13 m c t h (weights m c))
  isplitl [H14]
  · unfold owns; iexists _; isplitr
    swap; · iexact H14
    ipureintro; exact View.read_writes_of_cover _ _ _ _ _ (later_cover_14 m c t h (weights m c))
  isplitl [H15]
  · unfold owns; iexists _; isplitr
    swap; · iexact H15
    ipureintro; exact View.read_writes_of_cover _ _ _ _ _ (later_cover_15 m c t h (weights m c))
  isplitl [H16]
  · unfold owns; iexists _; isplitr
    swap; · iexact H16
    ipureintro; exact View.read_writes_of_cover _ _ _ _ _ (later_cover_16 m c t h (weights m c))
  isplitl [H17]
  · unfold owns; iexists _; isplitr
    swap; · iexact H17
    ipureintro; exact View.read_writes_of_cover _ _ _ _ _ (later_cover_17 m c t h (weights m c))
  isplitl [H18]
  · unfold owns; iexists _; isplitr
    swap; · iexact H18
    ipureintro; exact View.read_writes_of_cover _ _ _ _ _ (later_cover_18 m c t h (weights m c))
  unfold owns; iexists _; isplitr
  swap; · iexact H19
  ipureintro; exact View.read_writes_of_cover _ _ _ _ _ (later_cover_19 m c t h (weights m c))

theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := given m c t) ?_ rfl .rfl fun _ => .rfl
  by_cases h : t.val % 72 = 0
  · exact first_body m c t h
  · exact later_body m c t h

/-! ## The run -/

theorem at_launch : Pipeline.ΦA spec0 c ⊢ (dats m 0 c).Φ 0 := by
  rw [show (dats m 0 c).Φ 0 = Pipeline.ΦA spec0 c from rfl]

theorem at_end : (dats m 0 c).Φ (Fin.last cfg0.N) ⊢ Pipeline.ΦA spec0 c := by
  rw [show (dats m 0 c).Φ (Fin.last cfg0.N) = between m c 72 from rfl, between_pos m c 72 (by decide), PhiA0_eq]
  iintro ⟨⟨HS0, HS1⟩, Hg⟩
  isplitl [HS0 HS1]
  · isplitl [HS0]
    · iexact HS0
    iexists _; iexact HS1
  iexact Hg

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := at_launch m) (hout := at_end m)

theorem run_post : θ_run defs (onTc (τ := τ) (main (F := F))) (s₀ m ρ) (Pipeline.FramePost cfgs (dats m) 0 (V m)) :=
  (θ_run defs _ _).mono (fun _ h => h.1) (run_all m ρ)

/-- The arguments end unchanged, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_post m ρ)) ((θ_run defs _ _).mono (fun _ h => h.2) (run_all m ρ))

end Cert.Proj

end
-- ==== Proof.ProjRef.lean ====
/- What the reference of the input projection computes, entry by entry over the extended reals. -/
module

public import proofs.«01_k».proof.Proof.Gen.Reference6Ideal.Read
public import proofs.«01_k».proof.Proof.DenseRow

@[expose] public section

set_option maxRecDepth 16384

noncomputable section

namespace Cert.Proj

open Cert.Reference6Ideal Cert.Reference6Ideal.Gen Cert.Reference6Ideal.Read Cert.Dense Idealize.ShloMosaic Idealize.ShloMosaic.TcCoe Idealize.SL.Sem

variable (x0 : FVec Ideal S18432x1024 .f32) (x1 : FVec Ideal S9x6x1024 .f32) (x2 : FVec Ideal S1x1024 .f32) (x3 : FVec Ideal S2x1024x3600 .f32)

/-- Row `r`, normalized and modulated. -/
def inputRow (r : Fin 18432) : Fin 1024 → EReal :=
  normed (fun j => x0 (ix2 r j)) (fun j => x2 (ix2 0 j)) (modOf x1 r 1) (modOf x1 r 0)

/-- Its product with column `n` of the second layer's weights. -/
def column (r : Fin 18432) (n : Fin 3600) : EReal := ∑ d, inputRow x0 x1 x2 r d * x3 (ix3 1 d n)

theorem mods_apply (r : Fin 18432) (k : Fin 6) (j : Fin 1024) : val_main_v7 (F := Ideal) x1 (ix3 r k j) = modOf x1 r k j := by
  pointwise [val_main_v7, val_main_v6, val_main_v5, val_main_v4, val_main_v3, val_main_v2, val_main_v1, val_main_v0]
  split <;> rename_i hk
  · exact modOf_eq x1 r k j _ (by simp; omega) (by simp) (by simp)
  · exact modOf_eq x1 r k j _ (by simp; omega) (by simp) (by simp)

theorem scale_apply (r : Fin 18432) (j : Fin 1024) : val_main_v23 (F := Ideal) x1 (ix2 r j) = modOf x1 r 1 j := by
  rw [val_main_v23_apply, val_main_v22_apply, ← mods_apply]
  refine congrArg (val_main_v7 (F := Ideal) x1) (funext fun a => Fin.ext ?_)
  have hj := j.isLt
  fin_cases a <;> simp [idx_main_v23, idx_main_v22] <;> omega

theorem shift_apply (r : Fin 18432) (j : Fin 1024) : val_main_v28 (F := Ideal) x1 (ix2 r j) = modOf x1 r 0 j := by
  rw [val_main_v28_apply, val_main_v27_apply, ← mods_apply]
  refine congrArg (val_main_v7 (F := Ideal) x1) (funext fun a => Fin.ext ?_)
  have hj := j.isLt
  fin_cases a <;> simp [idx_main_v28, idx_main_v27] <;> omega

theorem input_apply (r : Fin 18432) (j : Fin 1024) : val_main_v29 (F := Ideal) x0 x1 x2 (ix2 r j) = inputRow x0 x1 x2 r j := by
  have h3 := shift_apply x1 r
  have h4 := scale_apply x1 r
  unfold val_main_v29 val_main_v26 val_main_v21 val_main_v25 val_main_v17 val_main_v16 val_main_v15 val_main_v14 val_main_v12 val_main_v10
    val_main_v9 val_main_v8
  generalize val_main_v28 (F := Ideal) x1 = p at h3 ⊢
  generalize val_main_v23 (F := Ideal) x1 = q at h4 ⊢
  pointwise [val_main_v20, val_main_v19, val_main_v18, val_main_v24, val_main_v13, val_main_v11, val_main_cst, val_main_cst_0, val_main_cst_1,
    val_main_cst_2, inputRow, normed, h3, h4]

theorem weights_apply (d : Fin 1024) (n : Fin 3600) : val_main_v31 (F := Ideal) x3 (ix2 d n) = x3 (ix3 1 d n) := by
  rw [val_main_v31_apply, val_main_v30_apply]
  refine congrArg x3 (funext fun a => Fin.ext ?_)
  have hd := d.isLt
  have hn := n.isLt
  fin_cases a <;> simp [idx_main_v31, idx_main_v30] <;> omega

theorem column_apply (r : Fin 18432) (n : Fin 3600) : val_main_v32 (F := Ideal) x0 x1 x2 x3 (ix2 r n) = column x0 x1 x2 x3 r n := by
  rw [val_main_v32_apply]
  have el : ∀ k, lidx_main_v32 (ix2 r n) k = ix2 r k := fun k => by funext a; apply Fin.ext; fin_cases a <;> rfl
  have er : ∀ k, ridx_main_v32 (ix2 r n) k = ix2 k n := fun k => by funext a; apply Fin.ext; fin_cases a <;> rfl
  simp only [el, er, input_apply, weights_apply]
  rfl

theorem values_apply (r : Fin 18432) (j : Fin 512) :
    val_main_v34 (F := Ideal) x0 x1 x2 x3 (ix2 r j) = column x0 x1 x2 x3 r ⟨1024 + j, by omega⟩ := by
  rw [← column_apply]
  show val_main_v33 (F := Ideal) x0 x1 x2 x3 (ix2 r j) = _
  rw [val_main_v33_apply]
  refine congrArg (val_main_v32 (F := Ideal) x0 x1 x2 x3) (funext fun a => Fin.ext ?_)
  fin_cases a <;> simp [idx_main_v33]

theorem memories_apply (r : Fin 18432) (j : Fin 512) :
    val_main_v36 (F := Ideal) x0 x1 x2 x3 (ix2 r j) = column x0 x1 x2 x3 r ⟨2560 + j, by omega⟩ := by
  rw [← column_apply]
  show val_main_v35 (F := Ideal) x0 x1 x2 x3 (ix2 r j) = _
  rw [val_main_v35_apply]
  refine congrArg (val_main_v32 (F := Ideal) x0 x1 x2 x3) (funext fun a => Fin.ext ?_)
  fin_cases a <;> simp [idx_main_v35]

theorem outputs_apply (r : Fin 18432) (j : Fin 512) :
    val_main_v37 (F := Ideal) x0 x1 x2 x3 (ix2 r j) = column x0 x1 x2 x3 r ⟨3072 + j, by omega⟩ := by
  rw [← column_apply, val_main_v37_apply]
  refine congrArg (val_main_v32 (F := Ideal) x0 x1 x2 x3) (funext fun a => Fin.ext ?_)
  fin_cases a <;> simp [idx_main_v37]

end Cert.Proj

end
-- ==== Proof.ProjTile.lean ====
/- One tile of the input projection, entry by entry over the extended reals. -/
module

public import proofs.«01_k».proof.Proof.Gen.Kernel6Ideal.Skeleton
public import proofs.«01_k».proof.Proof.DenseRow

@[expose] public section

set_option maxRecDepth 16384

noncomputable section

namespace Cert.Proj

open Cert.Kernel6Ideal Cert.Kernel6Ideal.Gen Cert.Dense Idealize.ShloMosaic Idealize.ShloMosaic.TcCoe Idealize.SL.Sem

/-- A tile's rows, without the eight before and the eight after. -/
theorem stacked_apply (p n : FVec Ideal S8x1024 .f32) (x : FVec Ideal S256x1024 .f32) (i : Fin 256) (j : Fin 1024) :
    concatenate S272x1024 0 [⟨S8x1024, p⟩, ⟨S256x1024, x⟩, ⟨S8x1024, n⟩] concatenates_S8x1024_S256x1024_S8x1024_S272x1024_d0
      (ix2 (⟨8 + i, by omega⟩ : Fin 272) j) = x (ix2 i j) := by
  pointwise []

/-- The tile's rows, normalized and modulated. -/
theorem inputTile_apply (co : grid0.Coords) (p n : FVec Ideal S8x1024 .f32) (a b : FVec Ideal S256x1024 .f32) (g : FVec Ideal S1x1024 .f32)
    (u w : FVec Ideal S1x1x1024 .f32) (i : Fin 256) (j : Fin 1024) :
    k0_pay13 (F := Ideal) (k0_pay10 (F := Ideal) co p a b n) g u w (ix2 i j)
      = normed (fun y => (Scalar.select (Scalar.cmpi .slt (BitVec.ofNat 32 (co 0).val) 8#32) a b : FVec Ideal S256x1024 .f32) (ix2 i y))
          (fun y => g (ix2 0 y)) (fun y => u (ix3 0 0 y)) (fun y => w (ix3 0 0 y)) j := by
  unfold k0_pay13 k0_pay12 k0_pay11 k0_pay10
  dsimp only
  generalize (Scalar.select (Scalar.cmpi .slt (BitVec.ofNat 32 (co 0).val) 8#32) a b : FVec Ideal S256x1024 .f32) = x
  have hc := stacked_apply p n x i
  generalize concatenate S272x1024 0 [⟨S8x1024, p⟩, ⟨S256x1024, x⟩, ⟨S8x1024, n⟩] concatenates_S8x1024_S256x1024_S8x1024_S272x1024_d0 = y at hc ⊢
  pointwise [normed, hc]

/-- Their product with a block of columns. -/
theorem values_tile (h : FVec Ideal S256x1024 .bf16) (w : FVec Ideal S1024x512 .bf16) (i : Fin 256) (j : Fin 512) :
    k0_pay38 (F := Ideal) h w (ix2 i j) = ∑ d : Fin 1024, h (ix2 i d) * w (ix2 d j) := by
  pointwise [k0_pay38]

theorem memories_tile (h : FVec Ideal S256x1024 .bf16) (w : FVec Ideal S1024x512 .bf16) (i : Fin 256) (j : Fin 512) :
    k0_pay42 (F := Ideal) h w (ix2 i j) = ∑ d : Fin 1024, h (ix2 i d) * w (ix2 d j) := by
  pointwise [k0_pay42]

theorem outputs_tile (h : FVec Ideal S256x1024 .bf16) (w : FVec Ideal S1024x512 .bf16) (i : Fin 256) (j : Fin 512) :
    k0_pay46 (F := Ideal) h w (ix2 i j) = ∑ d : Fin 1024, h (ix2 i d) * w (ix2 d j) := by
  pointwise [k0_pay46]

/-- The weights as the first point keeps them. -/
theorem kept_tile (w : FVec Ideal S1x1024x3584 .f32) (d : Fin 1024) (j : Fin 3584) : k0_pay4 (F := Ideal) w (ix2 d j) = w (ix3 0 d j) := by
  pointwise [k0_pay4]

end Cert.Proj

end
-- ==== Proof.ProjArray.lean ====
/- What the input projection leaves in its arrays of values, mLSTM values and mLSTM output gates. -/
module

public import proofs.«01_k».proof.Proof.ProjFrame
public import proofs.«01_k».proof.Proof.ProjRef
public import proofs.«01_k».proof.Proof.ProjTile
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Proj

open Cert.Kernel6Ideal Cert.Kernel6Ideal.Gen Cert.Dense Idealize.ShloMosaic Idealize.ShloMosaic.TcCoe Idealize.SL.Sem

variable (m : (ℓ : Loc nD τ sig) → Buf (Elt Ideal) ℓ) (c : Dev nD) (t : Fin cfg0.N)

/-! ## The blocks a point reads -/

theorem index_at : ∀ t : Fin grid0.N, (win0_0.index t = ![min t.val 7, 0] ∧ win0_1.index t = ![max t.val 8, 0]
    ∧ win0_4.index t = ![t.val / 8, 0, 0] ∧ win0_5.index t = ![0, 0] ∧ win0_6.index t = ![1, 0, 0] ∧ win0_14.index t = ![t.val, 0]
    ∧ win0_17.index t = ![t.val, 0] ∧ win0_18.index t = ![t.val, 0]) := by
  decide +kernel

theorem early_at : ∀ t : Fin grid0.N, Scalar.cmpi .slt (BitVec.ofNat 32 (grid0.coords t 0).val) 8#32 = if t.val < 8 then 1#1 else 0#1 := by
  decide +kernel

/-- The row that point `t`'s row `i` is. -/
abbrev rowNo (i : Fin 256) : Fin 18432 := ⟨256 * t.val + i, by have : t.val < 72 := t.isLt; omega⟩

theorem rows_at (i : Fin 256) (j : Fin 1024) :
    ((Scalar.select (Scalar.cmpi .slt (BitVec.ofNat 32 (grid0.coords t 0).val) 8#32) (iblk m c 0 t : FVec Ideal S256x1024 .f32)
      (iblk m c 1 t : FVec Ideal S256x1024 .f32)) (ix2 i j) : EReal) = m ((c : Thread nD τ).loc main_arg0) (ix2 (rowNo t i) j) := by
  have hr : (rowNo t i).val = 256 * t.val + i := rfl
  rw [early_at t]
  by_cases h : t.val < 8
  · have ht := (index_at t).1
    rw [if_pos h]
    refine Eq.trans (b := V m c main_arg0 (((cfg0.win 0).blk t).view.emb (ix2 i j))) rfl ?_
    rw [V_main_arg0]
    refine congrArg _ (funext fun a => Fin.ext ?_)
    match a with
    | ⟨0, _⟩ => blk_simp [ht]; omega
    | ⟨1, _⟩ => blk_simp [ht]
  · have ht := (index_at t).2.1
    rw [if_neg h]
    refine Eq.trans (b := V m c main_arg0 (((cfg0.win 1).blk t).view.emb (ix2 i j))) rfl ?_
    rw [V_main_arg0]
    refine congrArg _ (funext fun a => Fin.ext ?_)
    match a with
    | ⟨0, _⟩ => blk_simp [ht]; omega
    | ⟨1, _⟩ => blk_simp [ht]

/-- The rows of kind `k` in a block of the modulations. -/
abbrev kind (X : Vec Ideal S1x6x1024 .f32) (k : ℕ) (h : ∀ a, (![0, k, 0] : Fin S1x6x1024.rank → ℕ) a + S1x1x1024.size a ≤ S1x6x1024.size a) :
    Vec Ideal S1x1x1024 .f32 := View.ld X (Rect.unit ![0, k, 0] S1x1x1024.size h)

theorem kind_at (k : Fin 6) (h) (i : Fin 256) (j : Fin 1024) :
    (kind (iblk m c 4 t) k h (ix3 0 0 j) : EReal) = modOf (m ((c : Thread nD τ).loc main_arg1)) (rowNo t i) k j := by
  have hr : (rowNo t i).val = 256 * t.val + i := rfl
  have ht := (index_at t).2.2.1
  refine Eq.trans (b := V m c main_arg1 (((cfg0.win 4).blk t).view.emb ((Rect.unit (s := S1x6x1024) ![0, k.val, 0] S1x1x1024.size h).emb (ix3 0 0 j)))) rfl ?_
  rw [V_main_arg1]
  refine modOf_eq _ (rowNo t i) k j _ ?_ ?_ ?_
  · blk_simp [ht]
    omega
  · blk_simp [ht]
    rfl
  · blk_simp [ht]

theorem gains_at (j : Fin 1024) : (iblk m c 5 t : S1x1024.Idx → EReal) (ix2 0 j) = m ((c : Thread nD τ).loc main_arg2) (ix2 0 j) := by
  have ht := (index_at t).2.2.2.1
  refine Eq.trans (b := V m c main_arg2 (((cfg0.win 5).blk t).view.emb (ix2 0 j))) rfl ?_
  rw [V_main_arg2]
  refine congrArg _ (funext fun a => Fin.ext ?_)
  match a with
  | ⟨0, _⟩ => blk_simp [ht]
  | ⟨1, _⟩ => blk_simp [ht]

/-- The columns of the second layer's weights that the kernel keeps in one piece. -/
abbrev head (X : Vec Ideal S1x1024x3600 .f32) : Vec Ideal S1x1024x3584 .f32 :=
  View.ld X (Rect.unit ![0, 0, 0] S1x1024x3584.size inb_S1x1024x3600_S1x1024x3584_0_0_0)

theorem head_at (d : Fin 1024) (j : Fin 3584) :
    (head (iblk m c 6 t) (ix3 0 d j) : EReal) = m ((c : Thread nD τ).loc main_arg3) (ix3 1 d ⟨j, by omega⟩) := by
  have ht := (index_at t).2.2.2.2.1
  refine Eq.trans (b := V m c main_arg3 (((cfg0.win 6).blk t).view.emb
    ((Rect.unit (s := S1x1024x3600) ![0, 0, 0] S1x1024x3584.size inb_S1x1024x3600_S1x1024x3584_0_0_0).emb (ix3 0 d j)))) rfl ?_
  rw [V_main_arg3]
  refine congrArg _ (funext fun a => Fin.ext ?_)
  match a with
  | ⟨0, _⟩ => blk_simp [ht]; rfl
  | ⟨1, _⟩ => blk_simp [ht]
  | ⟨2, _⟩ => blk_simp [ht]

/-! ## The kept weights and the normalized rows -/

/-- The weights' scratch, as the first point's stores leave it. -/
abbrev scratchPieces := (runFirst (F := Ideal) m c start rfl).2.2.2.2.2.2.2.1

theorem scratch_apply (y : S1024x3840.Idx) : weights m c y = View.canon (scratchPieces m c) y :=
  congrFun (View.read_writes_junk_eq_canon VS0_1 (scratchPieces m c)) y

theorem kept_at : VS0_1.readCov (scratchPieces m c)
      (Rect.unit (s := S1024x3840) ![0, 0] S1024x3584.size inb_S1024x3840_S1024x3584_0_0).toLoadRect
    = k0_pay4 (F := Ideal) (head (iblk m c 6 start)) := by
  unfold scratchPieces runFirst kernelRun0_A
  dsimp only
  sl_unfold_words
  simp (disch := decide +kernel) only [↓View.readCov_skip, ↓View.readCov_cons_toLoadRect, View.readAt_eq_ld, Memref.IsWhole.read_unread]

theorem weights_at (d : Fin 1024) (j : Fin 3840) (h : j.val < 3584) :
    (weights m c (ix2 d j) : EReal) = m ((c : Thread nD τ).loc main_arg3) (ix3 1 d ⟨j, by omega⟩) := by
  have hj : (ix2 d j : S1024x3840.Idx)
      = (Rect.unit (s := S1024x3840) ![0, 0] S1024x3584.size inb_S1024x3840_S1024x3584_0_0).emb (ix2 d (⟨j, h⟩ : Fin 3584)) := by
    funext a; apply Fin.ext
    match a with
    | ⟨0, _⟩ => blk_simp []
    | ⟨1, _⟩ => blk_simp []
  have hr := (congrFun (View.readCov_eq_canon' VS0_1 (scratchPieces m c)
    (Rect.unit (s := S1024x3840) ![0, 0] S1024x3584.size inb_S1024x3840_S1024x3584_0_0).toLoadRect) (ix2 d (⟨j, h⟩ : Fin 3584))).symm
  exact (scratch_apply m c _).trans ((congrArg (View.canon (scratchPieces m c)) hj).trans (hr.trans
    ((congrFun (kept_at m c) _).trans ((kept_tile _ d ⟨j, h⟩).trans (head_at m c start d ⟨j, h⟩)))))

/-- The columns from `o` on of the weights' scratch, read where the first point has just filled it. -/
theorem filled_eq (o : ℕ) (h) : VS0_1.readCov (scratchPieces m c) (Rect.unit (s := S1024x3840) ![0, o] S1024x512.size h).toLoadRect
    = View.ld (weights m c) (Rect.unit (s := S1024x3840) ![0, o] S1024x512.size h) :=
  (View.readCov_eq_canon' VS0_1 (scratchPieces m c) _).trans (funext fun _ => (scratch_apply m c _).symm)

/-- The tile's rows, normalized, as point `t` computes them. -/
def inputTile : FVec Ideal S256x1024 .bf16 :=
  k0_pay13 (k0_pay10 (grid0.coords t) (iblk m c 2 t) (iblk m c 0 t) (iblk m c 1 t) (iblk m c 3 t)) (iblk m c 5 t)
    (kind (iblk m c 4 t) 1 inb_S1x6x1024_S1x1x1024_0_1_0) (kind (iblk m c 4 t) 0 inb_S1x6x1024_S1x1x1024_0_0_0)

/-- Row `r` normalized, of the arguments at launch. -/
abbrev inputM : Fin 18432 → Fin 1024 → EReal :=
  inputRow (m ((c : Thread nD τ).loc main_arg0)) (m ((c : Thread nD τ).loc main_arg1)) (m ((c : Thread nD τ).loc main_arg2))

theorem inputTile_at (i : Fin 256) (j : Fin 1024) : (inputTile m c t (ix2 i j) : EReal) = inputM m c (rowNo t i) j := by
  refine (inputTile_apply _ _ _ _ _ _ _ _ i j).trans ?_
  have hs : (fun y => (kind (iblk m c 4 t) 1 inb_S1x6x1024_S1x1x1024_0_1_0 (ix3 0 0 y) : EReal)) = _ :=
    funext (kind_at m c t 1 inb_S1x6x1024_S1x1x1024_0_1_0 i)
  have hb : (fun y => (kind (iblk m c 4 t) 0 inb_S1x6x1024_S1x1x1024_0_0_0 (ix3 0 0 y) : EReal)) = _ :=
    funext (kind_at m c t 0 inb_S1x6x1024_S1x1x1024_0_0_0 i)
  rw [funext (rows_at m c t i), funext (gains_at m c t), hs, hb]
  rfl

abbrev columnM : Fin 18432 → Fin 3600 → EReal :=
  column (m ((c : Thread nD τ).loc main_arg0)) (m ((c : Thread nD τ).loc main_arg1)) (m ((c : Thread nD τ).loc main_arg2))
    (m ((c : Thread nD τ).loc main_arg3))

/-- The columns from `o` on. -/
theorem columns_at (o : ℕ) (h) (i : Fin 256) (j : Fin 512) (ho : o + 512 ≤ 3584) :
    ∑ d : Fin 1024, (inputTile m c t (ix2 i d) : EReal)
        * View.ld (weights m c) (Rect.unit (s := S1024x3840) ![0, o] S1024x512.size h) (ix2 d j)
      = columnM m c (rowNo t i) ⟨o + j, by omega⟩ := by
  refine Finset.sum_congr rfl fun d _ => congrArg₂ (fun a b : EReal => a * b) (inputTile_at m c t i d) ?_
  have hj : (Rect.unit (s := S1024x3840) ![0, o] S1024x512.size h).emb (ix2 d j) = ix2 d (⟨o + j, by omega⟩ : Fin 3840) := by
    funext a; apply Fin.ext
    match a with
    | ⟨0, _⟩ => blk_simp []
    | ⟨1, _⟩ => blk_simp []
  refine Eq.trans (b := weights m c ((Rect.unit (s := S1024x3840) ![0, o] S1024x512.size h).emb (ix2 d j))) rfl ?_
  rw [hj]
  exact weights_at m c d _ (by show o + j.val < 3584; omega)

/-! ## The three arrays -/

theorem kept_read (s : Vec Ideal S1024x3840 .bf16) :
    View.read (Elt Ideal) (View.whole cc0_scratch1) ((Memref.isWhole_whole cc0_scratch1).unread s) = s :=
  (Memref.isWhole_whole cc0_scratch1).read_unread s

theorem later14_eq (h : ¬t.val % 72 = 0) (s : Vec Ideal S1024x3840 .bf16) : View.canon (runLater m c t h s).2.1
    = k0_pay38 (F := Ideal) (inputTile m c t) (View.ld s (Rect.unit ![0, 1024] S1024x512.size inb_S1024x3840_S1024x512_0_1024)) := by
  unfold runLater kernelRun0_B inputTile
  dsimp only
  sl_unfold_words
  refine (View.canon_cons_unit_lit' _ _ _ (by decide)).trans ?_
  simp (disch := decide +kernel) only [View.readAt_eq_ld, Memref.IsWhole.read_unread, View.ld_unit_lit']
  exact congrArg₂ (k0_pay38 (F := Ideal)) rfl (congrFun (congrArg View.ld (kept_read s)) _)

theorem first14_eq : View.canon (runFirst m c start rfl).2.1 = k0_pay38 (F := Ideal) (inputTile m c start)
    (VS0_1.readCov (scratchPieces m c) (Rect.unit (s := S1024x3840) ![0, 1024] S1024x512.size inb_S1024x3840_S1024x512_0_1024).toLoadRect) := by
  unfold scratchPieces runFirst kernelRun0_A inputTile
  dsimp only
  sl_unfold_words
  refine (View.canon_cons_unit_lit' _ _ _ (by decide)).trans ?_
  simp (disch := decide +kernel) only [View.readAt_eq_ld, Memref.IsWhole.read_unread, View.ld_unit_lit']

theorem left14_eq : left14 m c t = k0_pay38 (F := Ideal) (inputTile m c t)
    (View.ld (weights m c) (Rect.unit ![0, 1024] S1024x512.size inb_S1024x3840_S1024x512_0_1024)) := by
  by_cases h : t.val % 72 = 0
  · obtain rfl : t = start := Fin.ext (by have : t.val < 72 := t.isLt; show t.val = 0; omega)
    refine (left14_first m c start h).trans ((View.read_writes_junk_eq_canon VO0_14 _).trans ((first14_eq m c).trans ?_))
    exact congrArg (k0_pay38 (F := Ideal) (inputTile m c start)) (filled_eq m c 1024 inb_S1024x3840_S1024x512_0_1024)
  · exact (left14_later m c t h).trans ((View.read_writes_junk_eq_canon VO0_14 _).trans (later14_eq m c t h (weights m c)))

def result14 : FVec Ideal S18432x512 .bf16 :=
  Cert.Reference6Ideal.Read.val_main_v34 (F := Ideal) (m ((c : Thread nD τ).loc main_arg0)) (m ((c : Thread nD τ).loc main_arg1))
    (m ((c : Thread nD τ).loc main_arg2)) (m ((c : Thread nD τ).loc main_arg3))

theorem left14_at (i : Fin 256) (j : Fin 512) : (left14 m c t (ix2 i j) : EReal) = result14 m c (ix2 (rowNo t i) j) := by
  rw [left14_eq]
  refine (values_tile (inputTile m c t) _ i j).trans ?_
  refine (columns_at m c t 1024 inb_S1024x3840_S1024x512_0_1024 i j (by decide)).trans ?_
  exact (values_apply _ _ _ _ (rowNo t i) j).symm

theorem arr14_eq : (dats m 0 c).arrAt 14 cfg0.N = result14 m c := by
  refine (dats m 0 c).arrAt_eq_of_covers 14 _ (by decide +kernel) fun t hf y => ?_
  obtain ⟨i, j, rfl⟩ : ∃ (i : Fin 256) (j : Fin 512), y = ix2 i j := ⟨y 0, y 1, eq_ix2 y⟩
  have ht := (index_at t).2.2.2.2.2.1
  refine Eq.trans (b := left14 m c t (ix2 i j)) ?_ ((left14_at m c t i j).trans ?_)
  · exact congrFun (congrArg ((cfg0.win 14).cut (grid0.coords t)) (after_14 m c t)) _
  · refine congrArg (result14 m c) (funext fun a => Fin.ext ?_)
    match a with
    | ⟨0, _⟩ =>
      show 256 * t.val + i.val = _
      blk_simp [ht]
      omega
    | ⟨1, _⟩ => blk_simp [ht]

theorem later17_eq (h : ¬t.val % 72 = 0) (s : Vec Ideal S1024x3840 .bf16) : View.canon (runLater m c t h s).2.2.2.2.1
    = k0_pay42 (F := Ideal) (inputTile m c t) (View.ld s (Rect.unit ![0, 2560] S1024x512.size inb_S1024x3840_S1024x512_0_2560)) := by
  unfold runLater kernelRun0_B inputTile
  dsimp only
  sl_unfold_words
  refine (View.canon_cons_unit_lit' _ _ _ (by decide)).trans ?_
  simp (disch := decide +kernel) only [View.readAt_eq_ld, Memref.IsWhole.read_unread, View.ld_unit_lit']
  exact congrArg₂ (k0_pay42 (F := Ideal)) rfl (congrFun (congrArg View.ld (kept_read s)) _)

theorem first17_eq : View.canon (runFirst m c start rfl).2.2.2.2.1 = k0_pay42 (F := Ideal) (inputTile m c start)
    (VS0_1.readCov (scratchPieces m c) (Rect.unit (s := S1024x3840) ![0, 2560] S1024x512.size inb_S1024x3840_S1024x512_0_2560).toLoadRect) := by
  unfold scratchPieces runFirst kernelRun0_A inputTile
  dsimp only
  sl_unfold_words
  refine (View.canon_cons_unit_lit' _ _ _ (by decide)).trans ?_
  simp (disch := decide +kernel) only [View.readAt_eq_ld, Memref.IsWhole.read_unread, View.ld_unit_lit']

theorem left17_eq : left17 m c t = k0_pay42 (F := Ideal) (inputTile m c t)
    (View.ld (weights m c) (Rect.unit ![0, 2560] S1024x512.size inb_S1024x3840_S1024x512_0_2560)) := by
  by_cases h : t.val % 72 = 0
  · obtain rfl : t = start := Fin.ext (by have : t.val < 72 := t.isLt; show t.val = 0; omega)
    refine (left17_first m c start h).trans ((View.read_writes_junk_eq_canon VO0_17 _).trans ((first17_eq m c).trans ?_))
    exact congrArg (k0_pay42 (F := Ideal) (inputTile m c start)) (filled_eq m c 2560 inb_S1024x3840_S1024x512_0_2560)
  · exact (left17_later m c t h).trans ((View.read_writes_junk_eq_canon VO0_17 _).trans (later17_eq m c t h (weights m c)))

def result17 : FVec Ideal S18432x512 .bf16 :=
  Cert.Reference6Ideal.Read.val_main_v36 (F := Ideal) (m ((c : Thread nD τ).loc main_arg0)) (m ((c : Thread nD τ).loc main_arg1))
    (m ((c : Thread nD τ).loc main_arg2)) (m ((c : Thread nD τ).loc main_arg3))

theorem left17_at (i : Fin 256) (j : Fin 512) : (left17 m c t (ix2 i j) : EReal) = result17 m c (ix2 (rowNo t i) j) := by
  rw [left17_eq]
  refine (memories_tile (inputTile m c t) _ i j).trans ?_
  refine (columns_at m c t 2560 inb_S1024x3840_S1024x512_0_2560 i j (by decide)).trans ?_
  exact (memories_apply _ _ _ _ (rowNo t i) j).symm

theorem arr17_eq : (dats m 0 c).arrAt 17 cfg0.N = result17 m c := by
  refine (dats m 0 c).arrAt_eq_of_covers 17 _ (by decide +kernel) fun t hf y => ?_
  obtain ⟨i, j, rfl⟩ : ∃ (i : Fin 256) (j : Fin 512), y = ix2 i j := ⟨y 0, y 1, eq_ix2 y⟩
  have ht := (index_at t).2.2.2.2.2.2.1
  refine Eq.trans (b := left17 m c t (ix2 i j)) ?_ ((left17_at m c t i j).trans ?_)
  · exact congrFun (congrArg ((cfg0.win 17).cut (grid0.coords t)) (after_17 m c t)) _
  · refine congrArg (result17 m c) (funext fun a => Fin.ext ?_)
    match a with
    | ⟨0, _⟩ =>
      show 256 * t.val + i.val = _
      blk_simp [ht]
      omega
    | ⟨1, _⟩ => blk_simp [ht]

theorem later18_eq (h : ¬t.val % 72 = 0) (s : Vec Ideal S1024x3840 .bf16) : View.canon (runLater m c t h s).2.2.2.2.2.1
    = k0_pay46 (F := Ideal) (inputTile m c t) (View.ld s (Rect.unit ![0, 3072] S1024x512.size inb_S1024x3840_S1024x512_0_3072)) := by
  unfold runLater kernelRun0_B inputTile
  dsimp only
  sl_unfold_words
  refine (View.canon_cons_unit_lit' _ _ _ (by decide)).trans ?_
  simp (disch := decide +kernel) only [View.readAt_eq_ld, Memref.IsWhole.read_unread, View.ld_unit_lit']
  exact congrArg₂ (k0_pay46 (F := Ideal)) rfl (congrFun (congrArg View.ld (kept_read s)) _)

theorem first18_eq : View.canon (runFirst m c start rfl).2.2.2.2.2.1 = k0_pay46 (F := Ideal) (inputTile m c start)
    (VS0_1.readCov (scratchPieces m c) (Rect.unit (s := S1024x3840) ![0, 3072] S1024x512.size inb_S1024x3840_S1024x512_0_3072).toLoadRect) := by
  unfold scratchPieces runFirst kernelRun0_A inputTile
  dsimp only
  sl_unfold_words
  refine (View.canon_cons_unit_lit' _ _ _ (by decide)).trans ?_
  simp (disch := decide +kernel) only [View.readAt_eq_ld, Memref.IsWhole.read_unread, View.ld_unit_lit']

theorem left18_eq : left18 m c t = k0_pay46 (F := Ideal) (inputTile m c t)
    (View.ld (weights m c) (Rect.unit ![0, 3072] S1024x512.size inb_S1024x3840_S1024x512_0_3072)) := by
  by_cases h : t.val % 72 = 0
  · obtain rfl : t = start := Fin.ext (by have : t.val < 72 := t.isLt; show t.val = 0; omega)
    refine (left18_first m c start h).trans ((View.read_writes_junk_eq_canon VO0_18 _).trans ((first18_eq m c).trans ?_))
    exact congrArg (k0_pay46 (F := Ideal) (inputTile m c start)) (filled_eq m c 3072 inb_S1024x3840_S1024x512_0_3072)
  · exact (left18_later m c t h).trans ((View.read_writes_junk_eq_canon VO0_18 _).trans (later18_eq m c t h (weights m c)))

def result18 : FVec Ideal S18432x512 .f32 :=
  Cert.Reference6Ideal.Read.val_main_v37 (F := Ideal) (m ((c : Thread nD τ).loc main_arg0)) (m ((c : Thread nD τ).loc main_arg1))
    (m ((c : Thread nD τ).loc main_arg2)) (m ((c : Thread nD τ).loc main_arg3))

theorem left18_at (i : Fin 256) (j : Fin 512) : (left18 m c t (ix2 i j) : EReal) = result18 m c (ix2 (rowNo t i) j) := by
  rw [left18_eq]
  refine (outputs_tile (inputTile m c t) _ i j).trans ?_
  refine (columns_at m c t 3072 inb_S1024x3840_S1024x512_0_3072 i j (by decide)).trans ?_
  exact (outputs_apply _ _ _ _ (rowNo t i) j).symm

theorem arr18_eq : (dats m 0 c).arrAt 18 cfg0.N = result18 m c := by
  refine (dats m 0 c).arrAt_eq_of_covers 18 _ (by decide +kernel) fun t hf y => ?_
  obtain ⟨i, j, rfl⟩ : ∃ (i : Fin 256) (j : Fin 512), y = ix2 i j := ⟨y 0, y 1, eq_ix2 y⟩
  have ht := (index_at t).2.2.2.2.2.2.2
  refine Eq.trans (b := left18 m c t (ix2 i j)) ?_ ((left18_at m c t i j).trans ?_)
  · exact congrFun (congrArg ((cfg0.win 18).cut (grid0.coords t)) (after_18 m c t)) _
  · refine congrArg (result18 m c) (funext fun a => Fin.ext ?_)
    match a with
    | ⟨0, _⟩ =>
      show 256 * t.val + i.val = _
      blk_simp [ht]
      omega
    | ⟨1, _⟩ => blk_simp [ht]

end Cert.Proj

end
-- ==== Proof.ProjClaims.lean ====
/- The claims of the input projection: its two programs and its reference run and keep their arguments, and at the extended reals its values, mLSTM values
   and mLSTM output gates are the reference's. -/
module

public import proofs.«01_k».proof.Defs
public import proofs.«01_k».proof.Proof.ProjArray
public import proofs.«01_k».proof.Proof.ProjFrameBits
public import proofs.«01_k».proof.Proof.Gen.Reference6Ideal.Run
public import Idealize.ShloMosaic.Adequacy
public import Idealize.ShloMosaic.Init

@[expose] public section

noncomputable section

namespace Cert.Proj

open Idealize.ShloMosaic Idealize.SL.Sem

theorem reference_frame : @Cert.quiescent_Reference6Ideal Cert.Reference6Ideal.Gen.facts := fun m g _ =>
  (θ_run _ _ _).mono (fun r h => ⟨fun c => (h c).2.2.2, Idealize.ShloMosaic.sem_eq_zero_of_no_sems (by decide) r.2⟩)
    (Cert.Reference6Ideal.Value.run m g)

theorem same_results : @Cert.algebraic_Kernel6Ideal_Reference6Ideal Cert.Kernel6Ideal.Gen.facts Cert.Reference6Ideal.Gen.facts := by
  intro m g m' g' _ hm
  refine ⟨fun c => result14 m c, fun c => result17 m c, fun c => result18 m c, ?_, ?_⟩
  · exact (θ_run _ _ _).mono (fun r h c => ⟨((h.2 c).1 14).trans (arr14_eq m c), ((h.2 c).1 17).trans (arr17_eq m c),
      ((h.2 c).1 18).trans (arr18_eq m c), h.1.1 c⟩) (θ_run_and (unchanged m g) (run_post m g))
  · refine (θ_run _ _ _).mono (fun r h c => ⟨(h c).1.trans ?_, (h c).2.1.trans ?_, (h c).2.2.1.trans ?_, (h c).2.2.2⟩)
      (Cert.Reference6Ideal.Value.run m' g')
    · obtain ⟨h0, h1, h2, h3, -⟩ := hm c
      rw [Cert.Reference6Ideal.Read.val_main_v34_eq, h0, h1, h2, h3]
      rfl
    · obtain ⟨h0, h1, h2, h3, -⟩ := hm c
      rw [Cert.Reference6Ideal.Read.val_main_v36_eq, h0, h1, h2, h3]
      rfl
    · obtain ⟨h0, h1, h2, h3, -⟩ := hm c
      rw [Cert.Reference6Ideal.Read.val_main_v37_eq, h0, h1, h2, h3]
      rfl

end Cert.Proj

end
-- ==== Proof.ProjZeroFrame.lean ====
/- The run of layer 0's input projection, idealized, as `ProjFrame.lean` has it for layer 1. -/
module

public import proofs.«01_k».proof.Proof.Gen.Kernel7Ideal.Frame.RunB
public import proofs.«01_k».proof.Proof.Gen.Kernel7Ideal.Frame.RunA
public import Idealize.ShloMosaic.Lib.Claim

@[expose] public section

set_option maxRecDepth 16384

noncomputable section

namespace Cert.ProjZero

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## The body at a point: the first fills the weights' scratch, the others read it -/

/-- The body's run at a point that fills the scratch. -/
abbrev runFirst (h : t.val % 72 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at another point, over the weights `s`. -/
abbrev runLater (h : ¬t.val % 72 = 0) (s : Vec F S1024x3840 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s

/-- The first point. -/
abbrev start : Fin cfg0.N := ⟨0, by decide⟩

/-- The weights that the first point leaves and every later point finds. -/
def weights : Vec F S1024x3840 .bf16 :=
  VS0_1.read (Elt F) (VS0_1.writes (Elt F) VS0_1.junk (runFirst m c start rfl).2.2.2.2.2.2.2.1)

theorem weights_cover (h : t.val % 72 = 0) (y : S1024x3840.Idx) : ∃ p ∈ (runFirst m c t h).2.2.2.2.2.2.2.1, y ∈ p.1.set :=
  View.cover_of_tiledBy (runFirst m c t h).2.2.2.2.2.2.2.1 ![1024, 16] (by sl_kernel_rfl) y

theorem first_cover_13 (h : t.val % 72 = 0) (y : S256x1024.Idx) : ∃ p ∈ (runFirst m c t h).1, y ∈ p.1.set :=
  View.cover_of_tiledL (runFirst m c t h).1 S256x128.size (by sl_kernel_rfl) y

theorem later_cover_13 (h : ¬t.val % 72 = 0) (s : Vec F S1024x3840 .bf16) (y : S256x1024.Idx) : ∃ p ∈ (runLater m c t h s).1, y ∈ p.1.set :=
  View.cover_of_tiledL (runLater m c t h s).1 S256x128.size (by sl_kernel_rfl) y

/-- What point `t` leaves for result 0. -/
def left13 : Vec F S256x1024 .bf16 :=
  if h : t.val % 72 = 0 then VO0_13.read (Elt F) (VO0_13.writes (Elt F) VO0_13.junk (runFirst m c t h).1)
  else VO0_13.read (Elt F) (VO0_13.writes (Elt F) VO0_13.junk (runLater m c t h (weights m c)).1)

theorem left13_first (h : t.val % 72 = 0) :
    left13 m c t = VO0_13.read (Elt F) (VO0_13.writes (Elt F) VO0_13.junk (runFirst m c t h).1) := dif_pos h

theorem left13_later (h : ¬t.val % 72 = 0) :
    left13 m c t = VO0_13.read (Elt F) (VO0_13.writes (Elt F) VO0_13.junk (runLater m c t h (weights m c)).1) := dif_neg h

theorem first_cover_14 (h : t.val % 72 = 0) (y : S256x512.Idx) : ∃ p ∈ (runFirst m c t h).2.1, y ∈ p.1.set :=
  View.cover_of_tiledL (runFirst m c t h).2.1 S256x512.size (by sl_kernel_rfl) y

theorem later_cover_14 (h : ¬t.val % 72 = 0) (s : Vec F S1024x3840 .bf16) (y : S256x512.Idx) : ∃ p ∈ (runLater m c t h s).2.1, y ∈ p.1.set :=
  View.cover_of_tiledL (runLater m c t h s).2.1 S256x512.size (by sl_kernel_rfl) y

/-- What point `t` leaves for result 1. -/
def left14 : Vec F S256x512 .bf16 :=
  if h : t.val % 72 = 0 then VO0_14.read (Elt F) (VO0_14.writes (Elt F) VO0_14.junk (runFirst m c t h).2.1)
  else VO0_14.read (Elt F) (VO0_14.writes (Elt F) VO0_14.junk (runLater m c t h (weights m c)).2.1)

theorem left14_first (h : t.val % 72 = 0) :
    left14 m c t = VO0_14.read (Elt F) (VO0_14.writes (Elt F) VO0_14.junk (runFirst m c t h).2.1) := dif_pos h

theorem left14_later (h : ¬t.val % 72 = 0) :
    left14 m c t = VO0_14.read (Elt F) (VO0_14.writes (Elt F) VO0_14.junk (runLater m c t h (weights m c)).2.1) := dif_neg h

theorem first_cover_15 (h : t.val % 72 = 0) (y : S256x512.Idx) : ∃ p ∈ (runFirst m c t h).2.2.1, y ∈ p.1.set :=
  View.cover_of_tiledL (runFirst m c t h).2.2.1 S256x256.size (by sl_kernel_rfl) y

theorem later_cover_15 (h : ¬t.val % 72 = 0) (s : Vec F S1024x3840 .bf16) (y : S256x512.Idx) : ∃ p ∈ (runLater m c t h s).2.2.1, y ∈ p.1.set :=
  View.cover_of_tiledL (runLater m c t h s).2.2.1 S256x256.size (by sl_kernel_rfl) y

/-- What point `t` leaves for result 2. -/
def left15 : Vec F S256x512 .bf16 :=
  if h : t.val % 72 = 0 then VO0_15.read (Elt F) (VO0_15.writes (Elt F) VO0_15.junk (runFirst m c t h).2.2.1)
  else VO0_15.read (Elt F) (VO0_15.writes (Elt F) VO0_15.junk (runLater m c t h (weights m c)).2.2.1)

theorem left15_first (h : t.val % 72 = 0) :
    left15 m c t = VO0_15.read (Elt F) (VO0_15.writes (Elt F) VO0_15.junk (runFirst m c t h).2.2.1) := dif_pos h

theorem left15_later (h : ¬t.val % 72 = 0) :
    left15 m c t = VO0_15.read (Elt F) (VO0_15.writes (Elt F) VO0_15.junk (runLater m c t h (weights m c)).2.2.1) := dif_neg h

theorem first_cover_16 (h : t.val % 72 = 0) (y : S2x512x128.Idx) : ∃ p ∈ (runFirst m c t h).2.2.2.1, y ∈ p.1.set :=
  View.cover_of_tiledL (runFirst m c t h).2.2.2.1 S1x256x128.size (by sl_kernel_rfl) y

theorem later_cover_16 (h : ¬t.val % 72 = 0) (s : Vec F S1024x3840 .bf16) (y : S2x512x128.Idx) : ∃ p ∈ (runLater m c t h s).2.2.2.1, y ∈ p.1.set :=
  View.cover_of_tiledL (runLater m c t h s).2.2.2.1 S1x256x128.size (by sl_kernel_rfl) y

/-- What point `t` leaves for result 3. -/
def left16 : Vec F S2x512x128 .bf16 :=
  if h : t.val % 72 = 0 then VO0_16.read (Elt F) (VO0_16.writes (Elt F) VO0_16.junk (runFirst m c t h).2.2.2.1)
  else VO0_16.read (Elt F) (VO0_16.writes (Elt F) VO0_16.junk (runLater m c t h (weights m c)).2.2.2.1)

theorem left16_first (h : t.val % 72 = 0) :
    left16 m c t = VO0_16.read (Elt F) (VO0_16.writes (Elt F) VO0_16.junk (runFirst m c t h).2.2.2.1) := dif_pos h

theorem left16_later (h : ¬t.val % 72 = 0) :
    left16 m c t = VO0_16.read (Elt F) (VO0_16.writes (Elt F) VO0_16.junk (runLater m c t h (weights m c)).2.2.2.1) := dif_neg h

theorem first_cover_17 (h : t.val % 72 = 0) (y : S256x512.Idx) : ∃ p ∈ (runFirst m c t h).2.2.2.2.1, y ∈ p.1.set :=
  View.cover_of_tiledL (runFirst m c t h).2.2.2.2.1 S256x512.size (by sl_kernel_rfl) y

theorem later_cover_17 (h : ¬t.val % 72 = 0) (s : Vec F S1024x3840 .bf16) (y : S256x512.Idx) : ∃ p ∈ (runLater m c t h s).2.2.2.2.1, y ∈ p.1.set :=
  View.cover_of_tiledL (runLater m c t h s).2.2.2.2.1 S256x512.size (by sl_kernel_rfl) y

/-- What point `t` leaves for result 4. -/
def left17 : Vec F S256x512 .bf16 :=
  if h : t.val % 72 = 0 then VO0_17.read (Elt F) (VO0_17.writes (Elt F) VO0_17.junk (runFirst m c t h).2.2.2.2.1)
  else VO0_17.read (Elt F) (VO0_17.writes (Elt F) VO0_17.junk (runLater m c t h (weights m c)).2.2.2.2.1)

theorem left17_first (h : t.val % 72 = 0) :
    left17 m c t = VO0_17.read (Elt F) (VO0_17.writes (Elt F) VO0_17.junk (runFirst m c t h).2.2.2.2.1) := dif_pos h

theorem left17_later (h : ¬t.val % 72 = 0) :
    left17 m c t = VO0_17.read (Elt F) (VO0_17.writes (Elt F) VO0_17.junk (runLater m c t h (weights m c)).2.2.2.2.1) := dif_neg h

theorem first_cover_18 (h : t.val % 72 = 0) (y : S256x512.Idx) : ∃ p ∈ (runFirst m c t h).2.2.2.2.2.1, y ∈ p.1.set :=
  View.cover_of_tiledL (runFirst m c t h).2.2.2.2.2.1 S256x512.size (by sl_kernel_rfl) y

theorem later_cover_18 (h : ¬t.val % 72 = 0) (s : Vec F S1024x3840 .bf16) (y : S256x512.Idx) : ∃ p ∈ (runLater m c t h s).2.2.2.2.2.1, y ∈ p.1.set :=
  View.cover_of_tiledL (runLater m c t h s).2.2.2.2.2.1 S256x512.size (by sl_kernel_rfl) y

/-- What point `t` leaves for result 5. -/
def left18 : Vec F S256x512 .f32 :=
  if h : t.val % 72 = 0 then VO0_18.read (Elt F) (VO0_18.writes (Elt F) VO0_18.junk (runFirst m c t h).2.2.2.2.2.1)
  else VO0_18.read (Elt F) (VO0_18.writes (Elt F) VO0_18.junk (runLater m c t h (weights m c)).2.2.2.2.2.1)

theorem left18_first (h : t.val % 72 = 0) :
    left18 m c t = VO0_18.read (Elt F) (VO0_18.writes (Elt F) VO0_18.junk (runFirst m c t h).2.2.2.2.2.1) := dif_pos h

theorem left18_later (h : ¬t.val % 72 = 0) :
    left18 m c t = VO0_18.read (Elt F) (VO0_18.writes (Elt F) VO0_18.junk (runLater m c t h (weights m c)).2.2.2.2.2.1) := dif_neg h

theorem first_cover_19 (h : t.val % 72 = 0) (y : S16x256.Idx) : ∃ p ∈ (runFirst m c t h).2.2.2.2.2.2.1, y ∈ p.1.set :=
  View.cover_of_tiledL (runFirst m c t h).2.2.2.2.2.2.1 S16x256.size (by sl_kernel_rfl) y

theorem later_cover_19 (h : ¬t.val % 72 = 0) (s : Vec F S1024x3840 .bf16) (y : S16x256.Idx) : ∃ p ∈ (runLater m c t h s).2.2.2.2.2.2.1, y ∈ p.1.set :=
  View.cover_of_tiledL (runLater m c t h s).2.2.2.2.2.2.1 S16x256.size (by sl_kernel_rfl) y

/-- What point `t` leaves for result 6. -/
def left19 : Vec F S16x256 .f32 :=
  if h : t.val % 72 = 0 then VO0_19.read (Elt F) (VO0_19.writes (Elt F) VO0_19.junk (runFirst m c t h).2.2.2.2.2.2.1)
  else VO0_19.read (Elt F) (VO0_19.writes (Elt F) VO0_19.junk (runLater m c t h (weights m c)).2.2.2.2.2.2.1)

theorem left19_first (h : t.val % 72 = 0) :
    left19 m c t = VO0_19.read (Elt F) (VO0_19.writes (Elt F) VO0_19.junk (runFirst m c t h).2.2.2.2.2.2.1) := dif_pos h

theorem left19_later (h : ¬t.val % 72 = 0) :
    left19 m c t = VO0_19.read (Elt F) (VO0_19.writes (Elt F) VO0_19.junk (runLater m c t h (weights m c)).2.2.2.2.2.2.1) := dif_neg h

/-! ## What holds between the points -/

/-- Before position `n`: the weights in their scratch, once a point has run. -/
def between : (n : ℕ) → sProp 𝕄
  | 0 => Pipeline.ΦA spec0 c
  | _ + 1 => iprop(iprop((∃ d, owns (c : Thread nD τ) scM0_0 fullShare d) ∗ owns (c : Thread nD τ) scM0_1 fullShare (weights m c))
      ∗ (∃ r, prngReg c r))

theorem between_pos (n : ℕ) (h : n ≠ 0) : between m c n
    = iprop(iprop((∃ d, owns (c : Thread nD τ) scM0_0 fullShare d) ∗ owns (c : Thread nD τ) scM0_1 fullShare (weights m c)) ∗ (∃ r, prngReg c r)) := by
  cases n with
  | zero => exact absurd rfl h
  | succ n => rfl

/-- The run's data: every input block in place, the results of `left13` to `left19`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => left13 m c t
    | ⟨14, _⟩ => left14 m c t
    | ⟨15, _⟩ => left15 m c t
    | ⟨16, _⟩ => left16 m c t
    | ⟨17, _⟩ => left17 m c t
    | ⟨18, _⟩ => left18 m c t
    | ⟨19, _⟩ => left19 m c t
    | ⟨_ + 20, h⟩ => absurd h (Nat.not_lt.2 (Nat.le_add_left _ _))
  Φ t := between m c t.val
  q w := Pipeline.shareOf spec0 w
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = left13 m c t := by dsimp only [dats]
theorem after_14 : (dats m 0 c).after 14 t = left14 m c t := by dsimp only [dats]
theorem after_15 : (dats m 0 c).after 15 t = left15 m c t := by dsimp only [dats]
theorem after_16 : (dats m 0 c).after 16 t = left16 m c t := by dsimp only [dats]
theorem after_17 : (dats m 0 c).after 17 t = left17 m c t := by dsimp only [dats]
theorem after_18 : (dats m 0 c).after 18 t = left18 m c t := by dsimp only [dats]
theorem after_19 : (dats m 0 c).after 19 t = left19 m c t := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
theorem before_10 (d) : (dats m 0 c).before 10 t d = iblk m c 10 t := before0_10_of m (dats m 0 c) (A_eq m c 10) (after_10 m c) t d
theorem before_11 (d) : (dats m 0 c).before 11 t d = iblk m c 11 t := before0_11_of m (dats m 0 c) (A_eq m c 11) (after_11 m c) t d
theorem before_12 (d) : (dats m 0 c).before 12 t d = iblk m c 12 t := before0_12_of m (dats m 0 c) (A_eq m c 12) (after_12 m c) t d

/-! ## The body's obligation -/

def given : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def returned : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body at the point that fills the scratch. -/
theorem first_body (h : t.val % 72 = 0) :
    given m c t ⊢ wp frame (wpE (defs₀ (F := F)) Variants.none c none) Set.univ (bodyAt0 t) (fun _ => returned m c t) := by
  have hz : t = start := Fin.ext (by have : t.val < 72 := t.isLt; show t.val = 0; omega)
  unfold given returned bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.succ = between m c (t.val + 1) from rfl, show (dats m 0 c).Φ t.castSucc = between m c t.val from rfl,
    between_pos m c (t.val + 1) (Nat.succ_ne_zero _)]
  rw [show between m c t.val = Pipeline.ΦA spec0 c by rw [hz]; rfl, PhiA0_eq,
    left13_first m c t h, left14_first m c t h, left15_first m c t h, left16_first m c t h, left17_first m c t h, left18_first m c t h, left19_first m c t h,
    show weights m c = VS0_1.read (Elt F) (VS0_1.writes (Elt F) VS0_1.junk (runFirst m c t h).2.2.2.2.2.2.2.1) by subst hz; rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runFirst m c t h).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%f0, HS0⟩, ⟨%f1, HS1⟩⟩
  isplitl [HS0 HS1 Hg]
  · isplitl [HS0 HS1]
    · isplitl [HS0]
      · iexists _; unfold owns; iexists _; isplitr
        swap; · iexact HS0
        ipureintro; rfl
      unfold owns; iexists _; isplitr
      swap; · iexact HS1
      ipureintro; exact View.read_writes_of_cover _ _ _ _ _ (weights_cover m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (first_cover_13 m c t h)
  isplitl [H14]
  · unfold owns; iexists _; isplitr
    swap; · iexact H14
    ipureintro; exact View.read_writes_of_cover _ _ _ _ _ (first_cover_14 m c t h)
  isplitl [H15]
  · unfold owns; iexists _; isplitr
    swap; · iexact H15
    ipureintro; exact View.read_writes_of_cover _ _ _ _ _ (first_cover_15 m c t h)
  isplitl [H16]
  · unfold owns; iexists _; isplitr
    swap; · iexact H16
    ipureintro; exact View.read_writes_of_cover _ _ _ _ _ (first_cover_16 m c t h)
  isplitl [H17]
  · unfold owns; iexists _; isplitr
    swap; · iexact H17
    ipureintro; exact View.read_writes_of_cover _ _ _ _ _ (first_cover_17 m c t h)
  isplitl [H18]
  · unfold owns; iexists _; isplitr
    swap; · iexact H18
    ipureintro; exact View.read_writes_of_cover _ _ _ _ _ (first_cover_18 m c t h)
  unfold owns; iexists _; isplitr
  swap; · iexact H19
  ipureintro; exact View.read_writes_of_cover _ _ _ _ _ (first_cover_19 m c t h)

set_option maxHeartbeats 16000000 in
/-- The body at another point. -/
theorem later_body (h : ¬t.val % 72 = 0) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.succ = between m c (t.val + 1) from rfl, show (dats m 0 c).Φ t.castSucc = between m c t.val from rfl,
    between_pos m c (t.val + 1) (Nat.succ_ne_zero _)]
  rw [between_pos m c t.val (by omega), left13_later m c t h, left14_later m c t h, left15_later m c t h, left16_later m c t h, left17_later m c t h, left18_later m c t h, left19_later m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runLater m c t h (weights m c)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%f0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (later_cover_13 m c t h (weights m c))
  isplitl [H14]
  · unfold owns; iexists _; isplitr
    swap; · iexact H14
    ipureintro; exact View.read_writes_of_cover _ _ _ _ _ (later_cover_14 m c t h (weights m c))
  isplitl [H15]
  · unfold owns; iexists _; isplitr
    swap; · iexact H15
    ipureintro; exact View.read_writes_of_cover _ _ _ _ _ (later_cover_15 m c t h (weights m c))
  isplitl [H16]
  · unfold owns; iexists _; isplitr
    swap; · iexact H16
    ipureintro; exact View.read_writes_of_cover _ _ _ _ _ (later_cover_16 m c t h (weights m c))
  isplitl [H17]
  · unfold owns; iexists _; isplitr
    swap; · iexact H17
    ipureintro; exact View.read_writes_of_cover _ _ _ _ _ (later_cover_17 m c t h (weights m c))
  isplitl [H18]
  · unfold owns; iexists _; isplitr
    swap; · iexact H18
    ipureintro; exact View.read_writes_of_cover _ _ _ _ _ (later_cover_18 m c t h (weights m c))
  unfold owns; iexists _; isplitr
  swap; · iexact H19
  ipureintro; exact View.read_writes_of_cover _ _ _ _ _ (later_cover_19 m c t h (weights m c))

theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := given m c t) ?_ rfl .rfl fun _ => .rfl
  by_cases h : t.val % 72 = 0
  · exact first_body m c t h
  · exact later_body m c t h

/-! ## The run -/

theorem at_launch : Pipeline.ΦA spec0 c ⊢ (dats m 0 c).Φ 0 := by
  rw [show (dats m 0 c).Φ 0 = Pipeline.ΦA spec0 c from rfl]

theorem at_end : (dats m 0 c).Φ (Fin.last cfg0.N) ⊢ Pipeline.ΦA spec0 c := by
  rw [show (dats m 0 c).Φ (Fin.last cfg0.N) = between m c 72 from rfl, between_pos m c 72 (by decide), PhiA0_eq]
  iintro ⟨⟨HS0, HS1⟩, Hg⟩
  isplitl [HS0 HS1]
  · isplitl [HS0]
    · iexact HS0
    iexists _; iexact HS1
  iexact Hg

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := at_launch m) (hout := at_end m)

theorem run_post : θ_run defs (onTc (τ := τ) (main (F := F))) (s₀ m ρ) (Pipeline.FramePost cfgs (dats m) 0 (V m)) :=
  (θ_run defs _ _).mono (fun _ h => h.1) (run_all m ρ)

/-- The arguments end unchanged, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_post m ρ)) ((θ_run defs _ _).mono (fun _ h => h.2) (run_all m ρ))

end Cert.ProjZero

end
-- ==== Proof.ProjZeroRef.lean ====
/- What the reference of layer 0's input projection computes, entry by entry: up to the weights it is layer 1's, on the context's and the latent rows set one
   after the other. -/
module

public import proofs.«01_k».proof.Proof.Gen.Reference7Ideal.Read
public import proofs.«01_k».proof.Proof.ProjRef

@[expose] public section

set_option maxRecDepth 16384

noncomputable section

namespace Cert.ProjZero

open Cert.Reference7Ideal Cert.Reference7Ideal.Gen Cert.Reference7Ideal.Read Cert.Proj Idealize.ShloMosaic Idealize.ShloMosaic.TcCoe Idealize.SL.Sem

variable (x0 : FVec Ideal S2048x1024 .f32) (x1 : FVec Ideal S16384x1024 .f32) (x2 : FVec Ideal S9x6x1024 .f32) (x3 : FVec Ideal S1x1024 .f32)
  (x4 : FVec Ideal S2x1024x3600 .f32)

theorem rows_early (r : Fin 18432) (j : Fin 1024) (h : r.val < 2048) :
    val_main_v0 (F := Ideal) x0 x1 (ix2 r j) = x0 (ix2 (⟨r.val, h⟩ : Fin 2048) j) := by
  pointwise [val_main_v0, h]

theorem rows_late (r : Fin 18432) (j : Fin 1024) (h : ¬r.val < 2048) :
    val_main_v0 (F := Ideal) x0 x1 (ix2 r j) = x1 (ix2 (⟨r.val - 2048, by omega⟩ : Fin 16384) j) := by
  pointwise [val_main_v0, h]

/-- The normalized row `r` multiplied by column `n` of the first layer's weights. -/
def column (r : Fin 18432) (n : Fin 3600) : EReal := ∑ d, inputRow (val_main_v0 (F := Ideal) x0 x1) x2 x3 r d * x4 (ix3 0 d n)

theorem input_apply (r : Fin 18432) (j : Fin 1024) :
    val_main_v30 (F := Ideal) x0 x1 x2 x3 (ix2 r j) = inputRow (val_main_v0 (F := Ideal) x0 x1) x2 x3 r j :=
  Cert.Proj.input_apply (val_main_v0 (F := Ideal) x0 x1) x2 x3 r j

theorem weights_apply (d : Fin 1024) (n : Fin 3600) : val_main_v32 (F := Ideal) x4 (ix2 d n) = x4 (ix3 0 d n) := by
  rw [val_main_v32_apply, val_main_v31_apply]
  refine congrArg x4 (funext fun a => Fin.ext ?_)
  have hd := d.isLt
  have hn := n.isLt
  fin_cases a <;> simp [idx_main_v32, idx_main_v31] <;> omega

theorem column_apply (r : Fin 18432) (n : Fin 3600) : val_main_v33 (F := Ideal) x0 x1 x2 x3 x4 (ix2 r n) = column x0 x1 x2 x3 x4 r n := by
  rw [val_main_v33_apply]
  have el : ∀ k, lidx_main_v33 (ix2 r n) k = ix2 r k := fun k => by funext a; apply Fin.ext; fin_cases a <;> rfl
  have er : ∀ k, ridx_main_v33 (ix2 r n) k = ix2 k n := fun k => by funext a; apply Fin.ext; fin_cases a <;> rfl
  simp only [el, er, input_apply, weights_apply]
  rfl

theorem values_apply (r : Fin 18432) (j : Fin 512) :
    val_main_v35 (F := Ideal) x0 x1 x2 x3 x4 (ix2 r j) = column x0 x1 x2 x3 x4 r ⟨1024 + j, by omega⟩ := by
  rw [← column_apply]
  show val_main_v34 (F := Ideal) x0 x1 x2 x3 x4 (ix2 r j) = _
  rw [val_main_v34_apply]
  refine congrArg (val_main_v33 (F := Ideal) x0 x1 x2 x3 x4) (funext fun a => Fin.ext ?_)
  fin_cases a <;> simp [idx_main_v34]

theorem memories_apply (r : Fin 18432) (j : Fin 512) :
    val_main_v37 (F := Ideal) x0 x1 x2 x3 x4 (ix2 r j) = column x0 x1 x2 x3 x4 r ⟨2560 + j, by omega⟩ := by
  rw [← column_apply]
  show val_main_v36 (F := Ideal) x0 x1 x2 x3 x4 (ix2 r j) = _
  rw [val_main_v36_apply]
  refine congrArg (val_main_v33 (F := Ideal) x0 x1 x2 x3 x4) (funext fun a => Fin.ext ?_)
  fin_cases a <;> simp [idx_main_v36]

theorem outputs_apply (r : Fin 18432) (j : Fin 512) :
    val_main_v38 (F := Ideal) x0 x1 x2 x3 x4 (ix2 r j) = column x0 x1 x2 x3 x4 r ⟨3072 + j, by omega⟩ := by
  rw [← column_apply, val_main_v38_apply]
  refine congrArg (val_main_v33 (F := Ideal) x0 x1 x2 x3 x4) (funext fun a => Fin.ext ?_)
  fin_cases a <;> simp [idx_main_v38]

end Cert.ProjZero

end
-- ==== Proof.ProjZeroArray.lean ====
/- What layer 0's input projection leaves in its arrays of values, mLSTM values and mLSTM output gates. -/
module

public import proofs.«01_k».proof.Proof.ProjZeroFrame
public import proofs.«01_k».proof.Proof.ProjZeroRef
public import proofs.«01_k».proof.Proof.ProjTile
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.ProjZero

open Cert.Kernel7Ideal Cert.Kernel7Ideal.Gen Cert.Dense Idealize.ShloMosaic Idealize.ShloMosaic.TcCoe Idealize.SL.Sem

variable (m : (ℓ : Loc nD τ sig) → Buf (Elt Ideal) ℓ) (c : Dev nD) (t : Fin cfg0.N)

/-! ## The blocks a point reads -/

theorem index_at : ∀ t : Fin grid0.N, (win0_0.index t = ![min t.val 7, 0] ∧ win0_1.index t = ![t.val - 8, 0]
    ∧ win0_4.index t = ![t.val / 8, 0, 0] ∧ win0_5.index t = ![0, 0] ∧ win0_6.index t = ![0, 0, 0] ∧ win0_14.index t = ![t.val, 0]
    ∧ win0_17.index t = ![t.val, 0] ∧ win0_18.index t = ![t.val, 0]) := by
  decide +kernel

theorem early_at : ∀ t : Fin grid0.N, Scalar.cmpi .slt (BitVec.ofNat 32 (grid0.coords t 0).val) 8#32 = if t.val < 8 then 1#1 else 0#1 := by
  decide +kernel

/-- The row that point `t`'s row `i` is. -/
abbrev rowNo (i : Fin 256) : Fin 18432 := ⟨256 * t.val + i, by have : t.val < 72 := t.isLt; omega⟩

/-- The context's rows and the latent rows, one after the other. -/
abbrev rows : FVec Ideal S18432x1024 .f32 :=
  Cert.Reference7Ideal.Read.val_main_v0 (F := Ideal) (m ((c : Thread nD τ).loc main_arg0)) (m ((c : Thread nD τ).loc main_arg1))

theorem rows_at (i : Fin 256) (j : Fin 1024) :
    ((Scalar.select (Scalar.cmpi .slt (BitVec.ofNat 32 (grid0.coords t 0).val) 8#32) (iblk m c 0 t : FVec Ideal S256x1024 .f32)
      (iblk m c 1 t : FVec Ideal S256x1024 .f32)) (ix2 i j) : EReal) = rows m c (ix2 (rowNo t i) j) := by
  have hr : (rowNo t i).val = 256 * t.val + i := rfl
  rw [early_at t]
  by_cases h : t.val < 8
  · have ht := (index_at t).1
    rw [if_pos h]
    refine Eq.trans (b := V m c main_arg0 (((cfg0.win 0).blk t).view.emb (ix2 i j))) rfl ?_
    rw [V_main_arg0]
    have hl : (rowNo t i).val < 2048 := by omega
    have hq : ((⟨(rowNo t i).val, hl⟩ : Fin 2048) : ℕ) = 256 * t.val + i := rfl
    refine Eq.trans (congrArg _ (funext fun a => Fin.ext ?_)) (rows_early _ _ (rowNo t i) j hl).symm
    match a with
    | ⟨0, _⟩ => blk_simp [ht]; omega
    | ⟨1, _⟩ => blk_simp [ht]
  · have ht := (index_at t).2.1
    rw [if_neg h]
    refine Eq.trans (b := V m c main_arg1 (((cfg0.win 1).blk t).view.emb (ix2 i j))) rfl ?_
    rw [V_main_arg1]
    have hl : (rowNo t i).val - 2048 < 16384 := by omega
    have hq : ((⟨(rowNo t i).val - 2048, hl⟩ : Fin 16384) : ℕ) = 256 * t.val + i - 2048 := rfl
    refine Eq.trans (congrArg _ (funext fun a => Fin.ext ?_)) (rows_late _ _ (rowNo t i) j (by omega)).symm
    match a with
    | ⟨0, _⟩ => blk_simp [ht]; omega
    | ⟨1, _⟩ => blk_simp [ht]

/-- The rows of kind `k` in a block of the modulations. -/
abbrev kind (X : Vec Ideal S1x6x1024 .f32) (k : ℕ) (h : ∀ a, (![0, k, 0] : Fin S1x6x1024.rank → ℕ) a + S1x1x1024.size a ≤ S1x6x1024.size a) :
    Vec Ideal S1x1x1024 .f32 := View.ld X (Rect.unit ![0, k, 0] S1x1x1024.size h)

theorem kind_at (k : Fin 6) (h) (i : Fin 256) (j : Fin 1024) :
    (kind (iblk m c 4 t) k h (ix3 0 0 j) : EReal) = modOf (m ((c : Thread nD τ).loc main_arg2)) (rowNo t i) k j := by
  have hr : (rowNo t i).val = 256 * t.val + i := rfl
  have ht := (index_at t).2.2.1
  refine Eq.trans (b := V m c main_arg2 (((cfg0.win 4).blk t).view.emb ((Rect.unit (s := S1x6x1024) ![0, k.val, 0] S1x1x1024.size h).emb (ix3 0 0 j)))) rfl ?_
  rw [V_main_arg2]
  refine modOf_eq _ (rowNo t i) k j _ ?_ ?_ ?_
  · blk_simp [ht]
    omega
  · blk_simp [ht]
    rfl
  · blk_simp [ht]

theorem gains_at (j : Fin 1024) : (iblk m c 5 t : S1x1024.Idx → EReal) (ix2 0 j) = m ((c : Thread nD τ).loc main_arg3) (ix2 0 j) := by
  have ht := (index_at t).2.2.2.1
  refine Eq.trans (b := V m c main_arg3 (((cfg0.win 5).blk t).view.emb (ix2 0 j))) rfl ?_
  rw [V_main_arg3]
  refine congrArg _ (funext fun a => Fin.ext ?_)
  match a with
  | ⟨0, _⟩ => blk_simp [ht]
  | ⟨1, _⟩ => blk_simp [ht]

/-- The columns of the first layer's weights that the kernel keeps in one piece. -/
abbrev head (X : Vec Ideal S1x1024x3600 .f32) : Vec Ideal S1x1024x3584 .f32 :=
  View.ld X (Rect.unit ![0, 0, 0] S1x1024x3584.size inb_S1x1024x3600_S1x1024x3584_0_0_0)

theorem head_at (d : Fin 1024) (j : Fin 3584) :
    (head (iblk m c 6 t) (ix3 0 d j) : EReal) = m ((c : Thread nD τ).loc main_arg4) (ix3 0 d ⟨j, by omega⟩) := by
  have ht := (index_at t).2.2.2.2.1
  refine Eq.trans (b := V m c main_arg4 (((cfg0.win 6).blk t).view.emb
    ((Rect.unit (s := S1x1024x3600) ![0, 0, 0] S1x1024x3584.size inb_S1x1024x3600_S1x1024x3584_0_0_0).emb (ix3 0 d j)))) rfl ?_
  rw [V_main_arg4]
  refine congrArg _ (funext fun a => Fin.ext ?_)
  match a with
  | ⟨0, _⟩ => blk_simp [ht]; rfl
  | ⟨1, _⟩ => blk_simp [ht]
  | ⟨2, _⟩ => blk_simp [ht]

/-! ## The kept weights and the normalized rows -/

/-- The weights' scratch, as the first point's stores leave it. -/
abbrev scratchPieces := (runFirst (F := Ideal) m c start rfl).2.2.2.2.2.2.2.1

theorem scratch_apply (y : S1024x3840.Idx) : weights m c y = View.canon (scratchPieces m c) y :=
  congrFun (View.read_writes_junk_eq_canon VS0_1 (scratchPieces m c)) y

theorem kept_at : VS0_1.readCov (scratchPieces m c)
      (Rect.unit (s := S1024x3840) ![0, 0] S1024x3584.size inb_S1024x3840_S1024x3584_0_0).toLoadRect
    = k0_pay4 (F := Ideal) (head (iblk m c 6 start)) := by
  unfold scratchPieces runFirst kernelRun0_A
  dsimp only
  sl_unfold_words
  simp (disch := decide +kernel) only [↓View.readCov_skip, ↓View.readCov_cons_toLoadRect, View.readAt_eq_ld, Memref.IsWhole.read_unread]

theorem weights_at (d : Fin 1024) (j : Fin 3840) (h : j.val < 3584) :
    (weights m c (ix2 d j) : EReal) = m ((c : Thread nD τ).loc main_arg4) (ix3 0 d ⟨j, by omega⟩) := by
  have hj : (ix2 d j : S1024x3840.Idx)
      = (Rect.unit (s := S1024x3840) ![0, 0] S1024x3584.size inb_S1024x3840_S1024x3584_0_0).emb (ix2 d (⟨j, h⟩ : Fin 3584)) := by
    funext a; apply Fin.ext
    match a with
    | ⟨0, _⟩ => blk_simp []
    | ⟨1, _⟩ => blk_simp []
  have hr := (congrFun (View.readCov_eq_canon' VS0_1 (scratchPieces m c)
    (Rect.unit (s := S1024x3840) ![0, 0] S1024x3584.size inb_S1024x3840_S1024x3584_0_0).toLoadRect) (ix2 d (⟨j, h⟩ : Fin 3584))).symm
  exact (scratch_apply m c _).trans ((congrArg (View.canon (scratchPieces m c)) hj).trans (hr.trans
    ((congrFun (kept_at m c) _).trans ((Cert.Proj.kept_tile _ d ⟨j, h⟩).trans (head_at m c start d ⟨j, h⟩)))))

/-- The columns from `o` on of the weights' scratch, read where the first point has just filled it. -/
theorem filled_eq (o : ℕ) (h) : VS0_1.readCov (scratchPieces m c) (Rect.unit (s := S1024x3840) ![0, o] S1024x512.size h).toLoadRect
    = View.ld (weights m c) (Rect.unit (s := S1024x3840) ![0, o] S1024x512.size h) :=
  (View.readCov_eq_canon' VS0_1 (scratchPieces m c) _).trans (funext fun _ => (scratch_apply m c _).symm)

/-- The tile's rows, normalized, as point `t` computes them. -/
def inputTile : FVec Ideal S256x1024 .bf16 :=
  k0_pay13 (k0_pay10 (grid0.coords t) (iblk m c 2 t) (iblk m c 0 t) (iblk m c 1 t) (iblk m c 3 t)) (iblk m c 5 t)
    (kind (iblk m c 4 t) 1 inb_S1x6x1024_S1x1x1024_0_1_0) (kind (iblk m c 4 t) 0 inb_S1x6x1024_S1x1x1024_0_0_0)

/-- Row `r` normalized, of the arguments at launch. -/
abbrev inputM : Fin 18432 → Fin 1024 → EReal :=
  Cert.Proj.inputRow (rows m c) (m ((c : Thread nD τ).loc main_arg2)) (m ((c : Thread nD τ).loc main_arg3))

theorem inputTile_at (i : Fin 256) (j : Fin 1024) : (inputTile m c t (ix2 i j) : EReal) = inputM m c (rowNo t i) j := by
  refine (Cert.Proj.inputTile_apply _ _ _ _ _ _ _ _ i j).trans ?_
  have hs : (fun y => (kind (iblk m c 4 t) 1 inb_S1x6x1024_S1x1x1024_0_1_0 (ix3 0 0 y) : EReal)) = _ :=
    funext (kind_at m c t 1 inb_S1x6x1024_S1x1x1024_0_1_0 i)
  have hb : (fun y => (kind (iblk m c 4 t) 0 inb_S1x6x1024_S1x1x1024_0_0_0 (ix3 0 0 y) : EReal)) = _ :=
    funext (kind_at m c t 0 inb_S1x6x1024_S1x1x1024_0_0_0 i)
  rw [funext (rows_at m c t i), funext (gains_at m c t), hs, hb]
  rfl

abbrev columnM : Fin 18432 → Fin 3600 → EReal :=
  column (m ((c : Thread nD τ).loc main_arg0)) (m ((c : Thread nD τ).loc main_arg1)) (m ((c : Thread nD τ).loc main_arg2)) (m ((c : Thread nD τ).loc main_arg3))
    (m ((c : Thread nD τ).loc main_arg4))

/-- The columns from `o` on. -/
theorem columns_at (o : ℕ) (h) (i : Fin 256) (j : Fin 512) (ho : o + 512 ≤ 3584) :
    ∑ d : Fin 1024, (inputTile m c t (ix2 i d) : EReal)
        * View.ld (weights m c) (Rect.unit (s := S1024x3840) ![0, o] S1024x512.size h) (ix2 d j)
      = columnM m c (rowNo t i) ⟨o + j, by omega⟩ := by
  refine Finset.sum_congr rfl fun d _ => congrArg₂ (fun a b : EReal => a * b) (inputTile_at m c t i d) ?_
  have hj : (Rect.unit (s := S1024x3840) ![0, o] S1024x512.size h).emb (ix2 d j) = ix2 d (⟨o + j, by omega⟩ : Fin 3840) := by
    funext a; apply Fin.ext
    match a with
    | ⟨0, _⟩ => blk_simp []
    | ⟨1, _⟩ => blk_simp []
  refine Eq.trans (b := weights m c ((Rect.unit (s := S1024x3840) ![0, o] S1024x512.size h).emb (ix2 d j))) rfl ?_
  rw [hj]
  exact weights_at m c d _ (by show o + j.val < 3584; omega)

/-! ## The three arrays -/

theorem kept_read (s : Vec Ideal S1024x3840 .bf16) :
    View.read (Elt Ideal) (View.whole cc0_scratch1) ((Memref.isWhole_whole cc0_scratch1).unread s) = s :=
  (Memref.isWhole_whole cc0_scratch1).read_unread s

theorem later14_eq (h : ¬t.val % 72 = 0) (s : Vec Ideal S1024x3840 .bf16) : View.canon (runLater m c t h s).2.1
    = k0_pay38 (F := Ideal) (inputTile m c t) (View.ld s (Rect.unit ![0, 1024] S1024x512.size inb_S1024x3840_S1024x512_0_1024)) := by
  unfold runLater kernelRun0_B inputTile
  dsimp only
  sl_unfold_words
  refine (View.canon_cons_unit_lit' _ _ _ (by decide)).trans ?_
  simp (disch := decide +kernel) only [View.readAt_eq_ld, Memref.IsWhole.read_unread, View.ld_unit_lit']
  exact congrArg₂ (k0_pay38 (F := Ideal)) rfl (congrFun (congrArg View.ld (kept_read s)) _)

theorem first14_eq : View.canon (runFirst m c start rfl).2.1 = k0_pay38 (F := Ideal) (inputTile m c start)
    (VS0_1.readCov (scratchPieces m c) (Rect.unit (s := S1024x3840) ![0, 1024] S1024x512.size inb_S1024x3840_S1024x512_0_1024).toLoadRect) := by
  unfold scratchPieces runFirst kernelRun0_A inputTile
  dsimp only
  sl_unfold_words
  refine (View.canon_cons_unit_lit' _ _ _ (by decide)).trans ?_
  simp (disch := decide +kernel) only [View.readAt_eq_ld, Memref.IsWhole.read_unread, View.ld_unit_lit']

theorem left14_eq : left14 m c t = k0_pay38 (F := Ideal) (inputTile m c t)
    (View.ld (weights m c) (Rect.unit ![0, 1024] S1024x512.size inb_S1024x3840_S1024x512_0_1024)) := by
  by_cases h : t.val % 72 = 0
  · obtain rfl : t = start := Fin.ext (by have : t.val < 72 := t.isLt; show t.val = 0; omega)
    refine (left14_first m c start h).trans ((View.read_writes_junk_eq_canon VO0_14 _).trans ((first14_eq m c).trans ?_))
    exact congrArg (k0_pay38 (F := Ideal) (inputTile m c start)) (filled_eq m c 1024 inb_S1024x3840_S1024x512_0_1024)
  · exact (left14_later m c t h).trans ((View.read_writes_junk_eq_canon VO0_14 _).trans (later14_eq m c t h (weights m c)))

def result14 : FVec Ideal S18432x512 .bf16 :=
  Cert.Reference7Ideal.Read.val_main_v35 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem left14_at (i : Fin 256) (j : Fin 512) : (left14 m c t (ix2 i j) : EReal) = result14 m c (ix2 (rowNo t i) j) := by
  rw [left14_eq]
  refine (Cert.Proj.values_tile (inputTile m c t) _ i j).trans ?_
  refine (columns_at m c t 1024 inb_S1024x3840_S1024x512_0_1024 i j (by decide)).trans ?_
  exact (values_apply _ _ _ _ _ (rowNo t i) j).symm

theorem arr14_eq : (dats m 0 c).arrAt 14 cfg0.N = result14 m c := by
  refine (dats m 0 c).arrAt_eq_of_covers 14 _ (by decide +kernel) fun t hf y => ?_
  obtain ⟨i, j, rfl⟩ : ∃ (i : Fin 256) (j : Fin 512), y = ix2 i j := ⟨y 0, y 1, eq_ix2 y⟩
  have ht := (index_at t).2.2.2.2.2.1
  refine Eq.trans (b := left14 m c t (ix2 i j)) ?_ ((left14_at m c t i j).trans ?_)
  · exact congrFun (congrArg ((cfg0.win 14).cut (grid0.coords t)) (after_14 m c t)) _
  · refine congrArg (result14 m c) (funext fun a => Fin.ext ?_)
    match a with
    | ⟨0, _⟩ =>
      show 256 * t.val + i.val = _
      blk_simp [ht]
      omega
    | ⟨1, _⟩ => blk_simp [ht]

theorem later17_eq (h : ¬t.val % 72 = 0) (s : Vec Ideal S1024x3840 .bf16) : View.canon (runLater m c t h s).2.2.2.2.1
    = k0_pay42 (F := Ideal) (inputTile m c t) (View.ld s (Rect.unit ![0, 2560] S1024x512.size inb_S1024x3840_S1024x512_0_2560)) := by
  unfold runLater kernelRun0_B inputTile
  dsimp only
  sl_unfold_words
  refine (View.canon_cons_unit_lit' _ _ _ (by decide)).trans ?_
  simp (disch := decide +kernel) only [View.readAt_eq_ld, Memref.IsWhole.read_unread, View.ld_unit_lit']
  exact congrArg₂ (k0_pay42 (F := Ideal)) rfl (congrFun (congrArg View.ld (kept_read s)) _)

theorem first17_eq : View.canon (runFirst m c start rfl).2.2.2.2.1 = k0_pay42 (F := Ideal) (inputTile m c start)
    (VS0_1.readCov (scratchPieces m c) (Rect.unit (s := S1024x3840) ![0, 2560] S1024x512.size inb_S1024x3840_S1024x512_0_2560).toLoadRect) := by
  unfold scratchPieces runFirst kernelRun0_A inputTile
  dsimp only
  sl_unfold_words
  refine (View.canon_cons_unit_lit' _ _ _ (by decide)).trans ?_
  simp (disch := decide +kernel) only [View.readAt_eq_ld, Memref.IsWhole.read_unread, View.ld_unit_lit']

theorem left17_eq : left17 m c t = k0_pay42 (F := Ideal) (inputTile m c t)
    (View.ld (weights m c) (Rect.unit ![0, 2560] S1024x512.size inb_S1024x3840_S1024x512_0_2560)) := by
  by_cases h : t.val % 72 = 0
  · obtain rfl : t = start := Fin.ext (by have : t.val < 72 := t.isLt; show t.val = 0; omega)
    refine (left17_first m c start h).trans ((View.read_writes_junk_eq_canon VO0_17 _).trans ((first17_eq m c).trans ?_))
    exact congrArg (k0_pay42 (F := Ideal) (inputTile m c start)) (filled_eq m c 2560 inb_S1024x3840_S1024x512_0_2560)
  · exact (left17_later m c t h).trans ((View.read_writes_junk_eq_canon VO0_17 _).trans (later17_eq m c t h (weights m c)))

def result17 : FVec Ideal S18432x512 .bf16 :=
  Cert.Reference7Ideal.Read.val_main_v37 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem left17_at (i : Fin 256) (j : Fin 512) : (left17 m c t (ix2 i j) : EReal) = result17 m c (ix2 (rowNo t i) j) := by
  rw [left17_eq]
  refine (Cert.Proj.memories_tile (inputTile m c t) _ i j).trans ?_
  refine (columns_at m c t 2560 inb_S1024x3840_S1024x512_0_2560 i j (by decide)).trans ?_
  exact (memories_apply _ _ _ _ _ (rowNo t i) j).symm

theorem arr17_eq : (dats m 0 c).arrAt 17 cfg0.N = result17 m c := by
  refine (dats m 0 c).arrAt_eq_of_covers 17 _ (by decide +kernel) fun t hf y => ?_
  obtain ⟨i, j, rfl⟩ : ∃ (i : Fin 256) (j : Fin 512), y = ix2 i j := ⟨y 0, y 1, eq_ix2 y⟩
  have ht := (index_at t).2.2.2.2.2.2.1
  refine Eq.trans (b := left17 m c t (ix2 i j)) ?_ ((left17_at m c t i j).trans ?_)
  · exact congrFun (congrArg ((cfg0.win 17).cut (grid0.coords t)) (after_17 m c t)) _
  · refine congrArg (result17 m c) (funext fun a => Fin.ext ?_)
    match a with
    | ⟨0, _⟩ =>
      show 256 * t.val + i.val = _
      blk_simp [ht]
      omega
    | ⟨1, _⟩ => blk_simp [ht]

theorem later18_eq (h : ¬t.val % 72 = 0) (s : Vec Ideal S1024x3840 .bf16) : View.canon (runLater m c t h s).2.2.2.2.2.1
    = k0_pay46 (F := Ideal) (inputTile m c t) (View.ld s (Rect.unit ![0, 3072] S1024x512.size inb_S1024x3840_S1024x512_0_3072)) := by
  unfold runLater kernelRun0_B inputTile
  dsimp only
  sl_unfold_words
  refine (View.canon_cons_unit_lit' _ _ _ (by decide)).trans ?_
  simp (disch := decide +kernel) only [View.readAt_eq_ld, Memref.IsWhole.read_unread, View.ld_unit_lit']
  exact congrArg₂ (k0_pay46 (F := Ideal)) rfl (congrFun (congrArg View.ld (kept_read s)) _)

theorem first18_eq : View.canon (runFirst m c start rfl).2.2.2.2.2.1 = k0_pay46 (F := Ideal) (inputTile m c start)
    (VS0_1.readCov (scratchPieces m c) (Rect.unit (s := S1024x3840) ![0, 3072] S1024x512.size inb_S1024x3840_S1024x512_0_3072).toLoadRect) := by
  unfold scratchPieces runFirst kernelRun0_A inputTile
  dsimp only
  sl_unfold_words
  refine (View.canon_cons_unit_lit' _ _ _ (by decide)).trans ?_
  simp (disch := decide +kernel) only [View.readAt_eq_ld, Memref.IsWhole.read_unread, View.ld_unit_lit']

theorem left18_eq : left18 m c t = k0_pay46 (F := Ideal) (inputTile m c t)
    (View.ld (weights m c) (Rect.unit ![0, 3072] S1024x512.size inb_S1024x3840_S1024x512_0_3072)) := by
  by_cases h : t.val % 72 = 0
  · obtain rfl : t = start := Fin.ext (by have : t.val < 72 := t.isLt; show t.val = 0; omega)
    refine (left18_first m c start h).trans ((View.read_writes_junk_eq_canon VO0_18 _).trans ((first18_eq m c).trans ?_))
    exact congrArg (k0_pay46 (F := Ideal) (inputTile m c start)) (filled_eq m c 3072 inb_S1024x3840_S1024x512_0_3072)
  · exact (left18_later m c t h).trans ((View.read_writes_junk_eq_canon VO0_18 _).trans (later18_eq m c t h (weights m c)))

def result18 : FVec Ideal S18432x512 .f32 :=
  Cert.Reference7Ideal.Read.val_main_v38 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem left18_at (i : Fin 256) (j : Fin 512) : (left18 m c t (ix2 i j) : EReal) = result18 m c (ix2 (rowNo t i) j) := by
  rw [left18_eq]
  refine (Cert.Proj.outputs_tile (inputTile m c t) _ i j).trans ?_
  refine (columns_at m c t 3072 inb_S1024x3840_S1024x512_0_3072 i j (by decide)).trans ?_
  exact (outputs_apply _ _ _ _ _ (rowNo t i) j).symm

theorem arr18_eq : (dats m 0 c).arrAt 18 cfg0.N = result18 m c := by
  refine (dats m 0 c).arrAt_eq_of_covers 18 _ (by decide +kernel) fun t hf y => ?_
  obtain ⟨i, j, rfl⟩ : ∃ (i : Fin 256) (j : Fin 512), y = ix2 i j := ⟨y 0, y 1, eq_ix2 y⟩
  have ht := (index_at t).2.2.2.2.2.2.2
  refine Eq.trans (b := left18 m c t (ix2 i j)) ?_ ((left18_at m c t i j).trans ?_)
  · exact congrFun (congrArg ((cfg0.win 18).cut (grid0.coords t)) (after_18 m c t)) _
  · refine congrArg (result18 m c) (funext fun a => Fin.ext ?_)
    match a with
    | ⟨0, _⟩ =>
      show 256 * t.val + i.val = _
      blk_simp [ht]
      omega
    | ⟨1, _⟩ => blk_simp [ht]

end Cert.ProjZero

end
-- ==== Proof.ProjZeroClaims.lean ====
/- The claims of layer 0's input projection: its two programs and its reference run and keep their arguments, and at the extended reals its values, mLSTM values
   and mLSTM output gates are the reference's. -/
module

public import proofs.«01_k».proof.Defs
public import proofs.«01_k».proof.Proof.ProjZeroArray
public import proofs.«01_k».proof.Proof.Gen.Reference7Ideal.Run
public import Idealize.ShloMosaic.Adequacy
public import Idealize.ShloMosaic.Init

@[expose] public section

noncomputable section

namespace Cert.ProjZero

open Idealize.ShloMosaic Idealize.SL.Sem

theorem reference_frame : @Cert.quiescent_Reference7Ideal Cert.Reference7Ideal.Gen.facts := fun m g _ =>
  (θ_run _ _ _).mono (fun r h => ⟨fun c => (h c).2.2.2, Idealize.ShloMosaic.sem_eq_zero_of_no_sems (by decide) r.2⟩)
    (Cert.Reference7Ideal.Value.run m g)

theorem same_results : @Cert.algebraic_Kernel7Ideal_Reference7Ideal Cert.Kernel7Ideal.Gen.facts Cert.Reference7Ideal.Gen.facts := by
  intro m g m' g' _ hm
  refine ⟨fun c => result14 m c, fun c => result17 m c, fun c => result18 m c, ?_, ?_⟩
  · exact (θ_run _ _ _).mono (fun r h c => ⟨((h.2 c).1 14).trans (arr14_eq m c), ((h.2 c).1 17).trans (arr17_eq m c),
      ((h.2 c).1 18).trans (arr18_eq m c), h.1.1 c⟩) (θ_run_and (unchanged m g) (run_post m g))
  · refine (θ_run _ _ _).mono (fun r h c => ⟨(h c).1.trans ?_, (h c).2.1.trans ?_, (h c).2.2.1.trans ?_, (h c).2.2.2⟩)
      (Cert.Reference7Ideal.Value.run m' g')
    · obtain ⟨h0, h1, h2, h3, h4, -⟩ := hm c
      rw [Cert.Reference7Ideal.Read.val_main_v35_eq, h0, h1, h2, h3, h4]
      rfl
    · obtain ⟨h0, h1, h2, h3, h4, -⟩ := hm c
      rw [Cert.Reference7Ideal.Read.val_main_v37_eq, h0, h1, h2, h3, h4]
      rfl
    · obtain ⟨h0, h1, h2, h3, h4, -⟩ := hm c
      rw [Cert.Reference7Ideal.Read.val_main_v38_eq, h0, h1, h2, h3, h4]
      rfl

end Cert.ProjZero

end
-- ==== Proof.lean ====
/- The claims of the seven calls: the programs run and keep their arguments, and at the extended reals a kernel's
   result is its reference's. -/
module

public import proofs.«01_k».proof.Proof.Gen.Kernel7.Launch
public import proofs.«01_k».proof.Proof.Gen.Kernel7Ideal.Launch
public import proofs.«01_k».proof.Proof.Gen.Reference7Ideal.Run
public import proofs.«01_k».proof.Proof.Gen.Reference7Ideal.Read
public import proofs.«01_k».proof.Proof.Gen.Kernel6.Launch
public import proofs.«01_k».proof.Proof.Gen.Kernel6Ideal.Launch
public import proofs.«01_k».proof.Proof.Gen.Reference6Ideal.Run
public import proofs.«01_k».proof.Proof.Gen.Reference6Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.ExpertClaims
public import proofs.«01_k».proof.Proof.Gen.Kernel3.Frame
public import proofs.«01_k».proof.Proof.Gen.Kernel3Ideal.Frame
public import proofs.«01_k».proof.Proof.DenseClaims
public import proofs.«01_k».proof.Proof.ModulationClaims
public import proofs.«01_k».proof.Proof.RouterClaims
public import proofs.«01_k».proof.Proof.ProjClaims
public import proofs.«01_k».proof.Proof.ProjZeroClaims
public import proofs.«01_k».proof.Proof.ProjZeroFrameBits
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem Cert.Kernel

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, Idealize.ShloMosaic.sem_eq_zero_of_no_sems (by decide) r.2⟩) (Cert.ReferenceIdeal.Value.run m g)

theorem same_result : @Cert.algebraic_KernelIdeal_ReferenceIdeal_pre_finite_inputs Cert.KernelIdeal.Gen.facts Cert.ReferenceIdeal.Gen.facts
    Cert.Attn.finite_facts := by
  intro m g m' g' hp hm
  have hr : ∀ c : Dev Cert.KernelIdeal.nD, Cert.Attn.AllReal (m ((c.tc : Thread Cert.KernelIdeal.nD Cert.KernelIdeal.τ).loc Cert.KernelIdeal.main_arg0))
      ∧ Cert.Attn.AllReal (m ((c.tc : Thread Cert.KernelIdeal.nD Cert.KernelIdeal.τ).loc Cert.KernelIdeal.main_arg1))
      ∧ Cert.Attn.AllReal (m ((c.tc : Thread Cert.KernelIdeal.nD Cert.KernelIdeal.τ).loc Cert.KernelIdeal.main_arg2)) :=
    fun c => Cert.Attn.finite_real _ _ _ _ Cert.Attn.finite_facts (hp c)
  refine ⟨fun c => Cert.Attn.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run _ _ _).mono (fun r h c => ⟨(h c).1.trans (Cert.Attn.arrAt_eq m c (hr c).1 (hr c).2.1 (hr c).2.2), (h c).2⟩)
      (Cert.KernelIdeal.Value.run_blocks m g)
  · refine (θ_run _ _ _).mono (fun r h c => ⟨(h c).1.trans ?_, (h c).2⟩) (Cert.ReferenceIdeal.Value.run m' g')
    rw [Cert.ReferenceIdeal.Read.val_main_v56_eq, (hm c).1, (hm c).2.1, (hm c).2.2.1, (hm c).2.2.2]
    exact Cert.Attn.ref_eq_result _ _ _ _ (hr c).1 (hr c).2.1 (hr c).2.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Attn.finite_facts, Cert.Experts.tables_facts, Cert.Experts.inputs_facts,
    fun m g _ => Cert.Kernel.Gen.frame m g, fun m g _ => Cert.KernelIdeal.Gen.frame m g, fun m g _ => Cert.KernelIdeal.Gen.frame m g,
    fun m g _ => reference_frame m g, fun m g _ => reference_frame m g,
    Cert.Experts.kernel_frame, Cert.Experts.ideal_frame, Cert.Experts.ideal_frame_inputs,
    Cert.Experts.reference_frame, fun m g _ => Cert.Experts.reference_frame m g trivial,
    fun m g _ => Cert.Kernel3.Gen.frame m g, fun m g _ => Cert.Kernel3Ideal.Gen.frame m g, Cert.Dense.reference_frame,
    fun m g _ => Cert.Kernel4.Gen.frame m g, fun m g _ => Cert.Kernel4Ideal.Gen.frame m g, Cert.Modulation.reference_frame,
    fun m g _ => Cert.Kernel5.Gen.frame m g, fun m g _ => Cert.Kernel5Ideal.Gen.frame m g, Cert.Router.reference_frame,
    fun m g _ => Cert.ProjBits.unchanged m g, fun m g _ => Cert.Proj.unchanged m g, Cert.Proj.reference_frame,
    fun m g _ => Cert.ProjZeroBits.unchanged m g, fun m g _ => Cert.ProjZero.unchanged m g, Cert.ProjZero.reference_frame,
    trivial, same_result, trivial, Cert.Experts.same_result, trivial, Cert.Dense.same_result,
    trivial, Cert.Modulation.same_result, trivial, Cert.Router.same_results, trivial, Cert.Proj.same_results,
    trivial, Cert.ProjZero.same_results⟩

end Cert.Proof

end
